-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v37) = v0 c
          ∧ r.2.mem ((c.tc : Thread Cert.Reference10Ideal.nD Cert.Reference10Ideal.τ).loc Cert.Reference10Ideal.main_v45) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v30)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v30) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v54) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v28_0)) (v1 : (c : Dev Cert.Kernel13Ideal.nD) → Buf (Elt Ideal) ((c.tc : Thread Cert.Kernel13Ideal.nD Cert.Kernel13Ideal.τ).loc Cert.Kernel13Ideal.main_v28_1)) (v2 : (c : Dev Cert.Kernel13Ideal.nD) → Buf (Elt Ideal) ((c.tc : Thread Cert.Kernel13Ideal.nD Cert.Kernel13Ideal.τ).loc Cert.Kernel13Ideal.main_v28_2)) (v3 : (c : Dev Cert.Kernel13Ideal.nD) → Buf (Elt Ideal) ((c.tc : Thread Cert.Kernel13Ideal.nD Cert.Kernel13Ideal.τ).loc Cert.Kernel13Ideal.main_v28_3)) (v4 : (c : Dev Cert.Kernel13Ideal.nD) → Buf (Elt Ideal) ((c.tc : Thread Cert.Kernel13Ideal.nD Cert.Kernel13Ideal.τ).loc Cert.Kernel13Ideal.main_v28_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v28_0) = v0 c
          ∧ r.2.mem ((c.tc : Thread Cert.Kernel13Ideal.nD Cert.Kernel13Ideal.τ).loc Cert.Kernel13Ideal.main_v28_1) = v1 c
          ∧ r.2.mem ((c.tc : Thread Cert.Kernel13Ideal.nD Cert.Kernel13Ideal.τ).loc Cert.Kernel13Ideal.main_v28_2) = v2 c
          ∧ r.2.mem ((c.tc : Thread Cert.Kernel13Ideal.nD Cert.Kernel13Ideal.τ).loc Cert.Kernel13Ideal.main_v28_3) = v3 c
          ∧ r.2.mem ((c.tc : Thread Cert.Kernel13Ideal.nD Cert.Kernel13Ideal.τ).loc Cert.Kernel13Ideal.main_v28_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v105) = v0 c
          ∧ r.2.mem ((c.tc : Thread Cert.Reference13Ideal.nD Cert.Reference13Ideal.τ).loc Cert.Reference13Ideal.main_v106) = v1 c
          ∧ r.2.mem ((c.tc : Thread Cert.Reference13Ideal.nD Cert.Reference13Ideal.τ).loc Cert.Reference13Ideal.main_v107) = v2 c
          ∧ r.2.mem ((c.tc : Thread Cert.Reference13Ideal.nD Cert.Reference13Ideal.τ).loc Cert.Reference13Ideal.main_v108) = v3 c
          ∧ r.2.mem ((c.tc : Thread Cert.Reference13Ideal.nD Cert.Reference13Ideal.τ).loc Cert.Reference13Ideal.main_v109) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
-- ==== Kernel.lean ====
abbrev S4x16384x2048 : Shape := ⟨3, ![4, 16384, 2048]⟩
abbrev S16384x96 : Shape := ⟨2, ![16384, 96]⟩
abbrev S2048 : Shape := ⟨1, ![2048]⟩
abbrev S96x2048 : Shape := ⟨2, ![96, 2048]⟩
abbrev S32x64 : Shape := ⟨2, ![32, 64]⟩
abbrev S_ : Shape := ⟨0, ![]⟩
abbrev S16384x128 : Shape := ⟨2, ![16384, 128]⟩
abbrev S1x16384x128 : Shape := ⟨3, ![1, 16384, 128]⟩
abbrev S2x16384x128 : Shape := ⟨3, ![2, 16384, 128]⟩
abbrev S128x2048 : Shape := ⟨2, ![128, 2048]⟩
abbrev S1x128x2048 : Shape := ⟨3, ![1, 128, 2048]⟩
abbrev S2x128x2048 : Shape := ⟨3, ![2, 128, 2048]⟩
abbrev S1x2048 : Shape := ⟨2, ![1, 2048]⟩
abbrev S1x1x2048 : Shape := ⟨3, ![1, 1, 2048]⟩
abbrev S2x1x2048 : Shape := ⟨3, ![2, 1, 2048]⟩
abbrev S16384x2048 : Shape := ⟨2, ![16384, 2048]⟩
abbrev S1x256x2048 : Shape := ⟨3, ![1, 256, 2048]⟩
abbrev S2x256x128 : Shape := ⟨3, ![2, 256, 128]⟩
abbrev S256x2048 : Shape := ⟨2, ![256, 2048]⟩
abbrev S8x256x256 : Shape := ⟨3, ![8, 256, 256]⟩
abbrev S256x256 : Shape := ⟨2, ![256, 256]⟩
abbrev S64x64 : Shape := ⟨2, ![64, 64]⟩
abbrev S64x256 : Shape := ⟨2, ![64, 256]⟩
abbrev S1x64x128 : Shape := ⟨3, ![1, 64, 128]⟩
abbrev S64x128 : Shape := ⟨2, ![64, 128]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S1x64x256 : Shape := ⟨3, ![1, 64, 256]⟩
abbrev S1x256x256 : Shape := ⟨3, ![1, 256, 256]⟩

abbrev nBuf : Space → Nat
  | .hbm => 44
  | .vmem => 20
  | .smem => 0
  | _ => 0

abbrev bufTy : (tb : Table) → Fin (tcTables nBuf tb) → BufTy
  | .hbm, ⟨0, _⟩ => ⟨S4x16384x2048, .f32⟩
  | .hbm, ⟨1, _⟩ => ⟨S16384x96, .f32⟩
  | .hbm, ⟨2, _⟩ => ⟨S16384x96, .f32⟩
  | .hbm, ⟨3, _⟩ => ⟨S2048, .f32⟩
  | .hbm, ⟨4, _⟩ => ⟨S96x2048, .f32⟩
  | .hbm, ⟨5, _⟩ => ⟨S2048, .f32⟩
  | .hbm, ⟨6, _⟩ => ⟨S96x2048, .f32⟩
  | .hbm, ⟨7, _⟩ => ⟨S2048, .f32⟩
  | .hbm, ⟨8, _⟩ => ⟨S2048, .f32⟩
  | .hbm, ⟨9, _⟩ => ⟨S32x64, .f32⟩
  | .hbm, ⟨10, _⟩ => ⟨S2048, .f32⟩
  | .hbm, ⟨11, _⟩ => ⟨S2048, .f32⟩
  | .hbm, ⟨12, _⟩ => ⟨S_, .i32⟩
  | .hbm, ⟨13, _⟩ => ⟨S_, .f32⟩
  | .hbm, ⟨14, _⟩ => ⟨S16384x128, .f32⟩
  | .hbm, ⟨15, _⟩ => ⟨S_, .i32⟩
  | .hbm, ⟨16, _⟩ => ⟨S_, .f32⟩
  | .hbm, ⟨17, _⟩ => ⟨S16384x128, .f32⟩
  | .hbm, ⟨18, _⟩ => ⟨S1x16384x128, .f32⟩
  | .hbm, ⟨19, _⟩ => ⟨S1x16384x128, .f32⟩
  | .hbm, ⟨20, _⟩ => ⟨S2x16384x128, .f32⟩
  | .hbm, ⟨21, _⟩ => ⟨S2x16384x128, .bf16⟩
  | .hbm, ⟨22, _⟩ => ⟨S_, .i32⟩
  | .hbm, ⟨23, _⟩ => ⟨S_, .f32⟩
  | .hbm, ⟨24, _⟩ => ⟨S128x2048, .f32⟩
  | .hbm, ⟨25, _⟩ => ⟨S_, .i32⟩
  | .hbm, ⟨26, _⟩ => ⟨S_, .f32⟩
  | .hbm, ⟨27, _⟩ => ⟨S128x2048, .f32⟩
  | .hbm, ⟨28, _⟩ => ⟨S1x128x2048, .f32⟩
  | .hbm, ⟨29, _⟩ => ⟨S1x128x2048, .f32⟩
  | .hbm, ⟨30, _⟩ => ⟨S2x128x2048, .f32⟩
  | .hbm, ⟨31, _⟩ => ⟨S2x128x2048, .bf16⟩
  | .hbm, ⟨32, _⟩ => ⟨S1x2048, .f32⟩
  | .hbm, ⟨33, _⟩ => ⟨S1x2048, .f32⟩
  | .hbm, ⟨34, _⟩ => ⟨S1x1x2048, .f32⟩
  | .hbm, ⟨35, _⟩ => ⟨S1x1x2048, .f32⟩
  | .hbm, ⟨36, _⟩ => ⟨S2x1x2048, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S16384x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S2x256x128, .bf16⟩
  | .local _ .vmem, ⟨9, _⟩ => ⟨S2x256x128, .bf16⟩
  | .local _ .vmem, ⟨10, _⟩ => ⟨S2x128x2048, .bf16⟩
  | .local _ .vmem, ⟨11, _⟩ => ⟨S2x1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .bf16⟩
  | .local _ .vmem, ⟨18, _⟩ => ⟨S256x2048, .bf16⟩
  | .local _ .vmem, ⟨19, _⟩ => ⟨S8x256x256, .f32⟩
  | _, _ => ⟨S4x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_v6 : Ref sig .tc := ⟨.hbm, 24, rfl⟩
abbrev main_c_2 : Ref sig .tc := ⟨.hbm, 25, rfl⟩
abbrev main_call3_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let c0_i32 : BitVec 32 := 0#32
  ![c1_i32.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let c0_i32 : BitVec 32 := 0#32
  ![c2_i32.toNat, v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let c0_i32 : BitVec 32 := 0#32
  ![c3_i32.toNat, v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S2x128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S2x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S4x16384x2048 : Shape := ⟨3, ![4, 16384, 2048]⟩
abbrev S16384x96 : Shape := ⟨2, ![16384, 96]⟩
abbrev S2048 : Shape := ⟨1, ![2048]⟩
abbrev S96x2048 : Shape := ⟨2, ![96, 2048]⟩
abbrev S32x64 : Shape := ⟨2, ![32, 64]⟩
abbrev S4x4x4096x2048 : Shape := ⟨4, ![4, 4, 4096, 2048]⟩
abbrev S1x4x4096x2048 : Shape := ⟨4, ![1, 4, 4096, 2048]⟩
abbrev S4x4096x2048 : Shape := ⟨3, ![4, 4096, 2048]⟩
abbrev S16384x2048 : Shape := ⟨2, ![16384, 2048]⟩
abbrev S1x1x2048 : Shape := ⟨3, ![1, 1, 2048]⟩
abbrev S_ : Shape := ⟨0, ![]⟩
abbrev S4x4096x32x64 : Shape := ⟨4, ![4, 4096, 32, 64]⟩
abbrev S4x4096x32 : Shape := ⟨3, ![4, 4096, 32]⟩
abbrev S4x4096x32x1 : Shape := ⟨4, ![4, 4096, 32, 1]⟩
abbrev S4096x4x32x64 : Shape := ⟨4, ![4096, 4, 32, 64]⟩
abbrev S4x32x64x64 : Shape := ⟨4, ![4, 32, 64, 64]⟩
abbrev S1x4x32x64 : Shape := ⟨4, ![1, 4, 32, 64]⟩
abbrev S4x32x64 : Shape := ⟨3, ![4, 32, 64]⟩
abbrev S4x32x1x64 : Shape := ⟨4, ![4, 32, 1, 64]⟩
abbrev S4x32x64x1 : Shape := ⟨4, ![4, 32, 64, 1]⟩
abbrev S1x1x32x64 : Shape := ⟨4, ![1, 1, 32, 64]⟩

abbrev nBuf : Space → Nat
  | .hbm => 301
  | .vmem => 0
  | .smem => 0
  | _ => 0

abbrev hbmTy0_0 (i : Nat) : BufTy := match i % 128 with
  | 0 => ⟨S4x16384x2048, .f32⟩
  | 1 => ⟨S16384x96, .f32⟩
  | 2 => ⟨S16384x96, .f32⟩
  | 3 => ⟨S2048, .f32⟩
  | 4 => ⟨S96x2048, .f32⟩
  | 5 => ⟨S2048, .f32⟩
  | 6 => ⟨S96x2048, .f32⟩
  | 7 => ⟨S2048, .f32⟩
  | 8 => ⟨S2048, .f32⟩
  | 9 => ⟨S32x64, .f32⟩
  | 10 => ⟨S2048, .f32⟩
  | 11 => ⟨S2048, .f32⟩
  | 12 => ⟨S4x4x4096x2048, .f32⟩
  | 13 => ⟨S1x4x4096x2048, .f32⟩
  | 14 => ⟨S4x4096x2048, .f32⟩
  | 15 => ⟨S1x4x4096x2048, .f32⟩
  | 16 => ⟨S4x4096x2048, .f32⟩
  | 17 => ⟨S1x4x4096x2048, .f32⟩
  | 18 => ⟨S4x4096x2048, .f32⟩
  | 19 => ⟨S16384x2048, .f32⟩
  | 20 => ⟨S4x4096x2048, .f32⟩
  | 21 => ⟨S1x1x2048, .f32⟩
  | 22 => ⟨S4x4096x2048, .f32⟩
  | 23 => ⟨S4x4096x2048, .f32⟩
  | 24 => ⟨S4x4096x2048, .f32⟩
  | 25 => ⟨S_, .f32⟩
  | 26 => ⟨S4x4096x2048, .f32⟩
  | 27 => ⟨S4x4096x2048, .f32⟩
  | 28 => ⟨S4x4096x2048, .f32⟩
  | 29 => ⟨S4x4096x2048, .f32⟩
  | 30 => ⟨S4x4096x2048, .i1⟩
  | 31 => ⟨S4x4096x2048, .f32⟩
  | 32 => ⟨S4x4096x2048, .f32⟩
  | 33 => ⟨S4x4096x2048, .f32⟩
  | 34 => ⟨S4x4096x2048, .f32⟩
  | 35 => ⟨S4x4096x2048, .f32⟩
  | 36 => ⟨S4x4096x2048, .f32⟩
  | 37 => ⟨S4x4096x2048, .f32⟩
  | 38 => ⟨S4x4096x2048, .f32⟩
  | 39 => ⟨S4x4096x2048, .f32⟩
  | 40 => ⟨S4x4096x2048, .f32⟩
  | 41 => ⟨S_, .f32⟩
  | 42 => ⟨S4x4096x2048, .f32⟩
  | 43 => ⟨S4x4096x2048, .f32⟩
  | 44 => ⟨S4x4096x2048, .f32⟩
  | 45 => ⟨S4x4096x2048, .f32⟩
  | 46 => ⟨S16384x2048, .f32⟩
  | 47 => ⟨S4x4096x2048, .f32⟩
  | 48 => ⟨S1x1x2048, .f32⟩
  | 49 => ⟨S4x4096x2048, .f32⟩
  | 50 => ⟨S4x4096x2048, .f32⟩
  | 51 => ⟨S4x4096x2048, .f32⟩
  | 52 => ⟨S4x4096x2048, .f32⟩
  | 53 => ⟨S_, .f32⟩
  | 54 => ⟨S4x4096x2048, .f32⟩
  | 55 => ⟨S4x4096x2048, .f32⟩
  | 56 => ⟨S_, .f32⟩
  | 57 => ⟨S4x4096x2048, .f32⟩
  | 58 => ⟨S4x4096x2048, .f32⟩
  | 59 => ⟨S1x1x2048, .f32⟩
  | 60 => ⟨S4x4096x2048, .f32⟩
  | 61 => ⟨S4x4096x2048, .f32⟩
  | 62 => ⟨S4x4096x32x64, .f32⟩
  | 63 => ⟨S4x4096x32x64, .f32⟩
  | 64 => ⟨S_, .f32⟩
  | 65 => ⟨S4x4096x32, .f32⟩
  | 66 => ⟨S4x4096x32x1, .f32⟩
  | 67 => ⟨S4x4096x32x1, .f32⟩
  | 68 => ⟨S_, .f32⟩
  | 69 => ⟨S4x4096x32x1, .f32⟩
  | 70 => ⟨S4x4096x32x1, .f32⟩
  | 71 => ⟨S4x4096x32x64, .f32⟩
  | 72 => ⟨S4x4096x32x64, .f32⟩
  | 73 => ⟨S_, .f32⟩
  | 74 => ⟨S4x4096x2048, .f32⟩
  | 75 => ⟨S4x4096x2048, .f32⟩
  | 76 => ⟨S1x1x2048, .f32⟩
  | 77 => ⟨S4x4096x2048, .f32⟩
  | 78 => ⟨S4x4096x2048, .f32⟩
  | 79 => ⟨S_, .f32⟩
  | 80 => ⟨S4x4096x2048, .f32⟩
  | 81 => ⟨S4x4096x2048, .f32⟩
  | 82 => ⟨S4x4096x2048, .f32⟩
  | 83 => ⟨S4x4096x32x64, .f32⟩
  | 84 => ⟨S4x4096x32x64, .f32⟩
  | 85 => ⟨S4x4096x32x64, .f32⟩
  | 86 => ⟨S4x4096x32x64, .f32⟩
  | 87 => ⟨S4x4096x32x64, .f32⟩
  | 88 => ⟨S4x4096x32x64, .f32⟩
  | 89 => ⟨S4x4096x32x64, .f32⟩
  | 90 => ⟨S4096x4x32x64, .f32⟩
  | 91 => ⟨S4096x4x32x64, .f32⟩
  | 92 => ⟨S4096x4x32x64, .f32⟩
  | 93 => ⟨S4096x4x32x64, .f32⟩
  | 94 => ⟨S4096x4x32x64, .f32⟩
  | 95 => ⟨S4096x4x32x64, .f32⟩
  | 96 => ⟨S_, .f32⟩
  | 97 => ⟨S4x32x64x64, .f32⟩
  | 98 => ⟨S_, .f32⟩
  | 99 => ⟨S4096x4x32x64, .f32⟩
  | 100 => ⟨S_, .i32⟩
  | 101 => ⟨S4096x4x32x64, .f32⟩
  | 102 => ⟨S4096x4x32x64, .f32⟩
  | 103 => ⟨S4096x4x32x64, .f32⟩
  | 104 => ⟨S4096x4x32x64, .f32⟩
  | 105 => ⟨S4096x4x32x64, .f32⟩
  | 106 => ⟨S4096x4x32x64, .f32⟩
  | 107 => ⟨S_, .i32⟩
  | 108 => ⟨S4x32x64x64, .f32⟩
  | 109 => ⟨S4096x4x32x64, .f32⟩
  | 110 => ⟨S_, .i32⟩
  | 111 => ⟨S_, .i1⟩
  | 112 => ⟨S_, .i32⟩
  | 113 => ⟨S_, .i32⟩
  | 114 => ⟨S_, .i32⟩
  | 115 => ⟨S1x4x32x64, .f32⟩
  | 116 => ⟨S4x32x64, .f32⟩
  | 117 => ⟨S_, .i32⟩
  | 118 => ⟨S_, .i32⟩
  | 119 => ⟨S_, .i32⟩
  | 120 => ⟨S1x4x32x64, .f32⟩
  | 121 => ⟨S4x32x64, .f32⟩
  | 122 => ⟨S_, .i32⟩
  | 123 => ⟨S_, .i32⟩
  | 124 => ⟨S_, .i32⟩
  | 125 => ⟨S1x4x32x64, .f32⟩
  | 126 => ⟨S4x32x64, .f32⟩
  | 127 => ⟨S_, .i32⟩
  | _ => ⟨S4x16384x2048, .f32⟩

abbrev hbmTy0_1 (i : Nat) : BufTy := match i % 128 with
  | 0 => ⟨S_, .i32⟩
  | 1 => ⟨S_, .i32⟩
  | 2 => ⟨S1x4x32x64, .f32⟩
  | 3 => ⟨S4x32x64, .f32⟩
  | 4 => ⟨S_, .i32⟩
  | 5 => ⟨S_, .i32⟩
  | 6 => ⟨S_, .i32⟩
  | 7 => ⟨S1x4x32x64, .f32⟩
  | 8 => ⟨S4x32x64, .f32⟩
  | 9 => ⟨S_, .i32⟩
  | 10 => ⟨S_, .i32⟩
  | 11 => ⟨S_, .i32⟩
  | 12 => ⟨S1x4x32x64, .f32⟩
  | 13 => ⟨S4x32x64, .f32⟩
  | 14 => ⟨S4x32x64, .f32⟩
  | 15 => ⟨S4x32x1x64, .f32⟩
  | 16 => ⟨S4x32x64x64, .f32⟩
  | 17 => ⟨S4x32x64x64, .f32⟩
  | 18 => ⟨S4x32x64x1, .f32⟩
  | 19 => ⟨S4x32x1x64, .f32⟩
  | 20 => ⟨S4x32x64x64, .f32⟩
  | 21 => ⟨S4x32x64x64, .f32⟩
  | 22 => ⟨S4x32x64x64, .f32⟩
  | 23 => ⟨S4x32x64x64, .f32⟩
  | 24 => ⟨S4x32x64x1, .f32⟩
  | 25 => ⟨S4x32x1x64, .f32⟩
  | 26 => ⟨S4x32x64x64, .f32⟩
  | 27 => ⟨S4x32x64x64, .f32⟩
  | 28 => ⟨S4x32x64x64, .f32⟩
  | 29 => ⟨S4x32x64x64, .f32⟩
  | 30 => ⟨S4x32x64, .f32⟩
  | 31 => ⟨S1x4x32x64, .f32⟩
  | 32 => ⟨S_, .i32⟩
  | 33 => ⟨S_, .i32⟩
  | 34 => ⟨S_, .i32⟩
  | 35 => ⟨S4096x4x32x64, .f32⟩
  | 36 => ⟨S_, .i32⟩
  | 37 => ⟨S_, .i32⟩
  | 38 => ⟨S4x4096x32x64, .f32⟩
  | 39 => ⟨S_, .f32⟩
  | 40 => ⟨S4x4096x32, .f32⟩
  | 41 => ⟨S4x4096x32x1, .f32⟩
  | 42 => ⟨S_, .f32⟩
  | 43 => ⟨S4x4096x32x1, .f32⟩
  | 44 => ⟨S4x4096x32x1, .f32⟩
  | 45 => ⟨S4x4096x32x64, .f32⟩
  | 46 => ⟨S4x4096x32x64, .f32⟩
  | 47 => ⟨S4x4096x32x64, .f32⟩
  | 48 => ⟨S_, .f32⟩
  | 49 => ⟨S4x4096x32, .f32⟩
  | 50 => ⟨S4x4096x32x1, .f32⟩
  | 51 => ⟨S_, .f32⟩
  | 52 => ⟨S4x4096x32x1, .f32⟩
  | 53 => ⟨S4x4096x32x1, .f32⟩
  | 54 => ⟨S4x4096x32x64, .f32⟩
  | 55 => ⟨S4x4096x32x64, .f32⟩
  | 56 => ⟨S_, .f32⟩
  | 57 => ⟨S4x4096x32x1, .f32⟩
  | 58 => ⟨S4x4096x32x1, .f32⟩
  | 59 => ⟨S4x4096x32x1, .f32⟩
  | 60 => ⟨S4x4096x32x64, .f32⟩
  | 61 => ⟨S4x4096x32x64, .f32⟩
  | 62 => ⟨S4x4096x2048, .f32⟩
  | 63 => ⟨S1x1x2048, .f32⟩
  | 64 => ⟨S4x4096x2048, .f32⟩
  | 65 => ⟨S4x4096x2048, .f32⟩
  | 66 => ⟨S1x1x2048, .f32⟩
  | 67 => ⟨S4x4096x2048, .f32⟩
  | 68 => ⟨S4x4096x2048, .f32⟩
  | 69 => ⟨S4x4x4096x2048, .f32⟩
  | 70 => ⟨S1x4x4096x2048, .f32⟩
  | 71 => ⟨S4x4096x2048, .f32⟩
  | 72 => ⟨S1x4x4096x2048, .f32⟩
  | 73 => ⟨S4x4096x2048, .f32⟩
  | 74 => ⟨S1x4x4096x2048, .f32⟩
  | 75 => ⟨S4x4096x2048, .f32⟩
  | 76 => ⟨S16384x2048, .f32⟩
  | 77 => ⟨S4x4096x2048, .f32⟩
  | 78 => ⟨S1x1x2048, .f32⟩
  | 79 => ⟨S4x4096x2048, .f32⟩
  | 80 => ⟨S4x4096x2048, .f32⟩
  | 81 => ⟨S4x4096x2048, .f32⟩
  | 82 => ⟨S_, .f32⟩
  | 83 => ⟨S4x4096x2048, .f32⟩
  | 84 => ⟨S4x4096x2048, .f32⟩
  | 85 => ⟨S4x4096x2048, .f32⟩
  | 86 => ⟨S4x4096x2048, .f32⟩
  | 87 => ⟨S4x4096x2048, .i1⟩
  | 88 => ⟨S4x4096x2048, .f32⟩
  | 89 => ⟨S4x4096x2048, .f32⟩
  | 90 => ⟨S4x4096x2048, .f32⟩
  | 91 => ⟨S4x4096x2048, .f32⟩
  | 92 => ⟨S4x4096x2048, .f32⟩
  | 93 => ⟨S4x4096x2048, .f32⟩
  | 94 => ⟨S4x4096x2048, .f32⟩
  | 95 => ⟨S4x4096x2048, .f32⟩
  | 96 => ⟨S4x4096x2048, .f32⟩
  | 97 => ⟨S4x4096x2048, .f32⟩
  | 98 => ⟨S_, .f32⟩
  | 99 => ⟨S4x4096x2048, .f32⟩
  | 100 => ⟨S4x4096x2048, .f32⟩
  | 101 => ⟨S4x4096x2048, .f32⟩
  | 102 => ⟨S4x4096x2048, .f32⟩
  | 103 => ⟨S16384x2048, .f32⟩
  | 104 => ⟨S4x4096x2048, .f32⟩
  | 105 => ⟨S1x1x2048, .f32⟩
  | 106 => ⟨S4x4096x2048, .f32⟩
  | 107 => ⟨S4x4096x2048, .f32⟩
  | 108 => ⟨S4x4096x2048, .f32⟩
  | 109 => ⟨S4x4096x2048, .f32⟩
  | 110 => ⟨S_, .f32⟩
  | 111 => ⟨S4x4096x2048, .f32⟩
  | 112 => ⟨S4x4096x2048, .f32⟩
  | 113 => ⟨S_, .f32⟩
  | 114 => ⟨S4x4096x2048, .f32⟩
  | 115 => ⟨S4x4096x2048, .f32⟩
  | 116 => ⟨S1x1x2048, .f32⟩
  | 117 => ⟨S4x4096x2048, .f32⟩
  | 118 => ⟨S4x4096x2048, .f32⟩
  | 119 => ⟨S4x4096x32x64, .f32⟩
  | 120 => ⟨S4x4096x32x64, .f32⟩
  | 121 => ⟨S_, .f32⟩
  | 122 => ⟨S4x4096x32, .f32⟩
  | 123 => ⟨S4x4096x32x1, .f32⟩
  | 124 => ⟨S4x4096x32x1, .f32⟩
  | 125 => ⟨S_, .f32⟩
  | 126 => ⟨S4x4096x32x1, .f32⟩
  | 127 => ⟨S4x4096x32x1, .f32⟩
  | _ => ⟨S4x16384x2048, .f32⟩

abbrev hbmTy0_2 (i : Nat) : BufTy := match i % 128 with
  | 0 => ⟨S4x4096x32x64, .f32⟩
  | 1 => ⟨S4x4096x32x64, .f32⟩
  | 2 => ⟨S_, .f32⟩
  | 3 => ⟨S4x4096x2048, .f32⟩
  | 4 => ⟨S4x4096x2048, .f32⟩
  | 5 => ⟨S1x1x2048, .f32⟩
  | 6 => ⟨S4x4096x2048, .f32⟩
  | 7 => ⟨S4x4096x2048, .f32⟩
  | 8 => ⟨S_, .f32⟩
  | 9 => ⟨S4x4096x2048, .f32⟩
  | 10 => ⟨S4x4096x2048, .f32⟩
  | 11 => ⟨S4x4096x2048, .f32⟩
  | 12 => ⟨S4x4096x32x64, .f32⟩
  | 13 => ⟨S4x4096x32x64, .f32⟩
  | 14 => ⟨S4x4096x32x64, .f32⟩
  | 15 => ⟨S4x4096x32x64, .f32⟩
  | 16 => ⟨S4x4096x32x64, .f32⟩
  | 17 => ⟨S4x4096x32x64, .f32⟩
  | 18 => ⟨S4x4096x32x64, .f32⟩
  | 19 => ⟨S4x4096x32x64, .f32⟩
  | 20 => ⟨S1x1x32x64, .f32⟩
  | 21 => ⟨S4x4096x32x64, .f32⟩
  | 22 => ⟨S4x4096x32x64, .f32⟩
  | 23 => ⟨S_, .f32⟩
  | 24 => ⟨S4x4096x32, .f32⟩
  | 25 => ⟨S4x4096x32x1, .f32⟩
  | 26 => ⟨S4x4096x32x64, .f32⟩
  | 27 => ⟨S4x4096x32x64, .f32⟩
  | 28 => ⟨S4x4x4096x2048, .f32⟩
  | 29 => ⟨S1x4x4096x2048, .f32⟩
  | 30 => ⟨S4x4096x2048, .f32⟩
  | 31 => ⟨S4x4096x2048, .f32⟩
  | 32 => ⟨S4x4096x2048, .f32⟩
  | 33 => ⟨S4x4096x2048, .f32⟩
  | 34 => ⟨S4x4096x2048, .f32⟩
  | 35 => ⟨S_, .f32⟩
  | 36 => ⟨S4x4096x2048, .f32⟩
  | 37 => ⟨S4x4096x2048, .f32⟩
  | 38 => ⟨S_, .f32⟩
  | 39 => ⟨S4x4096x2048, .f32⟩
  | 40 => ⟨S4x4096x2048, .f32⟩
  | 41 => ⟨S4x4096x2048, .f32⟩
  | 42 => ⟨S4x4096x2048, .f32⟩
  | 43 => ⟨S16384x2048, .f32⟩
  | 44 => ⟨S16384x2048, .bf16⟩
  | _ => ⟨S4x16384x2048, .f32⟩

abbrev hbmTy (i : Nat) : BufTy := match i / 128 with
  | 0 => hbmTy0_0 i
  | 1 => hbmTy0_1 i
  | 2 => hbmTy0_2 i
  | _ => ⟨S4x16384x2048, .f32⟩

abbrev bufTy : (tb : Table) → Fin (tcTables nBuf tb) → BufTy
  | .hbm, ⟨i, _⟩ => hbmTy i
  | _, _ => ⟨S4x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_0 : Ref sig .tc := ⟨.hbm, 53, rfl⟩
abbrev main_v27 : Ref sig .tc := ⟨.hbm, 54, rfl⟩
abbrev main_v28 : Ref sig .tc := ⟨.hbm, 55, rfl⟩
abbrev main_cst_1 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_cst_7 : Ref sig .tc := ⟨.hbm, 98, rfl⟩
abbrev main_v65 : Ref sig .tc := ⟨.hbm, 99, rfl⟩
abbrev main_c : Ref sig .tc := ⟨.hbm, 100, rfl⟩
abbrev main_v66_0 : Ref sig .tc := ⟨.hbm, 101, rfl⟩
abbrev main_v66_1 : Ref sig .tc := ⟨.hbm, 102, rfl⟩
abbrev main_v66_2 : Ref sig .tc := ⟨.hbm, 103, rfl⟩
abbrev main_v66_3 : Ref sig .tc := ⟨.hbm, 104, rfl⟩
abbrev main_v66_4 : Ref sig .tc := ⟨.hbm, 105, rfl⟩
abbrev main_v66_5 : Ref sig .tc := ⟨.hbm, 106, rfl⟩
abbrev main_v66_6 : Ref sig .tc := ⟨.hbm, 107, rfl⟩
abbrev main_v66_7 : Ref sig .tc := ⟨.hbm, 108, rfl⟩
abbrev main_v66_8 : Ref sig .tc := ⟨.hbm, 109, rfl⟩
abbrev main_while0c_c_29 : Ref sig .tc := ⟨.hbm, 110, rfl⟩
abbrev main_while0c_v168 : Ref sig .tc := ⟨.hbm, 111, rfl⟩
abbrev main_while0b_call1_c : Ref sig .tc := ⟨.hbm, 112, rfl⟩
abbrev main_while0b_call1_c_0 : Ref sig .tc := ⟨.hbm, 113, rfl⟩
abbrev main_while0b_call1_c_1 : Ref sig .tc := ⟨.hbm, 114, rfl⟩
abbrev main_while0b_call1_v0 : Ref sig .tc := ⟨.hbm, 115, rfl⟩
abbrev main_while0b_v168 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_c_1 : Ref sig .tc := ⟨.hbm, 119, rfl⟩
abbrev main_while0b_call2_v0 : Ref sig .tc := ⟨.hbm, 120, rfl⟩
abbrev main_while0b_v169 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_c_1 : Ref sig .tc := ⟨.hbm, 124, rfl⟩
abbrev main_while0b_call3_v0 : Ref sig .tc := ⟨.hbm, 125, rfl⟩
abbrev main_while0b_v170 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_c_1 : Ref sig .tc := ⟨.hbm, 129, rfl⟩
abbrev main_while0b_call4_v0 : Ref sig .tc := ⟨.hbm, 130, rfl⟩
abbrev main_while0b_v171 : Ref sig .tc := ⟨.hbm, 131, rfl⟩
abbrev main_while0b_call5_c : Ref sig .tc := ⟨.hbm, 132, rfl⟩
abbrev main_while0b_call5_c_0 : Ref sig .tc := ⟨.hbm, 133, rfl⟩
abbrev main_while0b_call5_c_1 : Ref sig .tc := ⟨.hbm, 134, rfl⟩
abbrev main_while0b_call5_v0 : Ref sig .tc := ⟨.hbm, 135, rfl⟩
abbrev main_while0b_v172 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_v0 : Ref sig .tc := ⟨.hbm, 140, rfl⟩
abbrev main_while0b_v173 : Ref sig .tc := ⟨.hbm, 141, rfl⟩
abbrev main_while0b_v174 : Ref sig .tc := ⟨.hbm, 142, rfl⟩
abbrev main_while0b_v175 : Ref sig .tc := ⟨.hbm, 143, rfl⟩
abbrev main_while0b_v176 : Ref sig .tc := ⟨.hbm, 144, rfl⟩
abbrev main_while0b_v177 : Ref sig .tc := ⟨.hbm, 145, rfl⟩
abbrev main_while0b_v178 : Ref sig .tc := ⟨.hbm, 146, rfl⟩
abbrev main_while0b_v179 : Ref sig .tc := ⟨.hbm, 147, rfl⟩
abbrev main_while0b_v180 : Ref sig .tc := ⟨.hbm, 148, rfl⟩
abbrev main_while0b_v181 : Ref sig .tc := ⟨.hbm, 149, rfl⟩
abbrev main_while0b_v182 : Ref sig .tc := ⟨.hbm, 150, rfl⟩
abbrev main_while0b_v183 : Ref sig .tc := ⟨.hbm, 151, rfl⟩
abbrev main_while0b_v184 : Ref sig .tc := ⟨.hbm, 152, rfl⟩
abbrev main_while0b_v185 : Ref sig .tc := ⟨.hbm, 153, rfl⟩
abbrev main_while0b_v186 : Ref sig .tc := ⟨.hbm, 154, rfl⟩
abbrev main_while0b_v187 : Ref sig .tc := ⟨.hbm, 155, rfl⟩
abbrev main_while0b_v188 : Ref sig .tc := ⟨.hbm, 156, rfl⟩
abbrev main_while0b_v189 : Ref sig .tc := ⟨.hbm, 157, rfl⟩
abbrev main_while0b_v190 : Ref sig .tc := ⟨.hbm, 158, rfl⟩
abbrev main_while0b_call7_v0 : Ref sig .tc := ⟨.hbm, 159, rfl⟩
abbrev main_while0b_call7_c : Ref sig .tc := ⟨.hbm, 160, rfl⟩
abbrev main_while0b_call7_c_0 : Ref sig .tc := ⟨.hbm, 161, rfl⟩
abbrev main_while0b_call7_c_1 : Ref sig .tc := ⟨.hbm, 162, rfl⟩
abbrev main_while0b_v191 : Ref sig .tc := ⟨.hbm, 163, rfl⟩
abbrev main_while0b_c_29 : Ref sig .tc := ⟨.hbm, 164, rfl⟩
abbrev main_while0b_v192 : Ref sig .tc := ⟨.hbm, 165, rfl⟩
abbrev main_v67 : Ref sig .tc := ⟨.hbm, 166, rfl⟩
abbrev main_cst_8 : Ref sig .tc := ⟨.hbm, 167, rfl⟩
abbrev main_v68 : Ref sig .tc := ⟨.hbm, 168, rfl⟩
abbrev main_v69 : Ref sig .tc := ⟨.hbm, 169, rfl⟩
abbrev main_cst_9 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_cst_10 : Ref sig .tc := ⟨.hbm, 176, rfl⟩
abbrev main_v75 : Ref sig .tc := ⟨.hbm, 177, rfl⟩
abbrev main_v76 : Ref sig .tc := ⟨.hbm, 178, rfl⟩
abbrev main_cst_11 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_cst_12 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_call8_cst : Ref sig .tc := ⟨.hbm, 210, rfl⟩
abbrev main_call8_v0 : Ref sig .tc := ⟨.hbm, 211, rfl⟩
abbrev main_call8_v1 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_v6 : Ref sig .tc := ⟨.hbm, 217, rfl⟩
abbrev main_call8_v7 : Ref sig .tc := ⟨.hbm, 218, rfl⟩
abbrev main_call8_v8 : Ref sig .tc := ⟨.hbm, 219, rfl⟩
abbrev main_call8_v9 : Ref sig .tc := ⟨.hbm, 220, rfl⟩
abbrev main_call8_v10 : Ref sig .tc := ⟨.hbm, 221, rfl⟩
abbrev main_call8_v11 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_cst_13 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_cst_14 : Ref sig .tc := ⟨.hbm, 238, rfl⟩
abbrev main_v120 : Ref sig .tc := ⟨.hbm, 239, rfl⟩
abbrev main_v121 : Ref sig .tc := ⟨.hbm, 240, rfl⟩
abbrev main_cst_15 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_cst_16 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_cst_17 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_cst_18 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_cst_19 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_cst_20 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_call9_v0 : Ref sig .tc := ⟨.hbm, 289, rfl⟩
abbrev main_call9_v1 : Ref sig .tc := ⟨.hbm, 290, rfl⟩
abbrev main_call9_cst : Ref sig .tc := ⟨.hbm, 291, rfl⟩
abbrev main_call9_v2 : Ref sig .tc := ⟨.hbm, 292, rfl⟩
abbrev main_call9_v3 : Ref sig .tc := ⟨.hbm, 293, rfl⟩
abbrev main_call9_cst_0 : Ref sig .tc := ⟨.hbm, 294, rfl⟩
abbrev main_call9_v4 : Ref sig .tc := ⟨.hbm, 295, rfl⟩
abbrev main_call9_v5 : Ref sig .tc := ⟨.hbm, 296, rfl⟩
abbrev main_v164 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x16384x2048 : Shape := ⟨3, ![4, 16384, 2048]⟩
abbrev S4x2048x2048 : Shape := ⟨3, ![4, 2048, 2048]⟩
abbrev S1x2048x2048 : Shape := ⟨3, ![1, 2048, 2048]⟩
abbrev S1x2048x1024 : Shape := ⟨3, ![1, 2048, 1024]⟩
abbrev S2048x2048 : Shape := ⟨2, ![2048, 2048]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x16384x2048, .bf16⟩
  | .hbm, ⟨1, _⟩ => ⟨S4x2048x2048, .f32⟩
  | .hbm, ⟨2, _⟩ => ⟨S4x2048x2048, .bf16⟩
  | .hbm, ⟨3, _⟩ => ⟨S4x16384x2048, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .f32⟩
  | .local _ .vmem, ⟨5, _⟩ => ⟨S1x2048x1024, .f32⟩
  | _, _ => ⟨S4x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference2Ideal.lean ====
abbrev S4x16384x2048 : Shape := ⟨3, ![4, 16384, 2048]⟩
abbrev S4x2048x2048 : Shape := ⟨3, ![4, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x16384x2048, .bf16⟩
  | .hbm, ⟨1, _⟩ => ⟨S4x2048x2048, .f32⟩
  | .hbm, ⟨2, _⟩ => ⟨S4x16384x2048, .f32⟩
  | .hbm, ⟨3, _⟩ => ⟨S4x16384x2048, .f32⟩
  | _, _ => ⟨S4x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S16384x2048 : Shape := ⟨2, ![16384, 2048]⟩
abbrev S2048x4144 : Shape := ⟨2, ![2048, 4144]⟩
abbrev S2048x48 : Shape := ⟨2, ![2048, 48]⟩
abbrev S2048x4x12 : Shape := ⟨3, ![2048, 4, 12]⟩
abbrev S_ : Shape := ⟨0, ![]⟩
abbrev S2048x4x128 : Shape := ⟨3, ![2048, 4, 128]⟩
abbrev S2048x512 : Shape := ⟨2, ![2048, 512]⟩
abbrev S2048x2048 : Shape := ⟨2, ![2048, 2048]⟩
abbrev S2048x4608 : Shape := ⟨2, ![2048, 4608]⟩
abbrev S1x16384x2048 : Shape := ⟨3, ![1, 16384, 2048]⟩
abbrev S1x2048x4608 : Shape := ⟨3, ![1, 2048, 4608]⟩
abbrev S1x16384x4608 : Shape := ⟨3, ![1, 16384, 4608]⟩
abbrev S1x2048x2048 : Shape := ⟨3, ![1, 2048, 2048]⟩
abbrev S1x2048x768 : Shape := ⟨3, ![1, 2048, 768]⟩
abbrev S2048x768 : Shape := ⟨2, ![2048, 768]⟩

abbrev nBuf : Space → Nat
  | .hbm => 15
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4144, .f32⟩
  | .hbm, ⟨2, _⟩ => ⟨S2048x48, .f32⟩
  | .hbm, ⟨3, _⟩ => ⟨S2048x4x12, .f32⟩
  | .hbm, ⟨4, _⟩ => ⟨S_, .i32⟩
  | .hbm, ⟨5, _⟩ => ⟨S_, .f32⟩
  | .hbm, ⟨6, _⟩ => ⟨S2048x4x128, .f32⟩
  | .hbm, ⟨7, _⟩ => ⟨S2048x512, .f32⟩
  | .hbm, ⟨8, _⟩ => ⟨S2048x2048, .f32⟩
  | .hbm, ⟨9, _⟩ => ⟨S2048x2048, .f32⟩
  | .hbm, ⟨10, _⟩ => ⟨S2048x4608, .f32⟩
  | .hbm, ⟨11, _⟩ => ⟨S2048x4608, .bf16⟩
  | .hbm, ⟨12, _⟩ => ⟨S1x16384x2048, .bf16⟩
  | .hbm, ⟨13, _⟩ => ⟨S1x2048x4608, .bf16⟩
  | .hbm, ⟨14, _⟩ => ⟨S1x16384x4608, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .f32⟩
  | .local _ .vmem, ⟨5, _⟩ => ⟨S1x2048x768, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference3Ideal.lean ====
abbrev S16384x2048 : Shape := ⟨2, ![16384, 2048]⟩
abbrev S2048x4144 : Shape := ⟨2, ![2048, 4144]⟩
abbrev S16384x4144 : Shape := ⟨2, ![16384, 4144]⟩
abbrev S16384x48 : Shape := ⟨2, ![16384, 48]⟩
abbrev S16384x4x12 : Shape := ⟨3, ![16384, 4, 12]⟩
abbrev S_ : Shape := ⟨0, ![]⟩
abbrev S16384x4x128 : Shape := ⟨3, ![16384, 4, 128]⟩
abbrev S16384x512 : Shape := ⟨2, ![16384, 512]⟩
abbrev S16384x4608 : Shape := ⟨2, ![16384, 4608]⟩
abbrev S1x16384x4608 : Shape := ⟨3, ![1, 16384, 4608]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4144, .f32⟩
  | .hbm, ⟨2, _⟩ => ⟨S16384x2048, .f32⟩
  | .hbm, ⟨3, _⟩ => ⟨S16384x4144, .f32⟩
  | .hbm, ⟨4, _⟩ => ⟨S16384x48, .f32⟩
  | .hbm, ⟨5, _⟩ => ⟨S16384x4x12, .f32⟩
  | .hbm, ⟨6, _⟩ => ⟨S_, .i32⟩
  | .hbm, ⟨7, _⟩ => ⟨S_, .f32⟩
  | .hbm, ⟨8, _⟩ => ⟨S16384x4x128, .f32⟩
  | .hbm, ⟨9, _⟩ => ⟨S16384x512, .f32⟩
  | .hbm, ⟨10, _⟩ => ⟨S16384x2048, .f32⟩
  | .hbm, ⟨11, _⟩ => ⟨S16384x2048, .f32⟩
  | .hbm, ⟨12, _⟩ => ⟨S16384x4608, .f32⟩
  | .hbm, ⟨13, _⟩ => ⟨S1x16384x4608, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S2x2048 : Shape := ⟨2, ![2, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S2x2048, .f32⟩
  | .hbm, ⟨9, _⟩ => ⟨S16384x2048, .f32⟩
  | .hbm, ⟨10, _⟩ => ⟨S16384x2048, .bf16⟩
  | .hbm, ⟨11, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S2x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .bf16⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel7.lean ====
abbrev S16384x2048 : Shape := ⟨2, ![16384, 2048]⟩
abbrev S2048x2048 : Shape := ⟨2, ![2048, 2048]⟩
abbrev S1x16384x2048 : Shape := ⟨3, ![1, 16384, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S1x16384x2048, .bf16⟩
  | .hbm, ⟨4, _⟩ => ⟨S2048x2048, .bf16⟩
  | .hbm, ⟨5, _⟩ => ⟨S1x2048x2048, .bf16⟩
  | .hbm, ⟨6, _⟩ => ⟨S1x16384x2048, .f32⟩
  | .hbm, ⟨7, _⟩ => ⟨S1x16384x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S16384x2048 : Shape := ⟨2, ![16384, 2048]⟩
abbrev S2048x2048 : Shape := ⟨2, ![2048, 2048]⟩
abbrev S1x16384x2048 : Shape := ⟨3, ![1, 16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S1x16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x2048 : Shape := ⟨2, ![16384, 2048]⟩
abbrev S2048x3072 : Shape := ⟨2, ![2048, 3072]⟩
abbrev S1x16384x2048 : Shape := ⟨3, ![1, 16384, 2048]⟩
abbrev S1x2048x3072 : Shape := ⟨3, ![1, 2048, 3072]⟩
abbrev S1x16384x3072 : Shape := ⟨3, ![1, 16384, 3072]⟩
abbrev S1x2048x2048 : Shape := ⟨3, ![1, 2048, 2048]⟩
abbrev S1x2048x1024 : Shape := ⟨3, ![1, 2048, 1024]⟩
abbrev S2048x2048 : Shape := ⟨2, ![2048, 2048]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .f32⟩
  | .hbm, ⟨2, _⟩ => ⟨S1x16384x2048, .bf16⟩
  | .hbm, ⟨3, _⟩ => ⟨S2048x3072, .bf16⟩
  | .hbm, ⟨4, _⟩ => ⟨S1x2048x3072, .bf16⟩
  | .hbm, ⟨5, _⟩ => ⟨S1x16384x3072, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .f32⟩
  | .local _ .vmem, ⟨5, _⟩ => ⟨S1x2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference8Ideal.lean ====
abbrev S16384x2048 : Shape := ⟨2, ![16384, 2048]⟩
abbrev S2048x3072 : Shape := ⟨2, ![2048, 3072]⟩
abbrev S16384x3072 : Shape := ⟨2, ![16384, 3072]⟩
abbrev S1x16384x3072 : Shape := ⟨3, ![1, 16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .f32⟩
  | .hbm, ⟨2, _⟩ => ⟨S16384x2048, .f32⟩
  | .hbm, ⟨3, _⟩ => ⟨S16384x3072, .f32⟩
  | .hbm, ⟨4, _⟩ => ⟨S1x16384x3072, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S6x2048 : Shape := ⟨2, ![6, 2048]⟩
abbrev S2048x96 : Shape := ⟨2, ![2048, 96]⟩
abbrev S_ : Shape := ⟨0, ![]⟩
abbrev S2048x128 : Shape := ⟨2, ![2048, 128]⟩
abbrev S1x2048x128 : Shape := ⟨3, ![1, 2048, 128]⟩
abbrev S2x2048x128 : Shape := ⟨3, ![2, 2048, 128]⟩
abbrev S1x2048 : Shape := ⟨2, ![1, 2048]⟩
abbrev S4x16384x2048 : Shape := ⟨3, ![4, 16384, 2048]⟩
abbrev S2x16384x128 : Shape := ⟨3, ![2, 16384, 128]⟩
abbrev S256x2048 : Shape := ⟨2, ![256, 2048]⟩
abbrev S8x2048 : Shape := ⟨2, ![8, 2048]⟩
abbrev S4x256x2048 : Shape := ⟨3, ![4, 256, 2048]⟩
abbrev S2x256x128 : Shape := ⟨3, ![2, 256, 128]⟩
abbrev S256 : Shape := ⟨1, ![256]⟩
abbrev S256x1 : Shape := ⟨2, ![256, 1]⟩
abbrev S8 : Shape := ⟨1, ![8]⟩
abbrev S8x1 : Shape := ⟨2, ![8, 1]⟩
abbrev S1x256x2048 : Shape := ⟨3, ![1, 256, 2048]⟩
abbrev S256x128 : Shape := ⟨2, ![256, 128]⟩
abbrev S1x256x128 : Shape := ⟨3, ![1, 256, 128]⟩

abbrev nBuf : Space → Nat
  | .hbm => 18
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6x2048, .f32⟩
  | .hbm, ⟨3, _⟩ => ⟨S2048x96, .f32⟩
  | .hbm, ⟨4, _⟩ => ⟨S2048x96, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S1x2048x128, .f32⟩
  | .hbm, ⟨12, _⟩ => ⟨S1x2048x128, .f32⟩
  | .hbm, ⟨13, _⟩ => ⟨S2x2048x128, .f32⟩
  | .hbm, ⟨14, _⟩ => ⟨S2x2048x128, .bf16⟩
  | .hbm, ⟨15, _⟩ => ⟨S1x2048, .f32⟩
  | .hbm, ⟨16, _⟩ => ⟨S4x16384x2048, .bf16⟩
  | .hbm, ⟨17, _⟩ => ⟨S2x16384x128, .bf16⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S6x2048, .f32⟩
  | .local _ .vmem, ⟨6, _⟩ => ⟨S2x2048x128, .bf16⟩
  | .local _ .vmem, ⟨7, _⟩ => ⟨S4x256x2048, .bf16⟩
  | .local _ .vmem, ⟨8, _⟩ => ⟨S4x256x2048, .bf16⟩
  | .local _ .vmem, ⟨9, _⟩ => ⟨S2x256x128, .bf16⟩
  | .local _ .vmem, ⟨10, _⟩ => ⟨S2x256x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S16384x2048 : Shape := ⟨2, ![16384, 2048]⟩
abbrev S2048 : Shape := ⟨1, ![2048]⟩
abbrev S6x2048 : Shape := ⟨2, ![6, 2048]⟩
abbrev S2048x96 : Shape := ⟨2, ![2048, 96]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S4x4096x2048 : Shape := ⟨3, ![4, 4096, 2048]⟩
abbrev S4x4097x2048 : Shape := ⟨3, ![4, 4097, 2048]⟩
abbrev S1x4x4096x2048 : Shape := ⟨4, ![1, 4, 4096, 2048]⟩
abbrev S6x1x1x2048 : Shape := ⟨4, ![6, 1, 1, 2048]⟩
abbrev S6x4x4096x2048 : Shape := ⟨4, ![6, 4, 4096, 2048]⟩
abbrev S6x16384x2048 : Shape := ⟨3, ![6, 16384, 2048]⟩
abbrev S1x16384x2048 : Shape := ⟨3, ![1, 16384, 2048]⟩
abbrev S16384x96 : Shape := ⟨2, ![16384, 96]⟩
abbrev S4x16384x2048 : Shape := ⟨3, ![4, 16384, 2048]⟩
abbrev S16384x128 : Shape := ⟨2, ![16384, 128]⟩
abbrev S1x16384x128 : Shape := ⟨3, ![1, 16384, 128]⟩
abbrev S2x16384x128 : Shape := ⟨3, ![2, 16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6x2048, .f32⟩
  | .hbm, ⟨3, _⟩ => ⟨S2048x96, .f32⟩
  | .hbm, ⟨4, _⟩ => ⟨S2048x96, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S4x4096x2048, .f32⟩
  | .hbm, ⟨22, _⟩ => ⟨S_, .i32⟩
  | .hbm, ⟨23, _⟩ => ⟨S_, .f32⟩
  | .hbm, ⟨24, _⟩ => ⟨S4x4097x2048, .f32⟩
  | .hbm, ⟨25, _⟩ => ⟨S4x4096x2048, .f32⟩
  | .hbm, ⟨26, _⟩ => ⟨S4x4096x2048, .f32⟩
  | .hbm, ⟨27, _⟩ => ⟨S1x4x4096x2048, .f32⟩
  | .hbm, ⟨28, _⟩ => ⟨S1x4x4096x2048, .f32⟩
  | .hbm, ⟨29, _⟩ => ⟨S6x1x1x2048, .f32⟩
  | .hbm, ⟨30, _⟩ => ⟨S6x4x4096x2048, .f32⟩
  | .hbm, ⟨31, _⟩ => ⟨S6x4x4096x2048, .f32⟩
  | .hbm, ⟨32, _⟩ => ⟨S6x4x4096x2048, .f32⟩
  | .hbm, ⟨33, _⟩ => ⟨S6x4x4096x2048, .f32⟩
  | .hbm, ⟨34, _⟩ => ⟨S6x4x4096x2048, .f32⟩
  | .hbm, ⟨35, _⟩ => ⟨S6x16384x2048, .f32⟩
  | .hbm, ⟨36, _⟩ => ⟨S1x16384x2048, .f32⟩
  | .hbm, ⟨37, _⟩ => ⟨S16384x2048, .f32⟩
  | .hbm, ⟨38, _⟩ => ⟨S16384x96, .f32⟩
  | .hbm, ⟨39, _⟩ => ⟨S16384x96, .f32⟩
  | .hbm, ⟨40, _⟩ => ⟨S1x16384x2048, .f32⟩
  | .hbm, ⟨41, _⟩ => ⟨S16384x2048, .f32⟩
  | .hbm, ⟨42, _⟩ => ⟨S16384x96, .f32⟩
  | .hbm, ⟨43, _⟩ => ⟨S4x16384x2048, .f32⟩
  | .hbm, ⟨44, _⟩ => ⟨S4x16384x2048, .bf16⟩
  | .hbm, ⟨45, _⟩ => ⟨S_, .i32⟩
  | .hbm, ⟨46, _⟩ => ⟨S_, .f32⟩
  | .hbm, ⟨47, _⟩ => ⟨S16384x128, .f32⟩
  | .hbm, ⟨48, _⟩ => ⟨S_, .i32⟩
  | .hbm, ⟨49, _⟩ => ⟨S_, .f32⟩
  | .hbm, ⟨50, _⟩ => ⟨S16384x128, .f32⟩
  | .hbm, ⟨51, _⟩ => ⟨S1x16384x128, .f32⟩
  | .hbm, ⟨52, _⟩ => ⟨S1x16384x128, .f32⟩
  | .hbm, ⟨53, _⟩ => ⟨S2x16384x128, .f32⟩
  | .hbm, ⟨54, _⟩ => ⟨S2x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_call1_v0 : Ref sig .tc := ⟨.hbm, 46, rfl⟩
abbrev main_v35 : Ref sig .tc := ⟨.hbm, 47, rfl⟩
abbrev main_c_3 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel10.lean ====
abbrev S16384x2048 : Shape := ⟨2, ![16384, 2048]⟩
abbrev S2048 : Shape := ⟨1, ![2048]⟩
abbrev S6x2048 : Shape := ⟨2, ![6, 2048]⟩
abbrev S2048x96 : Shape := ⟨2, ![2048, 96]⟩
abbrev S2048x64 : Shape := ⟨2, ![2048, 64]⟩
abbrev S_ : Shape := ⟨0, ![]⟩
abbrev S2048x128 : Shape := ⟨2, ![2048, 128]⟩
abbrev S1x2048x128 : Shape := ⟨3, ![1, 2048, 128]⟩
abbrev S3x2048x128 : Shape := ⟨3, ![3, 2048, 128]⟩
abbrev S1x2048 : Shape := ⟨2, ![1, 2048]⟩
abbrev S4x16384x2048 : Shape := ⟨3, ![4, 16384, 2048]⟩
abbrev S3x16384x128 : Shape := ⟨3, ![3, 16384, 128]⟩
abbrev S256x2048 : Shape := ⟨2, ![256, 2048]⟩
abbrev S8x2048 : Shape := ⟨2, ![8, 2048]⟩
abbrev S4x256x2048 : Shape := ⟨3, ![4, 256, 2048]⟩
abbrev S3x256x128 : Shape := ⟨3, ![3, 256, 128]⟩
abbrev S256 : Shape := ⟨1, ![256]⟩
abbrev S256x1 : Shape := ⟨2, ![256, 1]⟩
abbrev S8 : Shape := ⟨1, ![8]⟩
abbrev S8x1 : Shape := ⟨2, ![8, 1]⟩
abbrev S1x256x2048 : Shape := ⟨3, ![1, 256, 2048]⟩
abbrev S256x128 : Shape := ⟨2, ![256, 128]⟩
abbrev S1x256x128 : Shape := ⟨3, ![1, 256, 128]⟩

abbrev nBuf : Space → Nat
  | .hbm => 23
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6x2048, .f32⟩
  | .hbm, ⟨3, _⟩ => ⟨S2048x96, .f32⟩
  | .hbm, ⟨4, _⟩ => ⟨S2048x96, .f32⟩
  | .hbm, ⟨5, _⟩ => ⟨S2048x64, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S1x2048x128, .f32⟩
  | .hbm, ⟨16, _⟩ => ⟨S1x2048x128, .f32⟩
  | .hbm, ⟨17, _⟩ => ⟨S1x2048x128, .f32⟩
  | .hbm, ⟨18, _⟩ => ⟨S3x2048x128, .f32⟩
  | .hbm, ⟨19, _⟩ => ⟨S3x2048x128, .bf16⟩
  | .hbm, ⟨20, _⟩ => ⟨S1x2048, .f32⟩
  | .hbm, ⟨21, _⟩ => ⟨S4x16384x2048, .bf16⟩
  | .hbm, ⟨22, _⟩ => ⟨S3x16384x128, .bf16⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S6x2048, .f32⟩
  | .local _ .vmem, ⟨6, _⟩ => ⟨S3x2048x128, .bf16⟩
  | .local _ .vmem, ⟨7, _⟩ => ⟨S4x256x2048, .bf16⟩
  | .local _ .vmem, ⟨8, _⟩ => ⟨S4x256x2048, .bf16⟩
  | .local _ .vmem, ⟨9, _⟩ => ⟨S3x256x128, .bf16⟩
  | .local _ .vmem, ⟨10, _⟩ => ⟨S3x256x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S16384x2048 : Shape := ⟨2, ![16384, 2048]⟩
abbrev S2048 : Shape := ⟨1, ![2048]⟩
abbrev S6x2048 : Shape := ⟨2, ![6, 2048]⟩
abbrev S2048x96 : Shape := ⟨2, ![2048, 96]⟩
abbrev S2048x64 : Shape := ⟨2, ![2048, 64]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S4x4096x2048 : Shape := ⟨3, ![4, 4096, 2048]⟩
abbrev S4x4097x2048 : Shape := ⟨3, ![4, 4097, 2048]⟩
abbrev S1x4x4096x2048 : Shape := ⟨4, ![1, 4, 4096, 2048]⟩
abbrev S6x1x1x2048 : Shape := ⟨4, ![6, 1, 1, 2048]⟩
abbrev S6x4x4096x2048 : Shape := ⟨4, ![6, 4, 4096, 2048]⟩
abbrev S6x16384x2048 : Shape := ⟨3, ![6, 16384, 2048]⟩
abbrev S1x16384x2048 : Shape := ⟨3, ![1, 16384, 2048]⟩
abbrev S16384x96 : Shape := ⟨2, ![16384, 96]⟩
abbrev S16384x64 : Shape := ⟨2, ![16384, 64]⟩
abbrev S4x16384x2048 : Shape := ⟨3, ![4, 16384, 2048]⟩
abbrev S16384x128 : Shape := ⟨2, ![16384, 128]⟩
abbrev S1x16384x128 : Shape := ⟨3, ![1, 16384, 128]⟩
abbrev S3x16384x128 : Shape := ⟨3, ![3, 16384, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6x2048, .f32⟩
  | .hbm, ⟨3, _⟩ => ⟨S2048x96, .f32⟩
  | .hbm, ⟨4, _⟩ => ⟨S2048x96, .f32⟩
  | .hbm, ⟨5, _⟩ => ⟨S2048x64, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S4x4096x2048, .f32⟩
  | .hbm, ⟨23, _⟩ => ⟨S_, .i32⟩
  | .hbm, ⟨24, _⟩ => ⟨S_, .f32⟩
  | .hbm, ⟨25, _⟩ => ⟨S4x4097x2048, .f32⟩
  | .hbm, ⟨26, _⟩ => ⟨S4x4096x2048, .f32⟩
  | .hbm, ⟨27, _⟩ => ⟨S4x4096x2048, .f32⟩
  | .hbm, ⟨28, _⟩ => ⟨S1x4x4096x2048, .f32⟩
  | .hbm, ⟨29, _⟩ => ⟨S1x4x4096x2048, .f32⟩
  | .hbm, ⟨30, _⟩ => ⟨S6x1x1x2048, .f32⟩
  | .hbm, ⟨31, _⟩ => ⟨S6x4x4096x2048, .f32⟩
  | .hbm, ⟨32, _⟩ => ⟨S6x4x4096x2048, .f32⟩
  | .hbm, ⟨33, _⟩ => ⟨S6x4x4096x2048, .f32⟩
  | .hbm, ⟨34, _⟩ => ⟨S6x4x4096x2048, .f32⟩
  | .hbm, ⟨35, _⟩ => ⟨S6x4x4096x2048, .f32⟩
  | .hbm, ⟨36, _⟩ => ⟨S6x16384x2048, .f32⟩
  | .hbm, ⟨37, _⟩ => ⟨S1x16384x2048, .f32⟩
  | .hbm, ⟨38, _⟩ => ⟨S16384x2048, .f32⟩
  | .hbm, ⟨39, _⟩ => ⟨S16384x96, .f32⟩
  | .hbm, ⟨40, _⟩ => ⟨S16384x96, .f32⟩
  | .hbm, ⟨41, _⟩ => ⟨S1x16384x2048, .f32⟩
  | .hbm, ⟨42, _⟩ => ⟨S16384x2048, .f32⟩
  | .hbm, ⟨43, _⟩ => ⟨S16384x96, .f32⟩
  | .hbm, ⟨44, _⟩ => ⟨S1x16384x2048, .f32⟩
  | .hbm, ⟨45, _⟩ => ⟨S16384x2048, .f32⟩
  | .hbm, ⟨46, _⟩ => ⟨S16384x64, .f32⟩
  | .hbm, ⟨47, _⟩ => ⟨S4x16384x2048, .f32⟩
  | .hbm, ⟨48, _⟩ => ⟨S4x16384x2048, .bf16⟩
  | .hbm, ⟨49, _⟩ => ⟨S_, .i32⟩
  | .hbm, ⟨50, _⟩ => ⟨S_, .f32⟩
  | .hbm, ⟨51, _⟩ => ⟨S16384x128, .f32⟩
  | .hbm, ⟨52, _⟩ => ⟨S_, .i32⟩
  | .hbm, ⟨53, _⟩ => ⟨S_, .f32⟩
  | .hbm, ⟨54, _⟩ => ⟨S16384x128, .f32⟩
  | .hbm, ⟨55, _⟩ => ⟨S_, .i32⟩
  | .hbm, ⟨56, _⟩ => ⟨S_, .f32⟩
  | .hbm, ⟨57, _⟩ => ⟨S16384x128, .f32⟩
  | .hbm, ⟨58, _⟩ => ⟨S1x16384x128, .f32⟩
  | .hbm, ⟨59, _⟩ => ⟨S1x16384x128, .f32⟩
  | .hbm, ⟨60, _⟩ => ⟨S1x16384x128, .f32⟩
  | .hbm, ⟨61, _⟩ => ⟨S3x16384x128, .f32⟩
  | .hbm, ⟨62, _⟩ => ⟨S3x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_2 : Ref sig .tc := ⟨.hbm, 49, rfl⟩
abbrev main_call1_v0 : Ref sig .tc := ⟨.hbm, 50, rfl⟩
abbrev main_v38 : Ref sig .tc := ⟨.hbm, 51, rfl⟩
abbrev main_c_3 : Ref sig .tc := ⟨.hbm, 52, rfl⟩
abbrev main_call2_v0 : Ref sig .tc := ⟨.hbm, 53, rfl⟩
abbrev main_v39 : Ref sig .tc := ⟨.hbm, 54, rfl⟩
abbrev main_c_4 : Ref sig .tc := ⟨.hbm, 55, rfl⟩
abbrev main_call3_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel11.lean ====
abbrev S4x4096x2048 : Shape := ⟨3, ![4, 4096, 2048]⟩
abbrev S2x4096x256 : Shape := ⟨3, ![2, 4096, 256]⟩
abbrev S2x2048x256 : Shape := ⟨3, ![2, 2048, 256]⟩
abbrev S4x2048x256 : Shape := ⟨3, ![4, 2048, 256]⟩
abbrev S4x4096x256 : Shape := ⟨3, ![4, 4096, 256]⟩
abbrev S1x2048x2048 : Shape := ⟨3, ![1, 2048, 2048]⟩
abbrev S1x2048x256 : Shape := ⟨3, ![1, 2048, 256]⟩
abbrev S2048x2048 : Shape := ⟨2, ![2048, 2048]⟩
abbrev S2048x256 : Shape := ⟨2, ![2048, 256]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .bf16⟩
  | .hbm, ⟨1, _⟩ => ⟨S2x4096x256, .f32⟩
  | .hbm, ⟨2, _⟩ => ⟨S2x2048x256, .f32⟩
  | .hbm, ⟨3, _⟩ => ⟨S2x2048x256, .f32⟩
  | .hbm, ⟨4, _⟩ => ⟨S4x2048x256, .f32⟩
  | .hbm, ⟨5, _⟩ => ⟨S4x2048x256, .bf16⟩
  | .hbm, ⟨6, _⟩ => ⟨S4x4096x256, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .f32⟩
  | .local _ .vmem, ⟨5, _⟩ => ⟨S1x2048x256, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference11Ideal.lean ====
abbrev S4x4096x2048 : Shape := ⟨3, ![4, 4096, 2048]⟩
abbrev S2x4096x256 : Shape := ⟨3, ![2, 4096, 256]⟩
abbrev S2x4096x2048 : Shape := ⟨3, ![2, 4096, 2048]⟩
abbrev S2x2048x256 : Shape := ⟨3, ![2, 2048, 256]⟩
abbrev S4x4096x256 : Shape := ⟨3, ![4, 4096, 256]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2x4096x256, .f32⟩
  | .hbm, ⟨2, _⟩ => ⟨S4x4096x2048, .f32⟩
  | .hbm, ⟨3, _⟩ => ⟨S2x4096x2048, .f32⟩
  | .hbm, ⟨4, _⟩ => ⟨S2x2048x256, .f32⟩
  | .hbm, ⟨5, _⟩ => ⟨S2x4096x256, .f32⟩
  | .hbm, ⟨6, _⟩ => ⟨S2x4096x2048, .f32⟩
  | .hbm, ⟨7, _⟩ => ⟨S2x2048x256, .f32⟩
  | .hbm, ⟨8, _⟩ => ⟨S2x4096x256, .f32⟩
  | .hbm, ⟨9, _⟩ => ⟨S4x4096x256, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel12.lean ====
abbrev S4x4096x256 : Shape := ⟨3, ![4, 4096, 256]⟩
abbrev S2x256x128 : Shape := ⟨3, ![2, 256, 128]⟩
abbrev S256 : Shape := ⟨1, ![256]⟩
abbrev S_ : Shape := ⟨0, ![]⟩
abbrev S16 : Shape := ⟨1, ![16]⟩
abbrev S256x1 : Shape := ⟨2, ![256, 1]⟩
abbrev S1x16 : Shape := ⟨2, ![1, 16]⟩
abbrev S256x16 : Shape := ⟨2, ![256, 16]⟩
abbrev S256x96 : Shape := ⟨2, ![256, 96]⟩
abbrev S256x128 : Shape := ⟨2, ![256, 128]⟩
abbrev S256x112 : Shape := ⟨2, ![256, 112]⟩
abbrev S2x16x256x128 : Shape := ⟨4, ![2, 16, 256, 128]⟩
abbrev S1x256x256 : Shape := ⟨3, ![1, 256, 256]⟩
abbrev S1x256x128 : Shape := ⟨3, ![1, 256, 128]⟩
abbrev S1x1x256x128 : Shape := ⟨4, ![1, 1, 256, 128]⟩
abbrev S256x256 : Shape := ⟨2, ![256, 256]⟩

abbrev nBuf : Space → Nat
  | .hbm => 42
  | .vmem => 11
  | .smem => 0
  | _ => 0

abbrev bufTy : (tb : Table) → Fin (tcTables nBuf tb) → BufTy
  | .hbm, ⟨0, _⟩ => ⟨S4x4096x256, .f32⟩
  | .hbm, ⟨1, _⟩ => ⟨S2x256x128, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S256, .f32⟩
  | .hbm, ⟨21, _⟩ => ⟨S256x1, .f32⟩
  | .hbm, ⟨22, _⟩ => ⟨S1x16, .f32⟩
  | .hbm, ⟨23, _⟩ => ⟨S256x16, .f32⟩
  | .hbm, ⟨24, _⟩ => ⟨S256x16, .f32⟩
  | .hbm, ⟨25, _⟩ => ⟨S256x16, .f32⟩
  | .hbm, ⟨26, _⟩ => ⟨S256x16, .f32⟩
  | .hbm, ⟨27, _⟩ => ⟨S256x16, .f32⟩
  | .hbm, ⟨28, _⟩ => ⟨S_, .f32⟩
  | .hbm, ⟨29, _⟩ => ⟨S256x96, .f32⟩
  | .hbm, ⟨30, _⟩ => ⟨S256x128, .f32⟩
  | .hbm, ⟨31, _⟩ => ⟨S256x16, .f32⟩
  | .hbm, ⟨32, _⟩ => ⟨S_, .f32⟩
  | .hbm, ⟨33, _⟩ => ⟨S256x112, .f32⟩
  | .hbm, ⟨34, _⟩ => ⟨S256x128, .f32⟩
  | .hbm, ⟨35, _⟩ => ⟨S_, .f32⟩
  | .hbm, ⟨36, _⟩ => ⟨S256x16, .f32⟩
  | .hbm, ⟨37, _⟩ => ⟨S_, .f32⟩
  | .hbm, ⟨38, _⟩ => ⟨S256x96, .f32⟩
  | .hbm, ⟨39, _⟩ => ⟨S256x128, .f32⟩
  | .hbm, ⟨40, _⟩ => ⟨S2x256x128, .bf16⟩
  | .hbm, ⟨41, _⟩ => ⟨S2x16x256x128, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x128, .bf16⟩
  | .local _ .vmem, ⟨5, _⟩ => ⟨S1x256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x1x256x128, .bf16⟩
  | .local _ .vmem, ⟨10, _⟩ => ⟨S1x1x256x128, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S4x4096x256 : Shape := ⟨3, ![4, 4096, 256]⟩
abbrev S2x256x128 : Shape := ⟨3, ![2, 256, 128]⟩
abbrev S2x4096x256 : Shape := ⟨3, ![2, 4096, 256]⟩
abbrev S2x16x256x256 : Shape := ⟨4, ![2, 16, 256, 256]⟩
abbrev S2x16x255x256 : Shape := ⟨4, ![2, 16, 255, 256]⟩
abbrev S2x16x1x256 : Shape := ⟨4, ![2, 16, 1, 256]⟩
abbrev S_ : Shape := ⟨0, ![]⟩
abbrev S2x16x256x128 : Shape := ⟨4, ![2, 16, 256, 128]⟩
abbrev S1x16x256x128 : Shape := ⟨4, ![1, 16, 256, 128]⟩
abbrev S16x256x128 : Shape := ⟨3, ![16, 256, 128]⟩
abbrev S16 : Shape := ⟨1, ![16]⟩
abbrev S256 : Shape := ⟨1, ![256]⟩
abbrev S256x1 : Shape := ⟨2, ![256, 1]⟩
abbrev S1x16 : Shape := ⟨2, ![1, 16]⟩
abbrev S256x16 : Shape := ⟨2, ![256, 16]⟩
abbrev S16x256x16 : Shape := ⟨3, ![16, 256, 16]⟩
abbrev S1x256x16 : Shape := ⟨3, ![1, 256, 16]⟩
abbrev S16x256x96 : Shape := ⟨3, ![16, 256, 96]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S2x256x128, .f32⟩
  | .hbm, ⟨2, _⟩ => ⟨S2x4096x256, .f32⟩
  | .hbm, ⟨3, _⟩ => ⟨S2x16x256x256, .f32⟩
  | .hbm, ⟨4, _⟩ => ⟨S2x4096x256, .f32⟩
  | .hbm, ⟨5, _⟩ => ⟨S2x16x256x256, .f32⟩
  | .hbm, ⟨6, _⟩ => ⟨S2x16x255x256, .f32⟩
  | .hbm, ⟨7, _⟩ => ⟨S2x16x1x256, .f32⟩
  | .hbm, ⟨8, _⟩ => ⟨S2x16x256x256, .f32⟩
  | .hbm, ⟨9, _⟩ => ⟨S2x16x256x256, .f32⟩
  | .hbm, ⟨10, _⟩ => ⟨S2x16x256x256, .f32⟩
  | .hbm, ⟨11, _⟩ => ⟨S2x16x256x256, .f32⟩
  | .hbm, ⟨12, _⟩ => ⟨S_, .f32⟩
  | .hbm, ⟨13, _⟩ => ⟨S2x16x256x256, .f32⟩
  | .hbm, ⟨14, _⟩ => ⟨S2x16x256x256, .f32⟩
  | .hbm, ⟨15, _⟩ => ⟨S_, .f32⟩
  | .hbm, ⟨16, _⟩ => ⟨S2x16x256x256, .f32⟩
  | .hbm, ⟨17, _⟩ => ⟨S2x16x256x256, .f32⟩
  | .hbm, ⟨18, _⟩ => ⟨S2x16x256x256, .f32⟩
  | .hbm, ⟨19, _⟩ => ⟨S2x16x256x128, .f32⟩
  | .hbm, ⟨20, _⟩ => ⟨S1x16x256x128, .f32⟩
  | .hbm, ⟨21, _⟩ => ⟨S16x256x128, .f32⟩
  | .hbm, ⟨22, _⟩ => ⟨S1x16x256x128, .f32⟩
  | .hbm, ⟨23, _⟩ => ⟨S16x256x128, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S256, .f32⟩
  | .hbm, ⟨43, _⟩ => ⟨S256x1, .f32⟩
  | .hbm, ⟨44, _⟩ => ⟨S1x16, .f32⟩
  | .hbm, ⟨45, _⟩ => ⟨S256x16, .f32⟩
  | .hbm, ⟨46, _⟩ => ⟨S256x16, .f32⟩
  | .hbm, ⟨47, _⟩ => ⟨S256x16, .f32⟩
  | .hbm, ⟨48, _⟩ => ⟨S256x16, .f32⟩
  | .hbm, ⟨49, _⟩ => ⟨S256x16, .f32⟩
  | .hbm, ⟨50, _⟩ => ⟨S16x256x16, .f32⟩
  | .hbm, ⟨51, _⟩ => ⟨S16x256x16, .f32⟩
  | .hbm, ⟨52, _⟩ => ⟨S1x256x16, .f32⟩
  | .hbm, ⟨53, _⟩ => ⟨S16x256x16, .f32⟩
  | .hbm, ⟨54, _⟩ => ⟨S16x256x16, .f32⟩
  | .hbm, ⟨55, _⟩ => ⟨S1x256x16, .f32⟩
  | .hbm, ⟨56, _⟩ => ⟨S16x256x16, .f32⟩
  | .hbm, ⟨57, _⟩ => ⟨S16x256x16, .f32⟩
  | .hbm, ⟨58, _⟩ => ⟨S16x256x16, .f32⟩
  | .hbm, ⟨59, _⟩ => ⟨S1x256x16, .f32⟩
  | .hbm, ⟨60, _⟩ => ⟨S16x256x16, .f32⟩
  | .hbm, ⟨61, _⟩ => ⟨S16x256x16, .f32⟩
  | .hbm, ⟨62, _⟩ => ⟨S1x256x16, .f32⟩
  | .hbm, ⟨63, _⟩ => ⟨S16x256x16, .f32⟩
  | .hbm, ⟨64, _⟩ => ⟨S16x256x16, .f32⟩
  | .hbm, ⟨65, _⟩ => ⟨S16x256x16, .f32⟩
  | .hbm, ⟨66, _⟩ => ⟨S16x256x96, .f32⟩
  | .hbm, ⟨67, _⟩ => ⟨S16x256x128, .f32⟩
  | .hbm, ⟨68, _⟩ => ⟨S1x16x256x128, .f32⟩
  | .hbm, ⟨69, _⟩ => ⟨S1x16x256x128, .f32⟩
  | .hbm, ⟨70, _⟩ => ⟨S2x16x256x128, .f32⟩
  | .hbm, ⟨71, _⟩ => ⟨S2x16x256x128, .bf16⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_v1 : Ref sig .tc := ⟨.hbm, 11, rfl⟩
abbrev main_call1_cst : Ref sig .tc := ⟨.hbm, 12, rfl⟩
abbrev main_call1_v2 : Ref sig .tc := ⟨.hbm, 13, rfl⟩
abbrev main_call1_v3 : Ref sig .tc := ⟨.hbm, 14, rfl⟩
abbrev main_call1_cst_0 : Ref sig .tc := ⟨.hbm, 15, rfl⟩
abbrev main_call1_v4 : Ref sig .tc := ⟨.hbm, 16, rfl⟩
abbrev main_call1_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel13.lean ====
abbrev S16384x3072 : Shape := ⟨2, ![16384, 3072]⟩
abbrev S2x32x128 : Shape := ⟨3, ![2, 32, 128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S2x2x2048 : Shape := ⟨3, ![2, 2, 2048]⟩
abbrev S1x2x2048 : Shape := ⟨3, ![1, 2, 2048]⟩
abbrev S2x2048 : Shape := ⟨2, ![2, 2048]⟩
abbrev S4x4x4x256x2048 : Shape := ⟨5, ![4, 4, 4, 256, 2048]⟩
abbrev S4x4x4096x256 : Shape := ⟨4, ![4, 4, 4096, 256]⟩
abbrev S4x4x4096x128 : Shape := ⟨4, ![4, 4, 4096, 128]⟩
abbrev S512x3072 : Shape := ⟨2, ![512, 3072]⟩
abbrev S512x128 : Shape := ⟨2, ![512, 128]⟩
abbrev S4x1x4x32x2048 : Shape := ⟨5, ![4, 1, 4, 32, 2048]⟩
abbrev S1x4x512x256 : Shape := ⟨4, ![1, 4, 512, 256]⟩
abbrev S1x4x512x128 : Shape := ⟨4, ![1, 4, 512, 128]⟩
abbrev S32x16x128 : Shape := ⟨3, ![32, 16, 128]⟩
abbrev S32x1x128 : Shape := ⟨3, ![32, 1, 128]⟩
abbrev S32x128 : Shape := ⟨2, ![32, 128]⟩
abbrev S32x2048 : Shape := ⟨2, ![32, 2048]⟩
abbrev S1x2048 : Shape := ⟨2, ![1, 2048]⟩
abbrev S1x1x1x32x2048 : Shape := ⟨5, ![1, 1, 1, 32, 2048]⟩
abbrev S512x256 : Shape := ⟨2, ![512, 256]⟩
abbrev S1x1x512x256 : Shape := ⟨4, ![1, 1, 512, 256]⟩
abbrev S1x1x512x128 : Shape := ⟨4, ![1, 1, 512, 128]⟩

abbrev nBuf : Space → Nat
  | .hbm => 41
  | .vmem => 20
  | .smem => 0
  | _ => 0

abbrev bufTy : (tb : Table) → Fin (tcTables nBuf tb) → BufTy
  | .hbm, ⟨0, _⟩ => ⟨S16384x3072, .f32⟩
  | .hbm, ⟨1, _⟩ => ⟨S2x32x128, .f32⟩
  | .hbm, ⟨2, _⟩ => ⟨S4096, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S4096, .f32⟩
  | .hbm, ⟨12, _⟩ => ⟨S4096x1, .f32⟩
  | .hbm, ⟨13, _⟩ => ⟨S1x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S_, .f32⟩
  | .hbm, ⟨20, _⟩ => ⟨S4096x96, .f32⟩
  | .hbm, ⟨21, _⟩ => ⟨S4096x128, .f32⟩
  | .hbm, ⟨22, _⟩ => ⟨S4096x16, .f32⟩
  | .hbm, ⟨23, _⟩ => ⟨S_, .f32⟩
  | .hbm, ⟨24, _⟩ => ⟨S4096x112, .f32⟩
  | .hbm, ⟨25, _⟩ => ⟨S4096x128, .f32⟩
  | .hbm, ⟨26, _⟩ => ⟨S_, .f32⟩
  | .hbm, ⟨27, _⟩ => ⟨S4096x16, .f32⟩
  | .hbm, ⟨28, _⟩ => ⟨S_, .f32⟩
  | .hbm, ⟨29, _⟩ => ⟨S4096x96, .f32⟩
  | .hbm, ⟨30, _⟩ => ⟨S4096x128, .f32⟩
  | .hbm, ⟨31, _⟩ => ⟨S2x2x2048, .f32⟩
  | .hbm, ⟨32, _⟩ => ⟨S1x2x2048, .f32⟩
  | .hbm, ⟨33, _⟩ => ⟨S2x2048, .f32⟩
  | .hbm, ⟨34, _⟩ => ⟨S1x2x2048, .f32⟩
  | .hbm, ⟨35, _⟩ => ⟨S2x2048, .f32⟩
  | .hbm, ⟨36, _⟩ => ⟨S4x4x4x256x2048, .bf16⟩
  | .hbm, ⟨37, _⟩ => ⟨S4x4x4096x256, .bf16⟩
  | .hbm, ⟨38, _⟩ => ⟨S4x4x4096x256, .bf16⟩
  | .hbm, ⟨39, _⟩ => ⟨S4x4x4096x128, .bf16⟩
  | .hbm, ⟨40, _⟩ => ⟨S4x4x4096x256, .bf16⟩
  | .local _ .vmem, ⟨0, _⟩ => ⟨S512x3072, .f32⟩
  | .local _ .vmem, ⟨1, _⟩ => ⟨S512x3072, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2x2048, .f32⟩
  | .local _ .vmem, ⟨9, _⟩ => ⟨S2x2048, .f32⟩
  | .local _ .vmem, ⟨10, _⟩ => ⟨S4x1x4x32x2048, .bf16⟩
  | .local _ .vmem, ⟨11, _⟩ => ⟨S4x1x4x32x2048, .bf16⟩
  | .local _ .vmem, ⟨12, _⟩ => ⟨S1x4x512x256, .bf16⟩
  | .local _ .vmem, ⟨13, _⟩ => ⟨S1x4x512x256, .bf16⟩
  | .local _ .vmem, ⟨14, _⟩ => ⟨S1x4x512x256, .bf16⟩
  | .local _ .vmem, ⟨15, _⟩ => ⟨S1x4x512x256, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x4x512x256, .bf16⟩
  | .local _ .vmem, ⟨19, _⟩ => ⟨S1x4x512x256, .bf16⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev main_v28_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x1x4x32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference13Ideal.lean ====
abbrev S16384x3072 : Shape := ⟨2, ![16384, 3072]⟩
abbrev S2x32x128 : Shape := ⟨3, ![2, 32, 128]⟩
abbrev S4x4096x6x4x128 : Shape := ⟨5, ![4, 4096, 6, 4, 128]⟩
abbrev S6x4x4x4096x128 : Shape := ⟨5, ![6, 4, 4, 4096, 128]⟩
abbrev S2x4x4x4096x128 : Shape := ⟨5, ![2, 4, 4, 4096, 128]⟩
abbrev S2x4x4x256x2048 : Shape := ⟨5, ![2, 4, 4, 256, 2048]⟩
abbrev S2x2x2048 : Shape := ⟨3, ![2, 2, 2048]⟩
abbrev S2x1x2048 : Shape := ⟨3, ![2, 1, 2048]⟩
abbrev S2x2048 : Shape := ⟨2, ![2, 2048]⟩
abbrev S2x1x1x1x2048 : Shape := ⟨5, ![2, 1, 1, 1, 2048]⟩
abbrev S4x4x4x256x2048 : Shape := ⟨5, ![4, 4, 4, 256, 2048]⟩
abbrev S1x4x4x4096x128 : Shape := ⟨5, ![1, 4, 4, 4096, 128]⟩
abbrev S4x4x4096x128 : Shape := ⟨4, ![4, 4, 4096, 128]⟩
abbrev S64x128 : Shape := ⟨2, ![64, 128]⟩
abbrev S_ : Shape := ⟨0, ![]⟩
abbrev S64x1x128 : Shape := ⟨3, ![64, 1, 128]⟩
abbrev S64x64x128 : Shape := ⟨3, ![64, 64, 128]⟩
abbrev S4096x128 : Shape := ⟨2, ![4096, 128]⟩
abbrev S4x4x4096x1 : Shape := ⟨4, ![4, 4, 4096, 1]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4x4x4096x16 : Shape := ⟨4, ![4, 4, 4096, 16]⟩
abbrev S1x1x4096x16 : Shape := ⟨4, ![1, 1, 4096, 16]⟩
abbrev S4x4x4096x96 : Shape := ⟨4, ![4, 4, 4096, 96]⟩
abbrev S4x4x4096x256 : Shape := ⟨4, ![4, 4, 4096, 256]⟩

abbrev nBuf : Space → Nat
  | .hbm => 120
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S2x32x128, .f32⟩
  | .hbm, ⟨2, _⟩ => ⟨S4x4096x6x4x128, .f32⟩
  | .hbm, ⟨3, _⟩ => ⟨S6x4x4x4096x128, .f32⟩
  | .hbm, ⟨4, _⟩ => ⟨S2x4x4x4096x128, .f32⟩
  | .hbm, ⟨5, _⟩ => ⟨S2x4x4x256x2048, .f32⟩
  | .hbm, ⟨6, _⟩ => ⟨S2x2x2048, .f32⟩
  | .hbm, ⟨7, _⟩ => ⟨S2x1x2048, .f32⟩
  | .hbm, ⟨8, _⟩ => ⟨S2x2048, .f32⟩
  | .hbm, ⟨9, _⟩ => ⟨S2x1x1x1x2048, .f32⟩
  | .hbm, ⟨10, _⟩ => ⟨S2x4x4x256x2048, .f32⟩
  | .hbm, ⟨11, _⟩ => ⟨S2x4x4x256x2048, .f32⟩
  | .hbm, ⟨12, _⟩ => ⟨S2x1x2048, .f32⟩
  | .hbm, ⟨13, _⟩ => ⟨S2x2048, .f32⟩
  | .hbm, ⟨14, _⟩ => ⟨S2x1x1x1x2048, .f32⟩
  | .hbm, ⟨15, _⟩ => ⟨S2x4x4x256x2048, .f32⟩
  | .hbm, ⟨16, _⟩ => ⟨S2x4x4x256x2048, .f32⟩
  | .hbm, ⟨17, _⟩ => ⟨S4x4x4x256x2048, .f32⟩
  | .hbm, ⟨18, _⟩ => ⟨S1x4x4x4096x128, .f32⟩
  | .hbm, ⟨19, _⟩ => ⟨S4x4x4096x128, .f32⟩
  | .hbm, ⟨20, _⟩ => ⟨S1x4x4x4096x128, .f32⟩
  | .hbm, ⟨21, _⟩ => ⟨S4x4x4096x128, .f32⟩
  | .hbm, ⟨22, _⟩ => ⟨S1x4x4x4096x128, .f32⟩
  | .hbm, ⟨23, _⟩ => ⟨S4x4x4096x128, .f32⟩
  | .hbm, ⟨24, _⟩ => ⟨S1x4x4x4096x128, .f32⟩
  | .hbm, ⟨25, _⟩ => ⟨S4x4x4096x128, .f32⟩
  | .hbm, ⟨26, _⟩ => ⟨S64x128, .i32⟩
  | .hbm, ⟨27, _⟩ => ⟨S64x128, .i32⟩
  | .hbm, ⟨28, _⟩ => ⟨S_, .i32⟩
  | .hbm, ⟨29, _⟩ => ⟨S64x128, .i32⟩
  | .hbm, ⟨30, _⟩ => ⟨S64x128, .i32⟩
  | .hbm, ⟨31, _⟩ => ⟨S64x128, .i1⟩
  | .hbm, ⟨32, _⟩ => ⟨S64x128, .f32⟩
  | .hbm, ⟨33, _⟩ => ⟨S64x1x128, .f32⟩
  | .hbm, ⟨34, _⟩ => ⟨S64x64x128, .f32⟩
  | .hbm, ⟨35, _⟩ => ⟨S4096x128, .f32⟩
  | .hbm, ⟨36, _⟩ => ⟨S4x4x4096x128, .f32⟩
  | .hbm, ⟨37, _⟩ => ⟨S_, .f32⟩
  | .hbm, ⟨38, _⟩ => ⟨S4x4x4096x1, .f32⟩
  | .hbm, ⟨39, _⟩ => ⟨S_, .i32⟩
  | .hbm, ⟨40, _⟩ => ⟨S_, .f32⟩
  | .hbm, ⟨41, _⟩ => ⟨S4x4x4096x128, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S4096, .i32⟩
  | .hbm, ⟨51, _⟩ => ⟨S4096, .f32⟩
  | .hbm, ⟨52, _⟩ => ⟨S4096x1, .f32⟩
  | .hbm, ⟨53, _⟩ => ⟨S1x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4x4x4096x16, .f32⟩
  | .hbm, ⟨60, _⟩ => ⟨S4x4x4096x16, .f32⟩
  | .hbm, ⟨61, _⟩ => ⟨S1x1x4096x16, .f32⟩
  | .hbm, ⟨62, _⟩ => ⟨S4x4x4096x16, .f32⟩
  | .hbm, ⟨63, _⟩ => ⟨S4x4x4096x16, .f32⟩
  | .hbm, ⟨64, _⟩ => ⟨S1x1x4096x16, .f32⟩
  | .hbm, ⟨65, _⟩ => ⟨S4x4x4096x16, .f32⟩
  | .hbm, ⟨66, _⟩ => ⟨S4x4x4096x16, .f32⟩
  | .hbm, ⟨67, _⟩ => ⟨S4x4x4096x16, .f32⟩
  | .hbm, ⟨68, _⟩ => ⟨S1x1x4096x16, .f32⟩
  | .hbm, ⟨69, _⟩ => ⟨S4x4x4096x16, .f32⟩
  | .hbm, ⟨70, _⟩ => ⟨S4x4x4096x16, .f32⟩
  | .hbm, ⟨71, _⟩ => ⟨S1x1x4096x16, .f32⟩
  | .hbm, ⟨72, _⟩ => ⟨S4x4x4096x16, .f32⟩
  | .hbm, ⟨73, _⟩ => ⟨S4x4x4096x16, .f32⟩
  | .hbm, ⟨74, _⟩ => ⟨S4x4x4096x16, .f32⟩
  | .hbm, ⟨75, _⟩ => ⟨S4x4x4096x96, .f32⟩
  | .hbm, ⟨76, _⟩ => ⟨S4x4x4096x128, .f32⟩
  | .hbm, ⟨77, _⟩ => ⟨S4x4x4096x256, .f32⟩
  | .hbm, ⟨78, _⟩ => ⟨S4x4x4096x256, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S4096, .i32⟩
  | .hbm, ⟨88, _⟩ => ⟨S4096, .f32⟩
  | .hbm, ⟨89, _⟩ => ⟨S4096x1, .f32⟩
  | .hbm, ⟨90, _⟩ => ⟨S1x16, .f32⟩
  | .hbm, ⟨91, _⟩ => ⟨S4096x16, .f32⟩
  | .hbm, ⟨92, _⟩ => ⟨S4096x16, .f32⟩
  | .hbm, ⟨93, _⟩ => ⟨S4096x16, .f32⟩
  | .hbm, ⟨94, _⟩ => ⟨S4096x16, .f32⟩
  | .hbm, ⟨95, _⟩ => ⟨S4096x16, .f32⟩
  | .hbm, ⟨96, _⟩ => ⟨S4x4x4096x16, .f32⟩
  | .hbm, ⟨97, _⟩ => ⟨S4x4x4096x16, .f32⟩
  | .hbm, ⟨98, _⟩ => ⟨S1x1x4096x16, .f32⟩
  | .hbm, ⟨99, _⟩ => ⟨S4x4x4096x16, .f32⟩
  | .hbm, ⟨100, _⟩ => ⟨S4x4x4096x16, .f32⟩
  | .hbm, ⟨101, _⟩ => ⟨S1x1x4096x16, .f32⟩
  | .hbm, ⟨102, _⟩ => ⟨S4x4x4096x16, .f32⟩
  | .hbm, ⟨103, _⟩ => ⟨S4x4x4096x16, .f32⟩
  | .hbm, ⟨104, _⟩ => ⟨S4x4x4096x16, .f32⟩
  | .hbm, ⟨105, _⟩ => ⟨S1x1x4096x16, .f32⟩
  | .hbm, ⟨106, _⟩ => ⟨S4x4x4096x16, .f32⟩
  | .hbm, ⟨107, _⟩ => ⟨S4x4x4096x16, .f32⟩
  | .hbm, ⟨108, _⟩ => ⟨S1x1x4096x16, .f32⟩
  | .hbm, ⟨109, _⟩ => ⟨S4x4x4096x16, .f32⟩
  | .hbm, ⟨110, _⟩ => ⟨S4x4x4096x16, .f32⟩
  | .hbm, ⟨111, _⟩ => ⟨S4x4x4096x16, .f32⟩
  | .hbm, ⟨112, _⟩ => ⟨S4x4x4096x96, .f32⟩
  | .hbm, ⟨113, _⟩ => ⟨S4x4x4096x128, .f32⟩
  | .hbm, ⟨114, _⟩ => ⟨S4x4x4096x256, .f32⟩
  | .hbm, ⟨115, _⟩ => ⟨S4x4x4x256x2048, .bf16⟩
  | .hbm, ⟨116, _⟩ => ⟨S4x4x4096x256, .bf16⟩
  | .hbm, ⟨117, _⟩ => ⟨S4x4x4096x256, .bf16⟩
  | .hbm, ⟨118, _⟩ => ⟨S4x4x4096x128, .bf16⟩
  | .hbm, ⟨119, _⟩ => ⟨S4x4x4096x256, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_c : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst : Ref sig .tc := ⟨.hbm, 37, rfl⟩
abbrev main_v34 : Ref sig .tc := ⟨.hbm, 38, rfl⟩
abbrev main_c_0 : Ref sig .tc := ⟨.hbm, 39, rfl⟩
abbrev main_call0_v0 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_3 : Ref sig .tc := ⟨.hbm, 81, rfl⟩
abbrev main_v73 : Ref sig .tc := ⟨.hbm, 82, rfl⟩
abbrev main_v74 : Ref sig .tc := ⟨.hbm, 83, rfl⟩
abbrev main_cst_4 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩

abbrev nD : Nat := 1
abbrev τ : Topo := Topo.v7x

variable {F : FTy → Type} [FloatOps F]
-- ==== Kernel14.lean ====
abbrev S4x16384x2048 : Shape := ⟨3, ![4, 16384, 2048]⟩
abbrev S16384x96 : Shape := ⟨2, ![16384, 96]⟩
abbrev S16384x64 : Shape := ⟨2, ![16384, 64]⟩
abbrev S2048 : Shape := ⟨1, ![2048]⟩
abbrev S96x2048 : Shape := ⟨2, ![96, 2048]⟩
abbrev S64x2048 : Shape := ⟨2, ![64, 2048]⟩
abbrev S32x64 : Shape := ⟨2, ![32, 64]⟩
abbrev S_ : Shape := ⟨0, ![]⟩
abbrev S16384x128 : Shape := ⟨2, ![16384, 128]⟩
abbrev S1x16384x128 : Shape := ⟨3, ![1, 16384, 128]⟩
abbrev S3x16384x128 : Shape := ⟨3, ![3, 16384, 128]⟩
abbrev S128x2048 : Shape := ⟨2, ![128, 2048]⟩
abbrev S1x128x2048 : Shape := ⟨3, ![1, 128, 2048]⟩
abbrev S3x128x2048 : Shape := ⟨3, ![3, 128, 2048]⟩
abbrev S1x2048 : Shape := ⟨2, ![1, 2048]⟩
abbrev S1x1x2048 : Shape := ⟨3, ![1, 1, 2048]⟩
abbrev S3x1x2048 : Shape := ⟨3, ![3, 1, 2048]⟩
abbrev S16384x2048 : Shape := ⟨2, ![16384, 2048]⟩
abbrev S1x256x2048 : Shape := ⟨3, ![1, 256, 2048]⟩
abbrev S3x256x128 : Shape := ⟨3, ![3, 256, 128]⟩
abbrev S256x2048 : Shape := ⟨2, ![256, 2048]⟩
abbrev S8x256x256 : Shape := ⟨3, ![8, 256, 256]⟩
abbrev S256x256 : Shape := ⟨2, ![256, 256]⟩
abbrev S64x64 : Shape := ⟨2, ![64, 64]⟩
abbrev S64x256 : Shape := ⟨2, ![64, 256]⟩
abbrev S1x64x128 : Shape := ⟨3, ![1, 64, 128]⟩
abbrev S64x128 : Shape := ⟨2, ![64, 128]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S1x64x256 : Shape := ⟨3, ![1, 64, 256]⟩
abbrev S1x256x256 : Shape := ⟨3, ![1, 256, 256]⟩

abbrev nBuf : Space → Nat
  | .hbm => 58
  | .vmem => 22
  | .smem => 0
  | _ => 0

abbrev bufTy : (tb : Table) → Fin (tcTables nBuf tb) → BufTy
  | .hbm, ⟨0, _⟩ => ⟨S4x16384x2048, .f32⟩
  | .hbm, ⟨1, _⟩ => ⟨S4x16384x2048, .f32⟩
  | .hbm, ⟨2, _⟩ => ⟨S16384x96, .f32⟩
  | .hbm, ⟨3, _⟩ => ⟨S16384x96, .f32⟩
  | .hbm, ⟨4, _⟩ => ⟨S16384x64, .f32⟩
  | .hbm, ⟨5, _⟩ => ⟨S2048, .f32⟩
  | .hbm, ⟨6, _⟩ => ⟨S96x2048, .f32⟩
  | .hbm, ⟨7, _⟩ => ⟨S2048, .f32⟩
  | .hbm, ⟨8, _⟩ => ⟨S96x2048, .f32⟩
  | .hbm, ⟨9, _⟩ => ⟨S2048, .f32⟩
  | .hbm, ⟨10, _⟩ => ⟨S64x2048, .f32⟩
  | .hbm, ⟨11, _⟩ => ⟨S2048, .f32⟩
  | .hbm, ⟨12, _⟩ => ⟨S2048, .f32⟩
  | .hbm, ⟨13, _⟩ => ⟨S32x64, .f32⟩
  | .hbm, ⟨14, _⟩ => ⟨S2048, .f32⟩
  | .hbm, ⟨15, _⟩ => ⟨S2048, .f32⟩
  | .hbm, ⟨16, _⟩ => ⟨S_, .i32⟩
  | .hbm, ⟨17, _⟩ => ⟨S_, .f32⟩
  | .hbm, ⟨18, _⟩ => ⟨S16384x128, .f32⟩
  | .hbm, ⟨19, _⟩ => ⟨S_, .i32⟩
  | .hbm, ⟨20, _⟩ => ⟨S_, .f32⟩
  | .hbm, ⟨21, _⟩ => ⟨S16384x128, .f32⟩
  | .hbm, ⟨22, _⟩ => ⟨S_, .i32⟩
  | .hbm, ⟨23, _⟩ => ⟨S_, .f32⟩
  | .hbm, ⟨24, _⟩ => ⟨S16384x128, .f32⟩
  | .hbm, ⟨25, _⟩ => ⟨S1x16384x128, .f32⟩
  | .hbm, ⟨26, _⟩ => ⟨S1x16384x128, .f32⟩
  | .hbm, ⟨27, _⟩ => ⟨S1x16384x128, .f32⟩
  | .hbm, ⟨28, _⟩ => ⟨S3x16384x128, .f32⟩
  | .hbm, ⟨29, _⟩ => ⟨S3x16384x128, .bf16⟩
  | .hbm, ⟨30, _⟩ => ⟨S_, .i32⟩
  | .hbm, ⟨31, _⟩ => ⟨S_, .f32⟩
  | .hbm, ⟨32, _⟩ => ⟨S128x2048, .f32⟩
  | .hbm, ⟨33, _⟩ => ⟨S_, .i32⟩
  | .hbm, ⟨34, _⟩ => ⟨S_, .f32⟩
  | .hbm, ⟨35, _⟩ => ⟨S128x2048, .f32⟩
  | .hbm, ⟨36, _⟩ => ⟨S_, .i32⟩
  | .hbm, ⟨37, _⟩ => ⟨S_, .f32⟩
  | .hbm, ⟨38, _⟩ => ⟨S128x2048, .f32⟩
  | .hbm, ⟨39, _⟩ => ⟨S1x128x2048, .f32⟩
  | .hbm, ⟨40, _⟩ => ⟨S1x128x2048, .f32⟩
  | .hbm, ⟨41, _⟩ => ⟨S1x128x2048, .f32⟩
  | .hbm, ⟨42, _⟩ => ⟨S3x128x2048, .f32⟩
  | .hbm, ⟨43, _⟩ => ⟨S3x128x2048, .bf16⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S1x1x2048, .f32⟩
  | .hbm, ⟨48, _⟩ => ⟨S1x1x2048, .f32⟩
  | .hbm, ⟨49, _⟩ => ⟨S1x1x2048, .f32⟩
  | .hbm, ⟨50, _⟩ => ⟨S3x1x2048, .f32⟩
  | .hbm, ⟨51, _⟩ => ⟨S2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S16384x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S3x256x128, .bf16⟩
  | .local _ .vmem, ⟨9, _⟩ => ⟨S3x256x128, .bf16⟩
  | .local _ .vmem, ⟨10, _⟩ => ⟨S3x128x2048, .bf16⟩
  | .local _ .vmem, ⟨11, _⟩ => ⟨S3x1x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S256x2048, .bf16⟩
  | .local _ .vmem, ⟨20, _⟩ => ⟨S256x2048, .bf16⟩
  | .local _ .vmem, ⟨21, _⟩ => ⟨S8x256x256, .f32⟩
  | _, _ => ⟨S4x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_v1 : Ref sig .tc := ⟨.hbm, 21, rfl⟩
abbrev main_c_1 : Ref sig .tc := ⟨.hbm, 22, rfl⟩
abbrev main_call2_v0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_2 : Ref sig .tc := ⟨.hbm, 30, rfl⟩
abbrev main_call3_v0 : Ref sig .tc := ⟨.hbm, 31, rfl⟩
abbrev main_v8 : Ref sig .tc := ⟨.hbm, 32, rfl⟩
abbrev main_c_3 : Ref sig .tc := ⟨.hbm, 33, rfl⟩
abbrev main_call4_v0 : Ref sig .tc := ⟨.hbm, 34, rfl⟩
abbrev main_v9 : Ref sig .tc := ⟨.hbm, 35, rfl⟩
abbrev main_c_4 : Ref sig .tc := ⟨.hbm, 36, rfl⟩
abbrev main_call5_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let c0_i32 : BitVec 32 := 0#32
  ![c1_i32.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let c0_i32 : BitVec 32 := 0#32
  ![c2_i32.toNat, v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let c0_i32 : BitVec 32 := 0#32
  ![c3_i32.toNat, v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let c0_i32 : BitVec 32 := 0#32
  ![c2_i32.toNat, v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S3x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S3x128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S3x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true, false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== Reference14Ideal.lean ====
abbrev S4x16384x2048 : Shape := ⟨3, ![4, 16384, 2048]⟩
abbrev S16384x96 : Shape := ⟨2, ![16384, 96]⟩
abbrev S16384x64 : Shape := ⟨2, ![16384, 64]⟩
abbrev S2048 : Shape := ⟨1, ![2048]⟩
abbrev S96x2048 : Shape := ⟨2, ![96, 2048]⟩
abbrev S64x2048 : Shape := ⟨2, ![64, 2048]⟩
abbrev S32x64 : Shape := ⟨2, ![32, 64]⟩
abbrev S1x16384x2048 : Shape := ⟨3, ![1, 16384, 2048]⟩
abbrev S16384x2048 : Shape := ⟨2, ![16384, 2048]⟩
abbrev S1x2048 : Shape := ⟨2, ![1, 2048]⟩
abbrev S_ : Shape := ⟨0, ![]⟩
abbrev S4x4x4096x2048 : Shape := ⟨4, ![4, 4, 4096, 2048]⟩
abbrev S1x4x4096x2048 : Shape := ⟨4, ![1, 4, 4096, 2048]⟩
abbrev S4x4096x2048 : Shape := ⟨3, ![4, 4096, 2048]⟩
abbrev S1x1x2048 : Shape := ⟨3, ![1, 1, 2048]⟩
abbrev S4x4096x32x64 : Shape := ⟨4, ![4, 4096, 32, 64]⟩
abbrev S4x4096x32 : Shape := ⟨3, ![4, 4096, 32]⟩
abbrev S4x4096x32x1 : Shape := ⟨4, ![4, 4096, 32, 1]⟩
abbrev S4096x4x32x64 : Shape := ⟨4, ![4096, 4, 32, 64]⟩
abbrev S4x32x64x64 : Shape := ⟨4, ![4, 32, 64, 64]⟩
abbrev S1x4x32x64 : Shape := ⟨4, ![1, 4, 32, 64]⟩
abbrev S4x32x64 : Shape := ⟨3, ![4, 32, 64]⟩
abbrev S4x32x1x64 : Shape := ⟨4, ![4, 32, 1, 64]⟩
abbrev S4x32x64x1 : Shape := ⟨4, ![4, 32, 64, 1]⟩
abbrev S1x1x32x64 : Shape := ⟨4, ![1, 1, 32, 64]⟩

abbrev nBuf : Space → Nat
  | .hbm => 337
  | .vmem => 0
  | .smem => 0
  | _ => 0

abbrev hbmTy0_0 (i : Nat) : BufTy := match i % 128 with
  | 0 => ⟨S4x16384x2048, .f32⟩
  | 1 => ⟨S4x16384x2048, .f32⟩
  | 2 => ⟨S16384x96, .f32⟩
  | 3 => ⟨S16384x96, .f32⟩
  | 4 => ⟨S16384x64, .f32⟩
  | 5 => ⟨S2048, .f32⟩
  | 6 => ⟨S96x2048, .f32⟩
  | 7 => ⟨S2048, .f32⟩
  | 8 => ⟨S96x2048, .f32⟩
  | 9 => ⟨S2048, .f32⟩
  | 10 => ⟨S64x2048, .f32⟩
  | 11 => ⟨S2048, .f32⟩
  | 12 => ⟨S2048, .f32⟩
  | 13 => ⟨S32x64, .f32⟩
  | 14 => ⟨S2048, .f32⟩
  | 15 => ⟨S2048, .f32⟩
  | 16 => ⟨S1x16384x2048, .f32⟩
  | 17 => ⟨S16384x2048, .f32⟩
  | 18 => ⟨S1x16384x2048, .f32⟩
  | 19 => ⟨S16384x2048, .f32⟩
  | 20 => ⟨S1x16384x2048, .f32⟩
  | 21 => ⟨S16384x2048, .f32⟩
  | 22 => ⟨S16384x2048, .f32⟩
  | 23 => ⟨S16384x2048, .f32⟩
  | 24 => ⟨S1x2048, .f32⟩
  | 25 => ⟨S16384x2048, .f32⟩
  | 26 => ⟨S16384x2048, .f32⟩
  | 27 => ⟨S16384x2048, .f32⟩
  | 28 => ⟨S16384x2048, .f32⟩
  | 29 => ⟨S_, .f32⟩
  | 30 => ⟨S16384x2048, .f32⟩
  | 31 => ⟨S16384x2048, .f32⟩
  | 32 => ⟨S_, .f32⟩
  | 33 => ⟨S16384x2048, .f32⟩
  | 34 => ⟨S16384x2048, .f32⟩
  | 35 => ⟨S16384x2048, .f32⟩
  | 36 => ⟨S16384x2048, .f32⟩
  | 37 => ⟨S1x16384x2048, .f32⟩
  | 38 => ⟨S16384x2048, .f32⟩
  | 39 => ⟨S1x16384x2048, .f32⟩
  | 40 => ⟨S16384x2048, .f32⟩
  | 41 => ⟨S1x16384x2048, .f32⟩
  | 42 => ⟨S16384x2048, .f32⟩
  | 43 => ⟨S1x16384x2048, .f32⟩
  | 44 => ⟨S1x16384x2048, .f32⟩
  | 45 => ⟨S1x16384x2048, .f32⟩
  | 46 => ⟨S1x16384x2048, .f32⟩
  | 47 => ⟨S4x16384x2048, .f32⟩
  | 48 => ⟨S4x4x4096x2048, .f32⟩
  | 49 => ⟨S1x4x4096x2048, .f32⟩
  | 50 => ⟨S4x4096x2048, .f32⟩
  | 51 => ⟨S1x4x4096x2048, .f32⟩
  | 52 => ⟨S4x4096x2048, .f32⟩
  | 53 => ⟨S1x4x4096x2048, .f32⟩
  | 54 => ⟨S4x4096x2048, .f32⟩
  | 55 => ⟨S16384x2048, .f32⟩
  | 56 => ⟨S4x4096x2048, .f32⟩
  | 57 => ⟨S1x1x2048, .f32⟩
  | 58 => ⟨S4x4096x2048, .f32⟩
  | 59 => ⟨S4x4096x2048, .f32⟩
  | 60 => ⟨S4x4096x2048, .f32⟩
  | 61 => ⟨S_, .f32⟩
  | 62 => ⟨S4x4096x2048, .f32⟩
  | 63 => ⟨S4x4096x2048, .f32⟩
  | 64 => ⟨S4x4096x2048, .f32⟩
  | 65 => ⟨S4x4096x2048, .f32⟩
  | 66 => ⟨S4x4096x2048, .i1⟩
  | 67 => ⟨S4x4096x2048, .f32⟩
  | 68 => ⟨S4x4096x2048, .f32⟩
  | 69 => ⟨S4x4096x2048, .f32⟩
  | 70 => ⟨S4x4096x2048, .f32⟩
  | 71 => ⟨S4x4096x2048, .f32⟩
  | 72 => ⟨S4x4096x2048, .f32⟩
  | 73 => ⟨S4x4096x2048, .f32⟩
  | 74 => ⟨S4x4096x2048, .f32⟩
  | 75 => ⟨S4x4096x2048, .f32⟩
  | 76 => ⟨S4x4096x2048, .f32⟩
  | 77 => ⟨S_, .f32⟩
  | 78 => ⟨S4x4096x2048, .f32⟩
  | 79 => ⟨S4x4096x2048, .f32⟩
  | 80 => ⟨S4x4096x2048, .f32⟩
  | 81 => ⟨S4x4096x2048, .f32⟩
  | 82 => ⟨S16384x2048, .f32⟩
  | 83 => ⟨S4x4096x2048, .f32⟩
  | 84 => ⟨S1x1x2048, .f32⟩
  | 85 => ⟨S4x4096x2048, .f32⟩
  | 86 => ⟨S4x4096x2048, .f32⟩
  | 87 => ⟨S4x4096x2048, .f32⟩
  | 88 => ⟨S4x4096x2048, .f32⟩
  | 89 => ⟨S_, .f32⟩
  | 90 => ⟨S4x4096x2048, .f32⟩
  | 91 => ⟨S4x4096x2048, .f32⟩
  | 92 => ⟨S_, .f32⟩
  | 93 => ⟨S4x4096x2048, .f32⟩
  | 94 => ⟨S4x4096x2048, .f32⟩
  | 95 => ⟨S1x1x2048, .f32⟩
  | 96 => ⟨S4x4096x2048, .f32⟩
  | 97 => ⟨S4x4096x2048, .f32⟩
  | 98 => ⟨S4x4096x32x64, .f32⟩
  | 99 => ⟨S4x4096x32x64, .f32⟩
  | 100 => ⟨S_, .f32⟩
  | 101 => ⟨S4x4096x32, .f32⟩
  | 102 => ⟨S4x4096x32x1, .f32⟩
  | 103 => ⟨S4x4096x32x1, .f32⟩
  | 104 => ⟨S_, .f32⟩
  | 105 => ⟨S4x4096x32x1, .f32⟩
  | 106 => ⟨S4x4096x32x1, .f32⟩
  | 107 => ⟨S4x4096x32x64, .f32⟩
  | 108 => ⟨S4x4096x32x64, .f32⟩
  | 109 => ⟨S_, .f32⟩
  | 110 => ⟨S4x4096x2048, .f32⟩
  | 111 => ⟨S4x4096x2048, .f32⟩
  | 112 => ⟨S1x1x2048, .f32⟩
  | 113 => ⟨S4x4096x2048, .f32⟩
  | 114 => ⟨S4x4096x2048, .f32⟩
  | 115 => ⟨S_, .f32⟩
  | 116 => ⟨S4x4096x2048, .f32⟩
  | 117 => ⟨S4x4096x2048, .f32⟩
  | 118 => ⟨S4x4096x2048, .f32⟩
  | 119 => ⟨S4x4096x32x64, .f32⟩
  | 120 => ⟨S4x4096x32x64, .f32⟩
  | 121 => ⟨S4x4096x32x64, .f32⟩
  | 122 => ⟨S4x4096x32x64, .f32⟩
  | 123 => ⟨S4x4096x32x64, .f32⟩
  | 124 => ⟨S4x4096x32x64, .f32⟩
  | 125 => ⟨S4x4096x32x64, .f32⟩
  | 126 => ⟨S4096x4x32x64, .f32⟩
  | 127 => ⟨S4096x4x32x64, .f32⟩
  | _ => ⟨S4x16384x2048, .f32⟩

abbrev hbmTy0_1 (i : Nat) : BufTy := match i % 128 with
  | 0 => ⟨S4096x4x32x64, .f32⟩
  | 1 => ⟨S4096x4x32x64, .f32⟩
  | 2 => ⟨S4096x4x32x64, .f32⟩
  | 3 => ⟨S4096x4x32x64, .f32⟩
  | 4 => ⟨S_, .f32⟩
  | 5 => ⟨S4x32x64x64, .f32⟩
  | 6 => ⟨S_, .f32⟩
  | 7 => ⟨S4096x4x32x64, .f32⟩
  | 8 => ⟨S_, .i32⟩
  | 9 => ⟨S4096x4x32x64, .f32⟩
  | 10 => ⟨S4096x4x32x64, .f32⟩
  | 11 => ⟨S4096x4x32x64, .f32⟩
  | 12 => ⟨S4096x4x32x64, .f32⟩
  | 13 => ⟨S4096x4x32x64, .f32⟩
  | 14 => ⟨S4096x4x32x64, .f32⟩
  | 15 => ⟨S_, .i32⟩
  | 16 => ⟨S4x32x64x64, .f32⟩
  | 17 => ⟨S4096x4x32x64, .f32⟩
  | 18 => ⟨S_, .i32⟩
  | 19 => ⟨S_, .i1⟩
  | 20 => ⟨S_, .i32⟩
  | 21 => ⟨S_, .i32⟩
  | 22 => ⟨S_, .i32⟩
  | 23 => ⟨S1x4x32x64, .f32⟩
  | 24 => ⟨S4x32x64, .f32⟩
  | 25 => ⟨S_, .i32⟩
  | 26 => ⟨S_, .i32⟩
  | 27 => ⟨S_, .i32⟩
  | 28 => ⟨S1x4x32x64, .f32⟩
  | 29 => ⟨S4x32x64, .f32⟩
  | 30 => ⟨S_, .i32⟩
  | 31 => ⟨S_, .i32⟩
  | 32 => ⟨S_, .i32⟩
  | 33 => ⟨S1x4x32x64, .f32⟩
  | 34 => ⟨S4x32x64, .f32⟩
  | 35 => ⟨S_, .i32⟩
  | 36 => ⟨S_, .i32⟩
  | 37 => ⟨S_, .i32⟩
  | 38 => ⟨S1x4x32x64, .f32⟩
  | 39 => ⟨S4x32x64, .f32⟩
  | 40 => ⟨S_, .i32⟩
  | 41 => ⟨S_, .i32⟩
  | 42 => ⟨S_, .i32⟩
  | 43 => ⟨S1x4x32x64, .f32⟩
  | 44 => ⟨S4x32x64, .f32⟩
  | 45 => ⟨S_, .i32⟩
  | 46 => ⟨S_, .i32⟩
  | 47 => ⟨S_, .i32⟩
  | 48 => ⟨S1x4x32x64, .f32⟩
  | 49 => ⟨S4x32x64, .f32⟩
  | 50 => ⟨S4x32x64, .f32⟩
  | 51 => ⟨S4x32x1x64, .f32⟩
  | 52 => ⟨S4x32x64x64, .f32⟩
  | 53 => ⟨S4x32x64x64, .f32⟩
  | 54 => ⟨S4x32x64x1, .f32⟩
  | 55 => ⟨S4x32x1x64, .f32⟩
  | 56 => ⟨S4x32x64x64, .f32⟩
  | 57 => ⟨S4x32x64x64, .f32⟩
  | 58 => ⟨S4x32x64x64, .f32⟩
  | 59 => ⟨S4x32x64x64, .f32⟩
  | 60 => ⟨S4x32x64x1, .f32⟩
  | 61 => ⟨S4x32x1x64, .f32⟩
  | 62 => ⟨S4x32x64x64, .f32⟩
  | 63 => ⟨S4x32x64x64, .f32⟩
  | 64 => ⟨S4x32x64x64, .f32⟩
  | 65 => ⟨S4x32x64x64, .f32⟩
  | 66 => ⟨S4x32x64, .f32⟩
  | 67 => ⟨S1x4x32x64, .f32⟩
  | 68 => ⟨S_, .i32⟩
  | 69 => ⟨S_, .i32⟩
  | 70 => ⟨S_, .i32⟩
  | 71 => ⟨S4096x4x32x64, .f32⟩
  | 72 => ⟨S_, .i32⟩
  | 73 => ⟨S_, .i32⟩
  | 74 => ⟨S4x4096x32x64, .f32⟩
  | 75 => ⟨S_, .f32⟩
  | 76 => ⟨S4x4096x32, .f32⟩
  | 77 => ⟨S4x4096x32x1, .f32⟩
  | 78 => ⟨S_, .f32⟩
  | 79 => ⟨S4x4096x32x1, .f32⟩
  | 80 => ⟨S4x4096x32x1, .f32⟩
  | 81 => ⟨S4x4096x32x64, .f32⟩
  | 82 => ⟨S4x4096x32x64, .f32⟩
  | 83 => ⟨S4x4096x32x64, .f32⟩
  | 84 => ⟨S_, .f32⟩
  | 85 => ⟨S4x4096x32, .f32⟩
  | 86 => ⟨S4x4096x32x1, .f32⟩
  | 87 => ⟨S_, .f32⟩
  | 88 => ⟨S4x4096x32x1, .f32⟩
  | 89 => ⟨S4x4096x32x1, .f32⟩
  | 90 => ⟨S4x4096x32x64, .f32⟩
  | 91 => ⟨S4x4096x32x64, .f32⟩
  | 92 => ⟨S_, .f32⟩
  | 93 => ⟨S4x4096x32x1, .f32⟩
  | 94 => ⟨S4x4096x32x1, .f32⟩
  | 95 => ⟨S4x4096x32x1, .f32⟩
  | 96 => ⟨S4x4096x32x64, .f32⟩
  | 97 => ⟨S4x4096x32x64, .f32⟩
  | 98 => ⟨S4x4096x2048, .f32⟩
  | 99 => ⟨S1x1x2048, .f32⟩
  | 100 => ⟨S4x4096x2048, .f32⟩
  | 101 => ⟨S4x4096x2048, .f32⟩
  | 102 => ⟨S1x1x2048, .f32⟩
  | 103 => ⟨S4x4096x2048, .f32⟩
  | 104 => ⟨S4x4096x2048, .f32⟩
  | 105 => ⟨S4x4x4096x2048, .f32⟩
  | 106 => ⟨S1x4x4096x2048, .f32⟩
  | 107 => ⟨S4x4096x2048, .f32⟩
  | 108 => ⟨S1x4x4096x2048, .f32⟩
  | 109 => ⟨S4x4096x2048, .f32⟩
  | 110 => ⟨S1x4x4096x2048, .f32⟩
  | 111 => ⟨S4x4096x2048, .f32⟩
  | 112 => ⟨S16384x2048, .f32⟩
  | 113 => ⟨S4x4096x2048, .f32⟩
  | 114 => ⟨S1x1x2048, .f32⟩
  | 115 => ⟨S4x4096x2048, .f32⟩
  | 116 => ⟨S4x4096x2048, .f32⟩
  | 117 => ⟨S4x4096x2048, .f32⟩
  | 118 => ⟨S_, .f32⟩
  | 119 => ⟨S4x4096x2048, .f32⟩
  | 120 => ⟨S4x4096x2048, .f32⟩
  | 121 => ⟨S4x4096x2048, .f32⟩
  | 122 => ⟨S4x4096x2048, .f32⟩
  | 123 => ⟨S4x4096x2048, .i1⟩
  | 124 => ⟨S4x4096x2048, .f32⟩
  | 125 => ⟨S4x4096x2048, .f32⟩
  | 126 => ⟨S4x4096x2048, .f32⟩
  | 127 => ⟨S4x4096x2048, .f32⟩
  | _ => ⟨S4x16384x2048, .f32⟩

abbrev hbmTy0_2 (i : Nat) : BufTy := match i % 128 with
  | 0 => ⟨S4x4096x2048, .f32⟩
  | 1 => ⟨S4x4096x2048, .f32⟩
  | 2 => ⟨S4x4096x2048, .f32⟩
  | 3 => ⟨S4x4096x2048, .f32⟩
  | 4 => ⟨S4x4096x2048, .f32⟩
  | 5 => ⟨S4x4096x2048, .f32⟩
  | 6 => ⟨S_, .f32⟩
  | 7 => ⟨S4x4096x2048, .f32⟩
  | 8 => ⟨S4x4096x2048, .f32⟩
  | 9 => ⟨S4x4096x2048, .f32⟩
  | 10 => ⟨S4x4096x2048, .f32⟩
  | 11 => ⟨S16384x2048, .f32⟩
  | 12 => ⟨S4x4096x2048, .f32⟩
  | 13 => ⟨S1x1x2048, .f32⟩
  | 14 => ⟨S4x4096x2048, .f32⟩
  | 15 => ⟨S4x4096x2048, .f32⟩
  | 16 => ⟨S4x4096x2048, .f32⟩
  | 17 => ⟨S4x4096x2048, .f32⟩
  | 18 => ⟨S_, .f32⟩
  | 19 => ⟨S4x4096x2048, .f32⟩
  | 20 => ⟨S4x4096x2048, .f32⟩
  | 21 => ⟨S_, .f32⟩
  | 22 => ⟨S4x4096x2048, .f32⟩
  | 23 => ⟨S4x4096x2048, .f32⟩
  | 24 => ⟨S1x1x2048, .f32⟩
  | 25 => ⟨S4x4096x2048, .f32⟩
  | 26 => ⟨S4x4096x2048, .f32⟩
  | 27 => ⟨S4x4096x32x64, .f32⟩
  | 28 => ⟨S4x4096x32x64, .f32⟩
  | 29 => ⟨S_, .f32⟩
  | 30 => ⟨S4x4096x32, .f32⟩
  | 31 => ⟨S4x4096x32x1, .f32⟩
  | 32 => ⟨S4x4096x32x1, .f32⟩
  | 33 => ⟨S_, .f32⟩
  | 34 => ⟨S4x4096x32x1, .f32⟩
  | 35 => ⟨S4x4096x32x1, .f32⟩
  | 36 => ⟨S4x4096x32x64, .f32⟩
  | 37 => ⟨S4x4096x32x64, .f32⟩
  | 38 => ⟨S_, .f32⟩
  | 39 => ⟨S4x4096x2048, .f32⟩
  | 40 => ⟨S4x4096x2048, .f32⟩
  | 41 => ⟨S1x1x2048, .f32⟩
  | 42 => ⟨S4x4096x2048, .f32⟩
  | 43 => ⟨S4x4096x2048, .f32⟩
  | 44 => ⟨S_, .f32⟩
  | 45 => ⟨S4x4096x2048, .f32⟩
  | 46 => ⟨S4x4096x2048, .f32⟩
  | 47 => ⟨S4x4096x2048, .f32⟩
  | 48 => ⟨S4x4096x32x64, .f32⟩
  | 49 => ⟨S4x4096x32x64, .f32⟩
  | 50 => ⟨S4x4096x32x64, .f32⟩
  | 51 => ⟨S4x4096x32x64, .f32⟩
  | 52 => ⟨S4x4096x32x64, .f32⟩
  | 53 => ⟨S4x4096x32x64, .f32⟩
  | 54 => ⟨S4x4096x32x64, .f32⟩
  | 55 => ⟨S4x4096x32x64, .f32⟩
  | 56 => ⟨S1x1x32x64, .f32⟩
  | 57 => ⟨S4x4096x32x64, .f32⟩
  | 58 => ⟨S4x4096x32x64, .f32⟩
  | 59 => ⟨S_, .f32⟩
  | 60 => ⟨S4x4096x32, .f32⟩
  | 61 => ⟨S4x4096x32x1, .f32⟩
  | 62 => ⟨S4x4096x32x64, .f32⟩
  | 63 => ⟨S4x4096x32x64, .f32⟩
  | 64 => ⟨S4x4x4096x2048, .f32⟩
  | 65 => ⟨S1x4x4096x2048, .f32⟩
  | 66 => ⟨S4x4096x2048, .f32⟩
  | 67 => ⟨S4x4096x2048, .f32⟩
  | 68 => ⟨S4x4096x2048, .f32⟩
  | 69 => ⟨S4x4096x2048, .f32⟩
  | 70 => ⟨S4x4096x2048, .f32⟩
  | 71 => ⟨S_, .f32⟩
  | 72 => ⟨S4x4096x2048, .f32⟩
  | 73 => ⟨S4x4096x2048, .f32⟩
  | 74 => ⟨S_, .f32⟩
  | 75 => ⟨S4x4096x2048, .f32⟩
  | 76 => ⟨S4x4096x2048, .f32⟩
  | 77 => ⟨S4x4096x2048, .f32⟩
  | 78 => ⟨S4x4096x2048, .f32⟩
  | 79 => ⟨S16384x2048, .f32⟩
  | 80 => ⟨S16384x2048, .bf16⟩
  | _ => ⟨S4x16384x2048, .f32⟩

abbrev hbmTy (i : Nat) : BufTy := match i / 128 with
  | 0 => hbmTy0_0 i
  | 1 => hbmTy0_1 i
  | 2 => hbmTy0_2 i
  | _ => ⟨S4x16384x2048, .f32⟩

abbrev bufTy : (tb : Table) → Fin (tcTables nBuf tb) → BufTy
  | .hbm, ⟨i, _⟩ => hbmTy i
  | _, _ => ⟨S4x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_2 : Ref sig .tc := ⟨.hbm, 89, rfl⟩
abbrev main_v57 : Ref sig .tc := ⟨.hbm, 90, rfl⟩
abbrev main_v58 : Ref sig .tc := ⟨.hbm, 91, rfl⟩
abbrev main_cst_3 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_4 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_5 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_6 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_7 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_8 : Ref sig .tc := ⟨.hbm, 132, rfl⟩
abbrev main_v94 : Ref sig .tc := ⟨.hbm, 133, rfl⟩
abbrev main_cst_9 : Ref sig .tc := ⟨.hbm, 134, rfl⟩
abbrev main_v95 : Ref sig .tc := ⟨.hbm, 135, rfl⟩
abbrev main_c : Ref sig .tc := ⟨.hbm, 136, rfl⟩
abbrev main_v96_0 : Ref sig .tc := ⟨.hbm, 137, rfl⟩
abbrev main_v96_1 : Ref sig .tc := ⟨.hbm, 138, rfl⟩
abbrev main_v96_2 : Ref sig .tc := ⟨.hbm, 139, rfl⟩
abbrev main_v96_3 : Ref sig .tc := ⟨.hbm, 140, rfl⟩
abbrev main_v96_4 : Ref sig .tc := ⟨.hbm, 141, rfl⟩
abbrev main_v96_5 : Ref sig .tc := ⟨.hbm, 142, rfl⟩
abbrev main_v96_6 : Ref sig .tc := ⟨.hbm, 143, rfl⟩
abbrev main_v96_7 : Ref sig .tc := ⟨.hbm, 144, rfl⟩
abbrev main_v96_8 : Ref sig .tc := ⟨.hbm, 145, rfl⟩
abbrev main_while0c_c_31 : Ref sig .tc := ⟨.hbm, 146, rfl⟩
abbrev main_while0c_v198 : Ref sig .tc := ⟨.hbm, 147, rfl⟩
abbrev main_while0b_call1_c : Ref sig .tc := ⟨.hbm, 148, rfl⟩
abbrev main_while0b_call1_c_0 : Ref sig .tc := ⟨.hbm, 149, rfl⟩
abbrev main_while0b_call1_c_1 : Ref sig .tc := ⟨.hbm, 150, rfl⟩
abbrev main_while0b_call1_v0 : Ref sig .tc := ⟨.hbm, 151, rfl⟩
abbrev main_while0b_v198 : Ref sig .tc := ⟨.hbm, 152, rfl⟩
abbrev main_while0b_call2_c : Ref sig .tc := ⟨.hbm, 153, rfl⟩
abbrev main_while0b_call2_c_0 : Ref sig .tc := ⟨.hbm, 154, rfl⟩
abbrev main_while0b_call2_c_1 : Ref sig .tc := ⟨.hbm, 155, rfl⟩
abbrev main_while0b_call2_v0 : Ref sig .tc := ⟨.hbm, 156, rfl⟩
abbrev main_while0b_v199 : Ref sig .tc := ⟨.hbm, 157, rfl⟩
abbrev main_while0b_call3_c : Ref sig .tc := ⟨.hbm, 158, rfl⟩
abbrev main_while0b_call3_c_0 : Ref sig .tc := ⟨.hbm, 159, rfl⟩
abbrev main_while0b_call3_c_1 : Ref sig .tc := ⟨.hbm, 160, rfl⟩
abbrev main_while0b_call3_v0 : Ref sig .tc := ⟨.hbm, 161, rfl⟩
abbrev main_while0b_v200 : Ref sig .tc := ⟨.hbm, 162, rfl⟩
abbrev main_while0b_call4_c : Ref sig .tc := ⟨.hbm, 163, rfl⟩
abbrev main_while0b_call4_c_0 : Ref sig .tc := ⟨.hbm, 164, rfl⟩
abbrev main_while0b_call4_c_1 : Ref sig .tc := ⟨.hbm, 165, rfl⟩
abbrev main_while0b_call4_v0 : Ref sig .tc := ⟨.hbm, 166, rfl⟩
abbrev main_while0b_v201 : Ref sig .tc := ⟨.hbm, 167, rfl⟩
abbrev main_while0b_call5_c : Ref sig .tc := ⟨.hbm, 168, rfl⟩
abbrev main_while0b_call5_c_0 : Ref sig .tc := ⟨.hbm, 169, rfl⟩
abbrev main_while0b_call5_c_1 : Ref sig .tc := ⟨.hbm, 170, rfl⟩
abbrev main_while0b_call5_v0 : Ref sig .tc := ⟨.hbm, 171, rfl⟩
abbrev main_while0b_v202 : Ref sig .tc := ⟨.hbm, 172, rfl⟩
abbrev main_while0b_call6_c : Ref sig .tc := ⟨.hbm, 173, rfl⟩
abbrev main_while0b_call6_c_0 : Ref sig .tc := ⟨.hbm, 174, rfl⟩
abbrev main_while0b_call6_c_1 : Ref sig .tc := ⟨.hbm, 175, rfl⟩
abbrev main_while0b_call6_v0 : Ref sig .tc := ⟨.hbm, 176, rfl⟩
abbrev main_while0b_v203 : Ref sig .tc := ⟨.hbm, 177, rfl⟩
abbrev main_while0b_v204 : Ref sig .tc := ⟨.hbm, 178, rfl⟩
abbrev main_while0b_v205 : Ref sig .tc := ⟨.hbm, 179, rfl⟩
abbrev main_while0b_v206 : Ref sig .tc := ⟨.hbm, 180, rfl⟩
abbrev main_while0b_v207 : Ref sig .tc := ⟨.hbm, 181, rfl⟩
abbrev main_while0b_v208 : Ref sig .tc := ⟨.hbm, 182, rfl⟩
abbrev main_while0b_v209 : Ref sig .tc := ⟨.hbm, 183, rfl⟩
abbrev main_while0b_v210 : Ref sig .tc := ⟨.hbm, 184, rfl⟩
abbrev main_while0b_v211 : Ref sig .tc := ⟨.hbm, 185, rfl⟩
abbrev main_while0b_v212 : Ref sig .tc := ⟨.hbm, 186, rfl⟩
abbrev main_while0b_v213 : Ref sig .tc := ⟨.hbm, 187, rfl⟩
abbrev main_while0b_v214 : Ref sig .tc := ⟨.hbm, 188, rfl⟩
abbrev main_while0b_v215 : Ref sig .tc := ⟨.hbm, 189, rfl⟩
abbrev main_while0b_v216 : Ref sig .tc := ⟨.hbm, 190, rfl⟩
abbrev main_while0b_v217 : Ref sig .tc := ⟨.hbm, 191, rfl⟩
abbrev main_while0b_v218 : Ref sig .tc := ⟨.hbm, 192, rfl⟩
abbrev main_while0b_v219 : Ref sig .tc := ⟨.hbm, 193, rfl⟩
abbrev main_while0b_v220 : Ref sig .tc := ⟨.hbm, 194, rfl⟩
abbrev main_while0b_call7_v0 : Ref sig .tc := ⟨.hbm, 195, rfl⟩
abbrev main_while0b_call7_c : Ref sig .tc := ⟨.hbm, 196, rfl⟩
abbrev main_while0b_call7_c_0 : Ref sig .tc := ⟨.hbm, 197, rfl⟩
abbrev main_while0b_call7_c_1 : Ref sig .tc := ⟨.hbm, 198, rfl⟩
abbrev main_while0b_v221 : Ref sig .tc := ⟨.hbm, 199, rfl⟩
abbrev main_while0b_c_31 : Ref sig .tc := ⟨.hbm, 200, rfl⟩
abbrev main_while0b_v222 : Ref sig .tc := ⟨.hbm, 201, rfl⟩
abbrev main_v97 : Ref sig .tc := ⟨.hbm, 202, rfl⟩
abbrev main_cst_10 : Ref sig .tc := ⟨.hbm, 203, rfl⟩
abbrev main_v98 : Ref sig .tc := ⟨.hbm, 204, rfl⟩
abbrev main_v99 : Ref sig .tc := ⟨.hbm, 205, rfl⟩
abbrev main_cst_11 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_cst_12 : Ref sig .tc := ⟨.hbm, 212, rfl⟩
abbrev main_v105 : Ref sig .tc := ⟨.hbm, 213, rfl⟩
abbrev main_v106 : Ref sig .tc := ⟨.hbm, 214, rfl⟩
abbrev main_cst_13 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_cst_14 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_call8_cst : Ref sig .tc := ⟨.hbm, 246, rfl⟩
abbrev main_call8_v0 : Ref sig .tc := ⟨.hbm, 247, rfl⟩
abbrev main_call8_v1 : Ref sig .tc := ⟨.hbm, 248, rfl⟩
abbrev main_call8_v2 : Ref sig .tc := ⟨.hbm, 249, rfl⟩
abbrev main_call8_v3 : Ref sig .tc := ⟨.hbm, 250, rfl⟩
abbrev main_call8_v4 : Ref sig .tc := ⟨.hbm, 251, rfl⟩
abbrev main_call8_v5 : Ref sig .tc := ⟨.hbm, 252, rfl⟩
abbrev main_call8_v6 : Ref sig .tc := ⟨.hbm, 253, rfl⟩
abbrev main_call8_v7 : Ref sig .tc := ⟨.hbm, 254, rfl⟩
abbrev main_call8_v8 : Ref sig .tc := ⟨.hbm, 255, rfl⟩
abbrev main_call8_v9 : Ref sig .tc := ⟨.hbm, 256, rfl⟩
abbrev main_call8_v10 : Ref sig .tc := ⟨.hbm, 257, rfl⟩
abbrev main_call8_v11 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_cst_15 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_cst_16 : Ref sig .tc := ⟨.hbm, 274, rfl⟩
abbrev main_v150 : Ref sig .tc := ⟨.hbm, 275, rfl⟩
abbrev main_v151 : Ref sig .tc := ⟨.hbm, 276, rfl⟩
abbrev main_cst_17 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_v157 : Ref sig .tc := ⟨.hbm, 283, rfl⟩
abbrev main_v158 : Ref sig .tc := ⟨.hbm, 284, rfl⟩
abbrev main_cst_18 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_cst_19 : Ref sig .tc := ⟨.hbm, 289, rfl⟩
abbrev main_v162 : Ref sig .tc := ⟨.hbm, 290, rfl⟩
abbrev main_v163 : Ref sig .tc := ⟨.hbm, 291, rfl⟩
abbrev main_v164 : Ref sig .tc := ⟨.hbm, 292, rfl⟩
abbrev main_v165 : Ref sig .tc := ⟨.hbm, 293, rfl⟩
abbrev main_cst_20 : Ref sig .tc := ⟨.hbm, 294, rfl⟩
abbrev main_v166 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_v170 : Ref sig .tc := ⟨.hbm, 299, rfl⟩
abbrev main_cst_21 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_v181 : Ref sig .tc := ⟨.hbm, 311, rfl⟩
abbrev main_v182 : Ref sig .tc := ⟨.hbm, 312, rfl⟩
abbrev main_v183 : Ref sig .tc := ⟨.hbm, 313, rfl⟩
abbrev main_v184 : Ref sig .tc := ⟨.hbm, 314, rfl⟩
abbrev main_cst_22 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_call9_v0 : Ref sig .tc := ⟨.hbm, 325, rfl⟩
abbrev main_call9_v1 : Ref sig .tc := ⟨.hbm, 326, rfl⟩
abbrev main_call9_cst : Ref sig .tc := ⟨.hbm, 327, rfl⟩
abbrev main_call9_v2 : Ref sig .tc := ⟨.hbm, 328, rfl⟩
abbrev main_call9_v3 : Ref sig .tc := ⟨.hbm, 329, rfl⟩
abbrev main_call9_cst_0 : Ref sig .tc := ⟨.hbm, 330, rfl⟩
abbrev main_call9_v4 : Ref sig .tc := ⟨.hbm, 331, rfl⟩
abbrev main_call9_v5 : Ref sig .tc := ⟨.hbm, 332, rfl⟩
abbrev main_v194 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩

abbrev nD : Nat := 1
abbrev τ : Topo := Topo.v7x

variable {F : FTy → Type} [FloatOps F]

abbrev main_while0_count : Scf.Loop 32 := ⟨0#32, 4096#32, 1#32⟩
-- ==== Proof.Plain.K2.lean ====
/- The receptance, key, value and gate projections: the kernel's four products equal the one contraction of the reference. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.StableHlo.RunClose

@[expose] public section

set_option maxRecDepth 16384

noncomputable section

namespace Cert.Kernel2Ideal.Plain

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's product: token by token, each of the four streams times its own weight. -/
abbrev REF (X : FVec Ideal S4x16384x2048 .bf16) (W : FVec Ideal S4x2048x2048 .f32) : FVec Ideal S4x16384x2048 .f32 :=
  Host.dotGeneral Cert.Reference2Ideal.dot_S4x16384x2048_S4x2048x2048_S4x16384x2048_2_1_1_2_0_0 none
    (extf .f32 X Cert.Reference2Ideal.Gen.bitsLt_bf16_f32) W

/-- The blocks the grid's points read and write. -/
theorem idx : ∀ t : Fin cfg0.N, win0_0.index t = ![(grid0.coords t 0).val, (grid0.coords t 1).val, 0]
    ∧ win0_1.index t = ![(grid0.coords t 0).val, 0, (grid0.coords t 2).val]
    ∧ win0_2.index t = ![(grid0.coords t 0).val, (grid0.coords t 1).val, (grid0.coords t 2).val] :=
  (by decide +kernel : ∀ t : Fin grid0.N, _)

/-- What a point stores at an index of its block is the reference's product where the block lies. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Plain

end
-- ==== Proof.Plain.C2.lean ====
/- The claims about program 2: its reference runs as stated, and its kernel's results are the reference's. -/
module

public import proofs.«01_k».proof.Defs
public import proofs.«01_k».proof.Proof.Plain.K2
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 2 runs, its arguments unchanged. -/
theorem quiescent_Reference2 : Cert.quiescent_Reference2Ideal (hReference2Ideal := Cert.Reference2Ideal.Gen.facts) := by
  intro m g _
  exact (θ_run _ _ _).mono (fun r h => ⟨fun c => (h c).2, sem_eq_zero_of_no_sems (by decide) _⟩) (Cert.Reference2Ideal.Value.run m g)

/-- The results of program 2's kernel are its reference's, as numbers. -/
theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => (Cert.Kernel2Ideal.Gen.dats m 0 c).arrAt 2 Cert.Kernel2Ideal.cfg0.N,
    Cert.Kernel2Ideal.Value.run_blocks m g, (θ_run _ _ _).mono (fun r h c => ?_) (Cert.Reference2Ideal.Value.run m' g')⟩
  obtain ⟨h0, a0, a1⟩ := h c
  obtain ⟨e0, e1⟩ := hagree c
  simp only [e0, e1] at h0
  exact ⟨h0.trans (Cert.Kernel2Ideal.Plain.final m c).symm, a0, a1⟩

end Cert.Plain

end
-- ==== Proof.Plain.K3.lean ====
/- The attention layers' combined projection: the kernel's product equals the reference's, column by column. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.RunClose

@[expose] public section

set_option maxRecDepth 16384

noncomputable section

namespace Cert.Reference3Ideal.Plain

open Cert.Reference3Ideal Cert.Reference3Ideal.Gen Idealize.ShloMosaic Idealize.ShloMosaic.TcCoe

/-- The reference's product. -/
abbrev REF0 (x0 : FVec Ideal S16384x2048 .bf16) (x1 : FVec Ideal S2048x4144 .f32) : FVec Ideal S1x16384x4608 .f32 :=
  broadcastInDim S1x16384x4608 ![1, 2] bcast_S16384x4608_S1x16384x4608_1_2 ((concatenate S16384x4608 1 [⟨S16384x2048, ((extractStridedSlice S16384x2048 ![0, 0] (Host.dotGeneral dot_S16384x2048_S2048x4144_S16384x4144_1_0_0_1_n_n none (extf .f32 x0 bitsLt_bf16_f32) x1) slices_S16384x4144_S16384x2048_0_0) : (⟨S16384x2048, .f32⟩ : BufTy).Contents (Elt Ideal))⟩, ⟨S16384x2048, ((extractStridedSlice S16384x2048 ![0, 2096] (Host.dotGeneral dot_S16384x2048_S2048x4144_S16384x4144_1_0_0_1_n_n none (extf .f32 x0 bitsLt_bf16_f32) x1) slices_S16384x4144_S16384x2048_0_2096) : (⟨S16384x2048, .f32⟩ : BufTy).Contents (Elt Ideal))⟩, ⟨S16384x512, ((shapeCast _ (pad (α := Ideal .f32) S16384x4x128 ![0, 0, 0] ![0, 0, 116] ![0, 0, 0] (shapeCast _ (extractStridedSlice S16384x48 ![0, 2048] (Host.dotGeneral dot_S16384x2048_S2048x4144_S16384x4144_1_0_0_1_n_n none (extf .f32 x0 bitsLt_bf16_f32) x1) slices_S16384x4144_S16384x48_0_2048) shapeCasts_S16384x48_S16384x4x12) (sitofp (F := Ideal) .f32 (constantI S_ 32 0#32)) pads_S16384x4x12_S16384x4x128_000_000_01160 h_S_) shapeCasts_S16384x4x128_S16384x512) : (⟨S16384x512, .f32⟩ : BufTy).Contents (Elt Ideal))⟩] concatenates_S16384x2048_S16384x2048_S16384x512_S16384x4608_d1 : (⟨S16384x4608, .f32⟩ : BufTy).Contents (Elt Ideal)))

end Cert.Reference3Ideal.Plain

namespace Cert.Kernel3Ideal.Plain

open Cert.Kernel3Ideal Cert.Kernel3Ideal.Gen Idealize.ShloMosaic Idealize.ShloMosaic.TcCoe Idealize.SL.Sem
open Cert.Reference3Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, (grid0.coords t 1).val, 0]
    ∧ win0_1.index t = ![(grid0.coords t 0).val, 0, (grid0.coords t 2).val]
    ∧ win0_2.index t = ![(grid0.coords t 0).val, (grid0.coords t 1).val, (grid0.coords t 2).val]
    ∧ (grid0.coords t 0).val < 1 :=
  (by decide +kernel : ∀ t : Fin grid0.N, _)

/-- A row against the packed weight's column: the sum may be taken inside the column's cases. -/
theorem columns (a : Fin 2048 → Ideal .f32) (b : Fin 2048 → Fin 4144 → Ideal .f32) (j : Fin 4608) :
    ∑ k, a k * (if h : j.val < 2048 then b k ⟨j.val, by omega⟩
    else if h : j.val - 2048 < 2048 then b k ⟨2096 + (j.val - 2048), by omega⟩
    else if h : (j.val - 2048 - 2048) / 128 < 4 ∧ (j.val - 2048 - 2048) % 128 < 12 then
      b k ⟨2048 + ((j.val - 2048 - 2048) / 128 * 12 + (j.val - 2048 - 2048) % 128), by omega⟩
    else (FloatOps.sitofp .f32 0#32 : Ideal .f32))
    = if h : j.val < 2048 then ∑ k, a k * b k ⟨j.val, by omega⟩
    else if h : j.val - 2048 < 2048 then ∑ k, a k * b k ⟨2096 + (j.val - 2048), by omega⟩
    else if h : (j.val - 2048 - 2048) / 128 < 4 ∧ (j.val - 2048 - 2048) % 128 < 12 then
      ∑ k, a k * b k ⟨2048 + ((j.val - 2048 - 2048) / 128 * 12 + (j.val - 2048 - 2048) % 128), by omega⟩
    else (FloatOps.sitofp .f32 0#32 : Ideal .f32) := by
  have h0 : (FloatOps.sitofp .f32 0#32 : Ideal .f32) = 0 := by simp [FloatOps.sitofp]
  split_ifs
  · rfl
  · rfl
  · rfl
  · rw [h0]
    exact Finset.sum_eq_zero fun k _ => mul_zero _

/-- The packed weight as the kernel finds it, before its columns are read. -/
theorem packed_eq (c : Dev nD) : V m c main_v9 = broadcastInDim S1x2048x4608 ![1, 2] bcast_S2048x4608_S1x2048x4608_1_2
    (truncf .bf16 (concatenate S2048x4608 1 [⟨S2048x2048, (extractStridedSlice S2048x2048 ![0, 0] (m ((c : Thread nD τ).loc main_arg1)) slices_S2048x4144_S2048x2048_0_0 : FVec Ideal S2048x2048 .f32)⟩,
      ⟨S2048x2048, (extractStridedSlice S2048x2048 ![0, 2096] (m ((c : Thread nD τ).loc main_arg1)) slices_S2048x4144_S2048x2048_0_2096 : FVec Ideal S2048x2048 .f32)⟩,
      ⟨S2048x512, (shapeCast _ (pad (α := Ideal .f32) S2048x4x128 ![0, 0, 0] ![0, 0, 116] ![0, 0, 0] (shapeCast _ (extractStridedSlice S2048x48 ![0, 2048] (m ((c : Thread nD τ).loc main_arg1)) slices_S2048x4144_S2048x48_0_2048) shapeCasts_S2048x48_S2048x4x12)
        (sitofp (F := Ideal) .f32 (constantI S_ 32 0#32)) pads_S2048x4x12_S2048x4x128_000_000_01160 h_S_) shapeCasts_S2048x4x128_S2048x512 : FVec Ideal S2048x512 .f32)⟩]
      concatenates_S2048x2048_S2048x2048_S2048x512_S2048x4608_d1) bitsLt_bf16_f32) := by
  unfold V hostOps0 hostOps0_1 hostOps0_2
  simp only [List.flatten_cons, List.flatten_nil, List.append_nil, List.cons_append, List.nil_append]
  after_results_entrywise (rounds := 1) []

/-- The rows the kernel multiplies are the argument's. -/
theorem rows (c : Dev nD) (i : Fin 16384) (k : Fin 2048) : V m c main_v8 (ix3 0 i k) = m ((c : Thread nD τ).loc main_arg0) (ix2 i k) := by
  unfold V hostOps0 hostOps0_1 hostOps0_2
  simp only [List.flatten_cons, List.flatten_nil, List.append_nil, List.cons_append, List.nil_append]
  after_results
  pointwise

set_option maxRecDepth 65536 in
/-- The packed weight, column by column: the queries', the gate path's, then each group's twelve gate
    columns followed by zeros up to a lane tile. -/
theorem packed (c : Dev nD) (k : Fin 2048) (j : Fin 4608) : V m c main_v9 (ix3 0 k j) =
    if h : j.val < 2048 then m ((c : Thread nD τ).loc main_arg1) (ix2 k ⟨j.val, by omega⟩)
    else if h : j.val - 2048 < 2048 then m ((c : Thread nD τ).loc main_arg1) (ix2 k ⟨2096 + (j.val - 2048), by omega⟩)
    else if h : (j.val - 2048 - 2048) / 128 < 4 ∧ (j.val - 2048 - 2048) % 128 < 12 then
      m ((c : Thread nD τ).loc main_arg1) (ix2 k ⟨2048 + ((j.val - 2048 - 2048) / 128 * 12 + (j.val - 2048 - 2048) % 128), by omega⟩)
    else (FloatOps.sitofp .f32 0#32 : Ideal .f32) := by
  rw [packed_eq]
  pointwise

/-- What a point stores at an index of its block is the reference's product where the block lies. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  set_option maxRecDepth 65536 in
  pointwise [k0_pay1, REF0]
  have ha : ∀ k, iblk m c 0 t (ix3 0 (y 1) k) = m ((c : Thread nD τ).loc main_arg0) (ix2 (((cfg0.win 2).blk t).view.emb y 1) k) := fun k =>
    (congrArg (V m c main_v8) (show (win0_0.blk t).view.emb (ix3 0 (y 1) k) = ix3 0 (((cfg0.win 2).blk t).view.emb y 1) k from by blk_ext [idx t])).trans (rows m c _ k)
  have hb : ∀ k, iblk m c 1 t (ix3 0 k (y 2)) = V m c main_v9 (ix3 0 k (((cfg0.win 2).blk t).view.emb y 2)) := fun k =>
    congrArg (V m c main_v9) (show (win0_1.blk t).view.emb (ix3 0 k (y 2)) = ix3 0 k (((cfg0.win 2).blk t).view.emb y 2) from by blk_ext [idx t])
  refine (Finset.sum_congr rfl fun k _ => congrArg₂ _ (ha k) ((hb k).trans (packed m c k _))).trans ?_
  exact columns (fun k => m ((c : Thread nD τ).loc main_arg0) (ix2 (((cfg0.win 2).blk t).view.emb y 1) k)) (fun k l => m ((c : Thread nD τ).loc main_arg1) (ix2 k l)) (((cfg0.win 2).blk t).view.emb y 2)

/-- The result array after the run is the reference's product. -/
theorem final0 (c : Dev nD) : (dats m 0 c).arrAt 2 cfg0.N
    = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel3Ideal.Plain

end
-- ==== Proof.Plain.C3.lean ====
/- The claims about program 3: its reference runs as stated, and its kernel's results are the reference's. -/
module

public import proofs.«01_k».proof.Defs
public import proofs.«01_k».proof.Proof.Plain.K3
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 3 runs, its arguments unchanged. -/
theorem quiescent_Reference3 : Cert.quiescent_Reference3Ideal (hReference3Ideal := Cert.Reference3Ideal.Gen.facts) := by
  intro m g _
  exact (θ_run _ _ _).mono (fun r h => ⟨fun c => (h c).2, sem_eq_zero_of_no_sems (by decide) _⟩) (Cert.Reference3Ideal.Value.run m g)

/-- The results of program 3's kernel are its reference's, as numbers. -/
theorem algebraic3 : Cert.algebraic_Kernel3Ideal_Reference3Ideal (hKernel3Ideal := Cert.Kernel3Ideal.Gen.facts) (hReference3Ideal := Cert.Reference3Ideal.Gen.facts) := by
  intro m g m' g' _ hagree
  refine ⟨fun c => (Cert.Kernel3Ideal.Gen.dats m 0 c).arrAt 2 Cert.Kernel3Ideal.cfg0.N,
    Cert.Kernel3Ideal.Value.run_blocks m g, (θ_run _ _ _).mono (fun r h c => ?_) (Cert.Reference3Ideal.Value.run m' g')⟩
  obtain ⟨h0, a0, a1⟩ := h c
  obtain ⟨e0, e1⟩ := hagree c
  exact ⟨h0.trans ((congrArg₂ Cert.Reference3Ideal.Plain.REF0 e0 e1).trans (Cert.Kernel3Ideal.Plain.final0 m c).symm), a0, a1⟩

end Cert.Plain

end
-- ==== Proof.Plain.K4.lean ====
/- An output projection, the residual sum and the norms after it: each result of the kernel equals the reference's. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.RunClose

@[expose] public section

set_option maxRecDepth 16384

noncomputable section

namespace Cert.Reference4Ideal.Plain

open Cert.Reference4Ideal Cert.Reference4Ideal.Gen Idealize.ShloMosaic Idealize.ShloMosaic.TcCoe

/-- The final norm of the residual stream of the reference. -/
abbrev REF0 (x0 : FVec Ideal S16384x2048 .bf16) (x1 : FVec Ideal S2048x2048 .f32) (x2 : FVec Ideal S16384x2048 .f32) (x3 : FVec Ideal S2048 .f32) : FVec Ideal S16384x2048 .f32 :=
  mulf (mulf (addf x2 (Host.dotGeneral dot_S16384x2048_S2048x2048_S16384x2048_1_0_0_1_n_n none (extf .f32 x0 bitsLt_bf16_f32) x1)) (broadcastInDim S16384x2048 ![0, 1] bcast_S16384x1_S16384x2048_0_1 (Host.rsqrt (addf (Host.divf (broadcastInDim S16384x1 ![0] bcast_S16384_S16384x1_0 (Host.reduceAdd (mulf (addf x2 (Host.dotGeneral dot_S16384x2048_S2048x2048_S16384x2048_1_0_0_1_n_n none (extf .f32 x0 bitsLt_bf16_f32) x1)) (addf x2 (Host.dotGeneral dot_S16384x2048_S2048x2048_S16384x2048_1_0_0_1_n_n none (extf .f32 x0 bitsLt_bf16_f32) x1))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x3))

end Cert.Reference4Ideal.Plain

namespace Cert.Kernel4Ideal.Plain

open Cert.Kernel4Ideal Cert.Kernel4Ideal.Gen Idealize.ShloMosaic Idealize.ShloMosaic.TcCoe Idealize.SL.Sem
open Cert.Reference4Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![(grid0.coords t 0).val, 0] :=
  (by decide +kernel : ∀ t : Fin grid0.N, _)

/-- The final norm of the residual stream: what a point stores at an index of its block is the reference's value where the block lies. -/
theorem point0 (c : Dev nD) (t : Fin cfg0.N) (y) : k0_pay1 (iblk m c 0 t) (iblk m c 1 t) (iblk m c 2 t) (iblk m c 3 t) y
    = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF0]
  simp only [add_comm (m _ _)]
  blk_point [iblk, V, idx t]

/-- The final norm of the residual stream: the result array after the run is the reference's. -/
theorem final0 (c : Dev nD) : (dats m 0 c).arrAt 4 cfg0.N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

end Cert.Kernel4Ideal.Plain

end
-- ==== Proof.Plain.C4.lean ====
/- The claims about program 4: its reference runs as stated, and its kernel's results are the reference's. -/
module

public import proofs.«01_k».proof.Defs
public import proofs.«01_k».proof.Proof.Plain.K4
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 4 runs, its arguments unchanged. -/
theorem quiescent_Reference4 : Cert.quiescent_Reference4Ideal (hReference4Ideal := Cert.Reference4Ideal.Gen.facts) := by
  intro m g _
  exact (θ_run _ _ _).mono (fun r h => ⟨fun c => (h c).2, sem_eq_zero_of_no_sems (by decide) _⟩) (Cert.Reference4Ideal.Value.run m g)

/-- The results of program 4's kernel are its reference's, as numbers. -/
theorem algebraic4 : Cert.algebraic_Kernel4Ideal_Reference4Ideal (hKernel4Ideal := Cert.Kernel4Ideal.Gen.facts) (hReference4Ideal := Cert.Reference4Ideal.Gen.facts) := by
  intro m g m' g' _ hagree
  refine ⟨fun c => (Cert.Kernel4Ideal.Gen.dats m 0 c).arrAt 4 Cert.Kernel4Ideal.cfg0.N,
    Cert.Kernel4Ideal.Value.run_blocks m g, (θ_run _ _ _).mono (fun r h c => ?_) (Cert.Reference4Ideal.Value.run m' g')⟩
  obtain ⟨h0, a0, a1, a2, a3⟩ := h c
  obtain ⟨e0, e1, e2, e3⟩ := hagree c
  simp only [e0, e1, e2, e3] at h0
  exact ⟨h0.trans (Cert.Kernel4Ideal.Plain.final0 m c).symm, a0, a1, a2, a3⟩

end Cert.Plain

end
-- ==== Proof.Plain.K5.lean ====
/- An output projection, the residual sum and the norms after it: each result of the kernel equals the reference's. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.StableHlo.RunClose

@[expose] public section

set_option maxRecDepth 16384

noncomputable section

namespace Cert.Reference5Ideal.Plain

open Cert.Reference5Ideal Cert.Reference5Ideal.Gen Idealize.ShloMosaic Idealize.ShloMosaic.TcCoe

/-- The residual stream after the projection of the reference. -/
abbrev REF0 (x0 : FVec Ideal S16384x2048 .bf16) (x1 : FVec Ideal S2048x2048 .f32) (x2 : FVec Ideal S16384x2048 .f32) (x3 : FVec Ideal S2048 .f32) : FVec Ideal S16384x2048 .f32 :=
  addf x2 (Host.dotGeneral dot_S16384x2048_S2048x2048_S16384x2048_1_0_0_1_n_n none (extf .f32 x0 bitsLt_bf16_f32) x1)

/-- The next layer's normed input of the reference. -/
abbrev REF1 (x0 : FVec Ideal S16384x2048 .bf16) (x1 : FVec Ideal S2048x2048 .f32) (x2 : FVec Ideal S16384x2048 .f32) (x3 : FVec Ideal S2048 .f32) : FVec Ideal S16384x2048 .bf16 :=
  truncf .bf16 (mulf (mulf (addf x2 (Host.dotGeneral dot_S16384x2048_S2048x2048_S16384x2048_1_0_0_1_n_n none (extf .f32 x0 bitsLt_bf16_f32) x1)) (broadcastInDim S16384x2048 ![0, 1] bcast_S16384x1_S16384x2048_0_1 (Host.rsqrt (addf (Host.divf (broadcastInDim S16384x1 ![0] bcast_S16384_S16384x1_0 (Host.reduceAdd (mulf (addf x2 (Host.dotGeneral dot_S16384x2048_S2048x2048_S16384x2048_1_0_0_1_n_n none (extf .f32 x0 bitsLt_bf16_f32) x1)) (addf x2 (Host.dotGeneral dot_S16384x2048_S2048x2048_S16384x2048_1_0_0_1_n_n none (extf .f32 x0 bitsLt_bf16_f32) x1))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x3))) bitsLt_bf16_f32

end Cert.Reference5Ideal.Plain

namespace Cert.Kernel5Ideal.Plain

open Cert.Kernel5Ideal Cert.Kernel5Ideal.Gen Idealize.ShloMosaic Idealize.ShloMosaic.TcCoe Idealize.SL.Sem
open Cert.Reference5Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![(grid0.coords t 0).val, 0]
    ∧ win0_5.index t = ![(grid0.coords t 0).val, 0] :=
  (by decide +kernel : ∀ t : Fin grid0.N, _)

/-- The residual stream after the projection: what a point stores at an index of its block is the reference's value where the block lies. -/
theorem point0 (c : Dev nD) (t : Fin cfg0.N) (y) : k0_pay1 (iblk m c 0 t) (iblk m c 1 t) (iblk m c 2 t) y
    = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, REF0]
  rw [add_comm]
  blk_point [iblk, V, idx t]

/-- The residual stream after the projection: the result array after the run is the reference's. -/
theorem final0 (c : Dev nD) : (dats m 0 c).arrAt 4 cfg0.N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- The next layer's normed input: what a point stores at an index of its block is the reference's value where the block lies. -/
theorem point1 (c : Dev nD) (t : Fin cfg0.N) (y) : k0_pay2 (iblk m c 0 t) (iblk m c 1 t) (iblk m c 2 t) (iblk m c 3 t) y
    = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, REF1]
  simp only [add_comm (m _ _)]
  blk_point [iblk, V, idx t]

/-- The next layer's normed input: the result array after the run is the reference's. -/
theorem final1 (c : Dev nD) : (dats m 0 c).arrAt 5 cfg0.N
    = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t y

end Cert.Kernel5Ideal.Plain

end
-- ==== Proof.Plain.C5.lean ====
/- The claims about program 5: its reference runs as stated, and its kernel's results are the reference's. -/
module

public import proofs.«01_k».proof.Defs
public import proofs.«01_k».proof.Proof.Plain.K5
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 5 runs, its arguments unchanged. -/
theorem quiescent_Reference5 : Cert.quiescent_Reference5Ideal (hReference5Ideal := Cert.Reference5Ideal.Gen.facts) := by
  intro m g _
  exact (θ_run _ _ _).mono (fun r h => ⟨fun c => (h c).2.2, sem_eq_zero_of_no_sems (by decide) _⟩) (Cert.Reference5Ideal.Value.run m g)

/-- The results of program 5's kernel are its reference's, as numbers. -/
theorem algebraic5 : Cert.algebraic_Kernel5Ideal_Reference5Ideal (hKernel5Ideal := Cert.Kernel5Ideal.Gen.facts) (hReference5Ideal := Cert.Reference5Ideal.Gen.facts) := by
  intro m g m' g' _ hagree
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N,
    Cert.Kernel5Ideal.Value.run_blocks m g, (θ_run _ _ _).mono (fun r h c => ?_) (Cert.Reference5Ideal.Value.run m' g')⟩
  obtain ⟨h0, h1, a0, a1, a2, a3⟩ := h c
  obtain ⟨e0, e1, e2, e3⟩ := hagree c
  simp only [e0, e1, e2, e3] at h0 h1
  exact ⟨h0.trans (Cert.Kernel5Ideal.Plain.final0 m c).symm, h1.trans (Cert.Kernel5Ideal.Plain.final1 m c).symm, a0, a1, a2, a3⟩

end Cert.Plain

end
-- ==== Proof.Plain.K6.lean ====
/- An output projection, the residual sum and the norms after it: each result of the kernel equals the reference's. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.StableHlo.RunClose

@[expose] public section

set_option maxRecDepth 16384

noncomputable section

namespace Cert.Reference6Ideal.Plain

open Cert.Reference6Ideal Cert.Reference6Ideal.Gen Idealize.ShloMosaic Idealize.ShloMosaic.TcCoe

/-- The residual stream after the projection of the reference. -/
abbrev REF0 (x0 : FVec Ideal S16384x2048 .bf16) (x1 : FVec Ideal S2048x2048 .f32) (x2 : FVec Ideal S16384x2048 .f32) (x3 : FVec Ideal S2048 .f32) (x4 : FVec Ideal S2048 .f32) : FVec Ideal S16384x2048 .f32 :=
  addf x2 (Host.dotGeneral dot_S16384x2048_S2048x2048_S16384x2048_1_0_0_1_n_n none (extf .f32 x0 bitsLt_bf16_f32) x1)

/-- The shared keys' and values' normed input of the reference. -/
abbrev REF1 (x0 : FVec Ideal S16384x2048 .bf16) (x1 : FVec Ideal S2048x2048 .f32) (x2 : FVec Ideal S16384x2048 .f32) (x3 : FVec Ideal S2048 .f32) (x4 : FVec Ideal S2048 .f32) : FVec Ideal S16384x2048 .bf16 :=
  truncf .bf16 (mulf (mulf (addf x2 (Host.dotGeneral dot_S16384x2048_S2048x2048_S16384x2048_1_0_0_1_n_n none (extf .f32 x0 bitsLt_bf16_f32) x1)) (broadcastInDim S16384x2048 ![0, 1] bcast_S16384x1_S16384x2048_0_1 (Host.rsqrt (addf (Host.divf (broadcastInDim S16384x1 ![0] bcast_S16384_S16384x1_0 (Host.reduceAdd (mulf (addf x2 (Host.dotGeneral dot_S16384x2048_S2048x2048_S16384x2048_1_0_0_1_n_n none (extf .f32 x0 bitsLt_bf16_f32) x1)) (addf x2 (Host.dotGeneral dot_S16384x2048_S2048x2048_S16384x2048_1_0_0_1_n_n none (extf .f32 x0 bitsLt_bf16_f32) x1))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x3))) bitsLt_bf16_f32

/-- The first attention layer's normed input of the reference. -/
abbrev REF2 (x0 : FVec Ideal S16384x2048 .bf16) (x1 : FVec Ideal S2048x2048 .f32) (x2 : FVec Ideal S16384x2048 .f32) (x3 : FVec Ideal S2048 .f32) (x4 : FVec Ideal S2048 .f32) : FVec Ideal S16384x2048 .bf16 :=
  truncf .bf16 (mulf (mulf (addf x2 (Host.dotGeneral dot_S16384x2048_S2048x2048_S16384x2048_1_0_0_1_n_n none (extf .f32 x0 bitsLt_bf16_f32) x1)) (broadcastInDim S16384x2048 ![0, 1] bcast_S16384x1_S16384x2048_0_1 (Host.rsqrt (addf (Host.divf (broadcastInDim S16384x1 ![0] bcast_S16384_S16384x1_0 (Host.reduceAdd (mulf (addf x2 (Host.dotGeneral dot_S16384x2048_S2048x2048_S16384x2048_1_0_0_1_n_n none (extf .f32 x0 bitsLt_bf16_f32) x1)) (addf x2 (Host.dotGeneral dot_S16384x2048_S2048x2048_S16384x2048_1_0_0_1_n_n none (extf .f32 x0 bitsLt_bf16_f32) x1))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 x4))) bitsLt_bf16_f32

end Cert.Reference6Ideal.Plain

namespace Cert.Kernel6Ideal.Plain

open Cert.Kernel6Ideal Cert.Kernel6Ideal.Gen Idealize.ShloMosaic Idealize.ShloMosaic.TcCoe Idealize.SL.Sem
open Cert.Reference6Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![(grid0.coords t 0).val, 0]
    ∧ win0_5.index t = ![(grid0.coords t 0).val, 0]
    ∧ win0_6.index t = ![(grid0.coords t 0).val, 0] :=
  (by decide +kernel : ∀ t : Fin grid0.N, _)

/-- The kernel finds gain 0 in row 0 of its stacked gains. -/
theorem gains0 (c : Dev nD) (j : Fin 2048) : V m c main_v3 (ix2 0 j) = m ((c : Thread nD τ).loc main_arg3) (ix1 j) := by
  unfold V hostOps0
  after_results
  pointwise

/-- The kernel finds gain 1 in row 1 of its stacked gains. -/
theorem gains1 (c : Dev nD) (j : Fin 2048) : V m c main_v3 (ix2 1 j) = m ((c : Thread nD τ).loc main_arg4) (ix1 j) := by
  unfold V hostOps0
  after_results
  pointwise

/-- The residual stream after the projection: what a point stores at an index of its block is the reference's value where the block lies. -/
theorem point0 (c : Dev nD) (t : Fin cfg0.N) (y) : k0_pay1 (iblk m c 0 t) (iblk m c 1 t) (iblk m c 2 t) y
    = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 4).blk t).view.emb y) := by
  pointwise [k0_pay1, k0_pay2, k0_pay3, k0_pay4, REF0]
  rw [add_comm]
  blk_point [iblk, V, idx t]

/-- The residual stream after the projection: the result array after the run is the reference's. -/
theorem final0 (c : Dev nD) : (dats m 0 c).arrAt 4 cfg0.N
    = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]; frame_out
  exact point0 m c t y

/-- The shared keys' and values' normed input: what a point stores at an index of its block is the reference's value where the block lies. -/
theorem point1 (c : Dev nD) (t : Fin cfg0.N) (y) : k0_pay3 (iblk m c 0 t) (iblk m c 1 t) (iblk m c 2 t) (View.ld (iblk m c 3 t) r0_2) y
    = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, k0_pay2, k0_pay3, k0_pay4, REF1]
  simp only [add_comm (m _ _)]
  blk_point [iblk, V, idx t]
  exact (congrArg (V m c main_v3) (show (win0_3.blk t).view.emb (ix2 0 (y 1)) = ix2 0 (y 1) from by blk_ext [idx t])).trans
    ((gains0 m c (y 1)).trans (congrArg (m _) (by blk_ext [idx t])))

/-- The shared keys' and values' normed input: the result array after the run is the reference's. -/
theorem final1 (c : Dev nD) : (dats m 0 c).arrAt 5 cfg0.N
    = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point1 m c t y

/-- The first attention layer's normed input: what a point stores at an index of its block is the reference's value where the block lies. -/
theorem point2 (c : Dev nD) (t : Fin cfg0.N) (y) : k0_pay4 (iblk m c 0 t) (iblk m c 1 t) (iblk m c 2 t) (View.ld (iblk m c 3 t) r0_3) y
    = REF2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, k0_pay4, REF2]
  simp only [add_comm (m _ _)]
  blk_point [iblk, V, idx t]
  exact (congrArg (V m c main_v3) (show (win0_3.blk t).view.emb (ix2 1 (y 1)) = ix2 1 (y 1) from by blk_ext [idx t])).trans
    ((gains1 m c (y 1)).trans (congrArg (m _) (by blk_ext [idx t])))

/-- The first attention layer's normed input: the result array after the run is the reference's. -/
theorem final2 (c : Dev nD) : (dats m 0 c).arrAt 6 cfg0.N
    = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point2 m c t y

end Cert.Kernel6Ideal.Plain

end
-- ==== Proof.Plain.C6.lean ====
/- The claims about program 6: its reference runs as stated, and its kernel's results are the reference's. -/
module

public import proofs.«01_k».proof.Defs
public import proofs.«01_k».proof.Proof.Plain.K6
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 6 runs, its arguments unchanged. -/
theorem quiescent_Reference6 : Cert.quiescent_Reference6Ideal (hReference6Ideal := Cert.Reference6Ideal.Gen.facts) := by
  intro m g _
  exact (θ_run _ _ _).mono (fun r h => ⟨fun c => (h c).2.2.2, sem_eq_zero_of_no_sems (by decide) _⟩) (Cert.Reference6Ideal.Value.run m g)

/-- The results of program 6's kernel are its reference's, as numbers. -/
theorem algebraic6 : Cert.algebraic_Kernel6Ideal_Reference6Ideal (hKernel6Ideal := Cert.Kernel6Ideal.Gen.facts) (hReference6Ideal := Cert.Reference6Ideal.Gen.facts) := by
  intro m g m' g' _ hagree
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N,
    Cert.Kernel6Ideal.Value.run_blocks m g, (θ_run _ _ _).mono (fun r h c => ?_) (Cert.Reference6Ideal.Value.run m' g')⟩
  obtain ⟨h0, h1, h2, a0, a1, a2, a3, a4⟩ := h c
  obtain ⟨e0, e1, e2, e3, e4⟩ := hagree c
  simp only [e0, e1, e2, e3, e4] at h0 h1 h2
  exact ⟨h0.trans (Cert.Kernel6Ideal.Plain.final0 m c).symm, h1.trans (Cert.Kernel6Ideal.Plain.final1 m c).symm, h2.trans (Cert.Kernel6Ideal.Plain.final2 m c).symm, a0, a1, a2, a3, a4⟩

end Cert.Plain

end
-- ==== Proof.Plain.K7.lean ====
/- The first recurrence layer's output projection and residual: the kernel's sum equals the reference's. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.RunClose

@[expose] public section

set_option maxRecDepth 16384

noncomputable section

namespace Cert.Reference7Ideal.Plain

open Cert.Reference7Ideal Cert.Reference7Ideal.Gen Idealize.ShloMosaic Idealize.ShloMosaic.TcCoe

/-- The reference's projection added to the residual stream. -/
abbrev REF0 (x0 : FVec Ideal S16384x2048 .bf16) (x1 : FVec Ideal S2048x2048 .f32) (x2 : FVec Ideal S16384x2048 .f32) : FVec Ideal S1x16384x2048 .f32 :=
  broadcastInDim S1x16384x2048 ![1, 2] bcast_S16384x2048_S1x16384x2048_1_2 (addf x2 (Host.dotGeneral dot_S16384x2048_S2048x2048_S16384x2048_1_0_0_1_n_n none (extf .f32 x0 bitsLt_bf16_f32) x1))

end Cert.Reference7Ideal.Plain

namespace Cert.Kernel7Ideal.Plain

open Cert.Kernel7Ideal Cert.Kernel7Ideal.Gen Idealize.ShloMosaic Idealize.ShloMosaic.TcCoe Idealize.SL.Sem
open Cert.Reference7Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, (grid0.coords t 1).val, 0]
    ∧ win0_1.index t = ![(grid0.coords t 0).val, 0, (grid0.coords t 2).val]
    ∧ win0_2.index t = ![(grid0.coords t 0).val, (grid0.coords t 1).val, (grid0.coords t 2).val]
    ∧ win0_3.index t = ![(grid0.coords t 0).val, (grid0.coords t 1).val, (grid0.coords t 2).val]
    ∧ (grid0.coords t 0).val < 1 :=
  (by decide +kernel : ∀ t : Fin grid0.N, _)

/-- What a point stores at an index of its block is the reference's value where the block lies. -/
theorem point0 (c : Dev nD) (t : Fin cfg0.N) (y) : k0_pay1 (iblk m c 0 t) (iblk m c 1 t) (iblk m c 2 t) y
    = REF0 (m ((c : Thread nD τ).loc main_arg0)) (m ((c : Thread nD τ).loc main_arg1)) (m ((c : Thread nD τ).loc main_arg2)) (((cfg0.win 3).blk t).view.emb y) := by
  pointwise [k0_pay1, REF0]
  rw [add_comm]
  blk_point [iblk, V, idx t]

/-- The result array after the run is the reference's. -/
theorem final0 (c : Dev nD) : (dats m 0 c).arrAt 3 cfg0.N
    = REF0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point0 m c t y

end Cert.Kernel7Ideal.Plain

end
-- ==== Proof.Plain.C7.lean ====
/- The claims about program 7: its reference runs as stated, and its kernel's results are the reference's. -/
module

public import proofs.«01_k».proof.Defs
public import proofs.«01_k».proof.Proof.Plain.K7
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 7 runs, its arguments unchanged. -/
theorem quiescent_Reference7 : Cert.quiescent_Reference7Ideal (hReference7Ideal := Cert.Reference7Ideal.Gen.facts) := by
  intro m g _
  exact (θ_run _ _ _).mono (fun r h => ⟨fun c => (h c).2, sem_eq_zero_of_no_sems (by decide) _⟩) (Cert.Reference7Ideal.Value.run m g)

/-- The results of program 7's kernel are its reference's, as numbers. -/
theorem algebraic7 : Cert.algebraic_Kernel7Ideal_Reference7Ideal (hKernel7Ideal := Cert.Kernel7Ideal.Gen.facts) (hReference7Ideal := Cert.Reference7Ideal.Gen.facts) := by
  intro m g m' g' _ hagree
  refine ⟨fun c => (Cert.Kernel7Ideal.Gen.dats m 0 c).arrAt 3 Cert.Kernel7Ideal.cfg0.N,
    Cert.Kernel7Ideal.Value.run_blocks m g, (θ_run _ _ _).mono (fun r h c => ?_) (Cert.Reference7Ideal.Value.run m' g')⟩
  obtain ⟨h0, a0, a1, a2⟩ := h c
  obtain ⟨e0, e1, e2⟩ := hagree c
  simp only [e0, e1, e2] at h0
  exact ⟨h0.trans (Cert.Kernel7Ideal.Plain.final0 m c).symm, a0, a1, a2⟩

end Cert.Plain

end
-- ==== Proof.Plain.K8.lean ====
/- The projection to the shared keys and values: the kernel's product equals the reference's. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.StableHlo.RunClose

@[expose] public section

set_option maxRecDepth 16384

noncomputable section

namespace Cert.Reference8Ideal.Plain

open Cert.Reference8Ideal Cert.Reference8Ideal.Gen Idealize.ShloMosaic Idealize.ShloMosaic.TcCoe

/-- The reference's product. -/
abbrev REF0 (x0 : FVec Ideal S16384x2048 .bf16) (x1 : FVec Ideal S2048x3072 .f32) : FVec Ideal S1x16384x3072 .f32 :=
  broadcastInDim S1x16384x3072 ![1, 2] bcast_S16384x3072_S1x16384x3072_1_2 (Host.dotGeneral dot_S16384x2048_S2048x3072_S16384x3072_1_0_0_1_n_n none (extf .f32 x0 bitsLt_bf16_f32) x1)

end Cert.Reference8Ideal.Plain

namespace Cert.Kernel8Ideal.Plain

open Cert.Kernel8Ideal Cert.Kernel8Ideal.Gen Idealize.ShloMosaic Idealize.ShloMosaic.TcCoe Idealize.SL.Sem
open Cert.Reference8Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, (grid0.coords t 1).val, 0]
    ∧ win0_1.index t = ![(grid0.coords t 0).val, 0, (grid0.coords t 2).val]
    ∧ win0_2.index t = ![(grid0.coords t 0).val, (grid0.coords t 1).val, (grid0.coords t 2).val]
    ∧ (grid0.coords t 0).val < 1 :=
  (by decide +kernel : ∀ t : Fin grid0.N, _)

/-- What a point stores at an index of its block is the reference's product where the block lies. -/
theorem point0 (c : Dev nD) (t : Fin cfg0.N) (y) : k0_pay1 (iblk m c 0 t) (iblk m c 1 t) y
    = REF0 (m ((c : Thread nD τ).loc main_arg0)) (m ((c : Thread nD τ).loc main_arg1)) (((cfg0.win 2).blk t).view.emb y) := by
  pointwise [k0_pay1, REF0]
  blk_point [iblk, V, idx t]

/-- The result array after the run is the reference's product. -/
theorem final0 (c : Dev nD) : (dats m 0 c).arrAt 2 cfg0.N
    = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel8Ideal.Plain

end
-- ==== Proof.Plain.C8.lean ====
/- The claims about program 8: its reference runs as stated, and its kernel's results are the reference's. -/
module

public import proofs.«01_k».proof.Defs
public import proofs.«01_k».proof.Proof.Plain.K8
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 8 runs, its arguments unchanged. -/
theorem quiescent_Reference8 : Cert.quiescent_Reference8Ideal (hReference8Ideal := Cert.Reference8Ideal.Gen.facts) := by
  intro m g _
  exact (θ_run _ _ _).mono (fun r h => ⟨fun c => (h c).2, sem_eq_zero_of_no_sems (by decide) _⟩) (Cert.Reference8Ideal.Value.run m g)

/-- The results of program 8's kernel are its reference's, as numbers. -/
theorem algebraic8 : Cert.algebraic_Kernel8Ideal_Reference8Ideal (hKernel8Ideal := Cert.Kernel8Ideal.Gen.facts) (hReference8Ideal := Cert.Reference8Ideal.Gen.facts) := by
  intro m g m' g' _ hagree
  refine ⟨fun c => (Cert.Kernel8Ideal.Gen.dats m 0 c).arrAt 2 Cert.Kernel8Ideal.cfg0.N,
    Cert.Kernel8Ideal.Value.run_blocks m g, (θ_run _ _ _).mono (fun r h c => ?_) (Cert.Reference8Ideal.Value.run m' g')⟩
  obtain ⟨h0, a0, a1⟩ := h c
  obtain ⟨e0, e1⟩ := hagree c
  simp only [e0, e1] at h0
  exact ⟨h0.trans (Cert.Kernel8Ideal.Plain.final0 m c).symm, a0, a1⟩

end Cert.Plain

end
-- ==== Proof.Plain.K9.lean ====
/- The first recurrence layer's token shift and low-rank projections: the kernel's mixed streams and projections equal the reference's. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.StableHlo.RunClose

@[expose] public section

set_option maxRecDepth 16384

noncomputable section

namespace Cert.Reference9Ideal.Plain

open Cert.Reference9Ideal Cert.Reference9Ideal.Gen Idealize.ShloMosaic Idealize.ShloMosaic.TcCoe

/-- The reference's mixed streams. -/
def REF0 (x0 : FVec Ideal S16384x2048 .f32) (x1 : FVec Ideal S2048 .f32) (x2 : FVec Ideal S6x2048 .f32) : FVec Ideal S4x16384x2048 .bf16 :=
  truncf .bf16 (extractStridedSlice S4x16384x2048 ![0, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S4x16384x2048_0_0_0) bitsLt_bf16_f32

/-- The reference's low-rank projections. -/
def REF1 (x0 : FVec Ideal S16384x2048 .f32) (x1 : FVec Ideal S2048 .f32) (x2 : FVec Ideal S6x2048 .f32) (x3 : FVec Ideal S2048x96 .f32) (x4 : FVec Ideal S2048x96 .f32) : FVec Ideal S2x16384x128 .bf16 :=
  truncf .bf16 (concatenate S2x16384x128 0 [⟨S1x16384x128, (broadcastInDim S1x16384x128 ![1, 2] bcast_S16384x128_S1x16384x128_1_2 (pad (α := Ideal .f32) S16384x128 ![0, 0] ![0, 32] ![0, 0] (Host.tanh (Host.dotGeneral dot_S16384x2048_S2048x96_S16384x96_1_0_0_1_n_n none (shapeCast _ (extractStridedSlice S1x16384x2048 ![4, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S1x16384x2048_4_0_0) shapeCasts_S1x16384x2048_S16384x2048) x3)) (sitofp (F := Ideal) .f32 (constantI S_ 32 0#32)) pads_S16384x96_S16384x128_000_0320 h_S_))⟩, ⟨S1x16384x128, (broadcastInDim S1x16384x128 ![1, 2] bcast_S16384x128_S1x16384x128_1_2 (pad (α := Ideal .f32) S16384x128 ![0, 0] ![0, 32] ![0, 0] (Host.dotGeneral dot_S16384x2048_S2048x96_S16384x96_1_0_0_1_n_n none (shapeCast _ (extractStridedSlice S1x16384x2048 ![5, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S1x16384x2048_5_0_0) shapeCasts_S1x16384x2048_S16384x2048) x4) (sitofp (F := Ideal) .f32 (constantI S_ 32 0#32)) pads_S16384x96_S16384x128_000_0320 h_S_))⟩] concatenates_S1x16384x128_S1x16384x128_S2x16384x128_d0) bitsLt_bf16_f32

/-- A token's row normalised: the row times the reciprocal root of its mean square plus the small constant, times the gain. -/
def NRM (X : FVec Ideal S16384x2048 .f32) (G : FVec Ideal S2048 .f32) (r : Fin 16384) (d : Fin 2048) : Ideal .f32 :=
  X (ix2 r d) * Ideal.rsqrt (Ideal.div (∑ x : Fin 2048, X (ix2 r x) * X (ix2 r x)) (Ideal.ofBits FTy.f32 1157627904#32)
    + Ideal.ofBits FTy.f32 897988541#32) * G (ix1 d)

/-- The row before a token's in its sequence, normalised; zero before a sequence's first. -/
def PRV (X : FVec Ideal S16384x2048 .f32) (G : FVec Ideal S2048 .f32) (r : Fin 16384) (d : Fin 2048) : Ideal .f32 :=
  if h : r.val / 4096 < 4 ∧ 1 ≤ r.val % 4096 ∧ r.val % 4096 - 1 < 4096 then
    NRM X G ⟨r.val / 4096 * 4096 + (r.val % 4096 - 1), by omega⟩ d
  else FloatOps.sitofp FTy.f32 0#32

/-- A token's row moved towards the row before it by a mix's own weight. -/
def MIX (X : FVec Ideal S16384x2048 .f32) (G : FVec Ideal S2048 .f32) (M : FVec Ideal S6x2048 .f32) (n : Fin 6) (r : Fin 16384)
    (d : Fin 2048) : Ideal .f32 :=
  NRM X G r d + (PRV X G r d - NRM X G r d) * M (ix2 n d)

/-- The reference's mixed streams, entry by entry. -/
theorem REF0_apply (x0 : FVec Ideal S16384x2048 .f32) (x1 : FVec Ideal S2048 .f32) (x2 : FVec Ideal S6x2048 .f32) (n : Fin 4) (r : Fin 16384) (d : Fin 2048) :
    REF0 x0 x1 x2 (ix3 n r d) = MIX x0 x1 x2 ⟨n.val, by omega⟩ r d := by
  pointwise [REF0]
  rfl

/-- The reference's low-rank projections, entry by entry. -/
theorem REF1_apply (x0 : FVec Ideal S16384x2048 .f32) (x1 : FVec Ideal S2048 .f32) (x2 : FVec Ideal S6x2048 .f32) (x3 : FVec Ideal S2048x96 .f32) (x4 : FVec Ideal S2048x96 .f32) (n : Fin 2) (r : Fin 16384) (d : Fin 128) :
    REF1 x0 x1 x2 x3 x4 (ix3 n r d) = (if h : n.val < 1 then (if h : d.val < 96 then Ideal.tanh (∑ x, MIX x0 x1 x2 4 r x * x3 (ix2 x ⟨d.val, by omega⟩)) else (FloatOps.sitofp FTy.f32 0#32 : Ideal .f32)) else (if h : d.val < 96 then ∑ x, MIX x0 x1 x2 5 r x * x4 (ix2 x ⟨d.val, by omega⟩) else (FloatOps.sitofp FTy.f32 0#32 : Ideal .f32))) := by
  pointwise [REF1]
  rfl

end Cert.Reference9Ideal.Plain

namespace Cert.Kernel9Ideal.Plain

open Cert.Kernel9Ideal Cert.Kernel9Ideal.Gen Idealize.ShloMosaic Idealize.ShloMosaic.TcCoe Idealize.SL.Sem
open Cert.Reference9Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, 0]
    ∧ win0_1.index t = ![(grid0.coords t 0).val * 32 - 1, 0]
    ∧ win0_2.index t = ![0, 0]
    ∧ win0_3.index t = ![0, 0]
    ∧ win0_4.index t = ![0, 0, 0]
    ∧ win0_5.index t = ![0, (grid0.coords t 0).val, 0]
    ∧ win0_6.index t = ![0, (grid0.coords t 0).val, 0]
    ∧ (grid0.coords t 0).val < 64 :=
  (by decide +kernel : ∀ t : Fin grid0.N, _)

/-- The row of the stream that lies at a row of a point's block. -/
abbrev row (t : Fin cfg0.N) (i : Fin 256) : Fin 16384 := ⟨(grid0.coords t 0).val * 256 + i.val, by have := (idx t).2.2.2.2.2.2.2; omega⟩

/-- The first block a point reads is the stream's rows. -/
theorem x_at (c : Dev nD) (t : Fin cfg0.N) (i : Fin 256) (d : Fin 2048) :
    iblk m c 0 t (ix2 i d) = (m ((c : Thread nD τ).loc main_arg0)) (ix2 (row t i) d) := by
  blk_point [iblk, V, idx t]

/-- The second block a point reads ends with the row before the first block's, except at the array's start. -/
theorem p_at (c : Dev nD) (t : Fin cfg0.N) (h : 0 < (grid0.coords t 0).val) (d : Fin 2048) :
    iblk m c 1 t (ix2 7 d) = (m ((c : Thread nD τ).loc main_arg0)) (ix2 ⟨(grid0.coords t 0).val * 256 - 1, by have := (idx t).2.2.2.2.2.2.2; omega⟩ d) := by
  blk_point [iblk, V, idx t]

/-- The gain, as the kernel reads it. -/
theorem g_at (c : Dev nD) (t : Fin cfg0.N) (d : Fin 2048) :
    iblk m c 2 t (ix2 0 d) = (m ((c : Thread nD τ).loc main_arg1)) (ix1 d) := by
  have h : iblk m c 2 t (ix2 0 d) = V m c main_v6 (ix2 0 d) := by
    unfold iblk
    blk_ext! [idx t]
  rw [h]
  unfold V hostOps0 hostOps0_1 hostOps0_2 hostOps0_3 hostOps0_4
  simp only [List.flatten_cons, List.flatten_nil, List.append_nil, List.cons_append, List.nil_append]
  after_results
  pointwise

/-- The mixes' weights, as the kernel reads them. -/
theorem m_at (c : Dev nD) (t : Fin cfg0.N) (n : Fin 6) (d : Fin 2048) :
    iblk m c 3 t (ix2 n d) = (m ((c : Thread nD τ).loc main_arg2)) (ix2 n d) := by
  blk_point [iblk, V, idx t]

/-- A row of the block normalised is the stream's row normalised. -/
theorem u_at (c : Dev nD) (t : Fin cfg0.N) (i : Fin 256) (d : Fin 2048) :
    k0_pay4 (iblk m c 2 t) (iblk m c 0 t) (ix2 i d) = NRM (m ((c : Thread nD τ).loc main_arg0)) (m ((c : Thread nD τ).loc main_arg1)) (row t i) d := by
  pointwise [k0_pay4, k0_pay3]
  simp only [x_at, g_at, NRM]

/-- The kernel's test for a block's first row. -/
theorem row_word (i : Fin 256) : IntOp.cmpi CmpIPredicate.eq (BitVec.ofNat 32 i.val) 0#32 = if i.val = 0 then 1#1 else 0#1 := by
  revert i; decide +kernel

/-- The kernel's test for a sequence's first block. -/
theorem blk_word (g : Fin 64) : Scalar.cmpi CmpIPredicate.eq (Scalar.remsi (Scalar.muli (BitVec.ofNat 32 g.val) 256#32) 4096#32) 0#32
    = if g.val % 16 = 0 then 1#1 else 0#1 := by
  revert g; decide +kernel

/-- The row before, as the kernel picks it. -/
theorem prev_at (c : Dev nD) (t : Fin cfg0.N) (i : Fin 256) (d : Fin 2048) :
    k0_pay8 (k0_pay4 (iblk m c 2 t) (iblk m c 0 t)) (k0_pay5 (iblk m c 2 t) (iblk m c 0 t)) k0_pay6
      (k0_pay7 (grid0.coords t) (iblk m c 2 t) (iblk m c 1 t)) (ix2 i d) = PRV (m ((c : Thread nD τ).loc main_arg0)) (m ((c : Thread nD τ).loc main_arg1)) (row t i) d - NRM (m ((c : Thread nD τ).loc main_arg0)) (m ((c : Thread nD τ).loc main_arg1)) (row t i) d := by
  pointwise [k0_pay8, k0_pay6, k0_pay5, k0_pay7, k0_pay3]
  rw [u_at m c t i d, row_word i, blk_word ⟨(grid0.coords t 0).val, (idx t).2.2.2.2.2.2.2⟩]
  refine congrArg (· - _) ?_
  have hT := (idx t).2.2.2.2.2.2.2
  by_cases hi : i.val = 0
  · rw [if_pos hi]
    by_cases hg : (grid0.coords t 0).val % 16 = 0
    · rw [if_pos hg, PRV, dif_neg (by dsimp only [row]; omega)]
      simp [Scalar.select, FloatOps.sitofp]
    · rw [if_neg hg, PRV, dif_pos (by dsimp only [row]; omega)]
      have hr : (⟨(row t i).val / 4096 * 4096 + ((row t i).val % 4096 - 1), by dsimp only [row]; omega⟩ : Fin 16384)
          = ⟨(grid0.coords t 0).val * 256 - 1, by omega⟩ := Fin.ext (by dsimp only [row]; omega)
      rw [hr]
      simp [Scalar.select, p_at m c t (by omega), g_at, NRM]
  · rw [if_neg hi, PRV, dif_pos (by dsimp only [row]; omega)]
    have hr : (⟨(row t i).val / 4096 * 4096 + ((row t i).val % 4096 - 1), by dsimp only [row]; omega⟩ : Fin 16384)
        = row t ⟨(i.val + 256 - 1) % 256, by omega⟩ := Fin.ext (by dsimp only [row]; omega)
    rw [hr, ← u_at]
    rfl

/-- What a point stores of a mixed stream. -/
theorem mixed_at (c : Dev nD) (t : Fin cfg0.N) (n : Fin 6) (i : Fin 256) (d : Fin 2048) :
    k0_pay4 (iblk m c 2 t) (iblk m c 0 t) (ix2 i d) +
      k0_pay8 (k0_pay4 (iblk m c 2 t) (iblk m c 0 t)) (k0_pay5 (iblk m c 2 t) (iblk m c 0 t)) k0_pay6
        (k0_pay7 (grid0.coords t) (iblk m c 2 t) (iblk m c 1 t)) (ix2 i d) * iblk m c 3 t (ix2 n d)
    = MIX (m ((c : Thread nD τ).loc main_arg0)) (m ((c : Thread nD τ).loc main_arg1)) (m ((c : Thread nD τ).loc main_arg2)) n (row t i) d := by
  rw [u_at, prev_at, m_at, MIX]

/-- Where an index of a point's block of the mixed streams lies. -/
theorem out5_at (t : Fin cfg0.N) (y) (n : Fin 4) (i : Fin 256) (d : Fin 2048) (h0 : (y 0).val = n.val) (h1 : (y 1).val = i.val)
    (h2 : (y 2).val = d.val) : (win0_5.blk t).view.emb y = ix3 n (row t i) d := by
  blk_ext [idx t]

/-- Where an index of a point's block of the low-rank projections lies. -/
theorem out6_at (t : Fin cfg0.N) (y) (n : Fin 2) (i : Fin 256) (d : Fin 128) (h0 : (y 0).val = n.val) (h1 : (y 1).val = i.val)
    (h2 : (y 2).val = d.val) : (win0_6.blk t).view.emb y = ix3 n (row t i) d := by
  blk_ext [idx t]

/-- A whole load of the gain. -/
theorem full2 (x : Vec Ideal S1x2048 .f32) : View.ld x r0_0 = x := View.ld_unit_lit _ _ (by intro a; fin_cases a <;> rfl)

/-- A whole load of the rows. -/
theorem full0 (x : Vec Ideal S256x2048 .f32) : View.ld x r0_1 = x := View.ld_unit_lit _ _ (by intro a; fin_cases a <;> rfl)

/-- A whole load of the rows before. -/
theorem full1 (x : Vec Ideal S8x2048 .f32) : View.ld x r0_2 = x := View.ld_unit_lit _ _ (by intro a; fin_cases a <;> rfl)

/-- An index whose first axis has one position. -/
theorem one3 {a b : Nat} (x : (⟨3, ![1, a, b]⟩ : Shape).Idx) : ∃ (i : Fin a) (d : Fin b), x = ix3 0 i d :=
  ⟨x 1, x 2, (eq_ix3 x).trans (congrArg (ix3 · (x 1) (x 2)) (Subsingleton.elim (α := Fin 1) _ _))⟩

/-- Mixed stream 0 as a point stores it. -/
theorem piece0 (c : Dev nD) (t : Fin cfg0.N) (i : Fin 256) (d : Fin 2048) :
    k0_pay9 (k0_pay13 (grid0.coords t) (iblk m c 0 t) (iblk m c 1 t) (iblk m c 2 t) (iblk m c 3 t) (iblk m c 4 t)) (k0_pay14 (grid0.coords t) (iblk m c 0 t) (iblk m c 1 t) (iblk m c 2 t) (iblk m c 3 t) (iblk m c 4 t)) (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t))
      (View.ld (iblk m c 3 t) r0_3) (ix3 0 i d) = REF0 (m ((c : Thread nD τ).loc main_arg0)) (m ((c : Thread nD τ).loc main_arg1)) (m ((c : Thread nD τ).loc main_arg2)) (ix3 0 (row t i) d) := by
  rw [REF0_apply]
  refine Eq.trans ?_ (mixed_at m c t 0 i d)
  unfold k0_pay16 k0_pay15 k0_pay14 k0_pay13
  rw [full2, full0, full1]
  pointwise [k0_pay9]

/-- Mixed stream 1 as a point stores it. -/
theorem piece1 (c : Dev nD) (t : Fin cfg0.N) (i : Fin 256) (d : Fin 2048) :
    k0_pay10 (k0_pay13 (grid0.coords t) (iblk m c 0 t) (iblk m c 1 t) (iblk m c 2 t) (iblk m c 3 t) (iblk m c 4 t)) (k0_pay14 (grid0.coords t) (iblk m c 0 t) (iblk m c 1 t) (iblk m c 2 t) (iblk m c 3 t) (iblk m c 4 t)) (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t))
      (View.ld (iblk m c 3 t) r0_5) (ix3 0 i d) = REF0 (m ((c : Thread nD τ).loc main_arg0)) (m ((c : Thread nD τ).loc main_arg1)) (m ((c : Thread nD τ).loc main_arg2)) (ix3 1 (row t i) d) := by
  rw [REF0_apply]
  refine Eq.trans ?_ (mixed_at m c t 1 i d)
  unfold k0_pay16 k0_pay15 k0_pay14 k0_pay13
  rw [full2, full0, full1]
  pointwise [k0_pay10]

/-- Mixed stream 2 as a point stores it. -/
theorem piece2 (c : Dev nD) (t : Fin cfg0.N) (i : Fin 256) (d : Fin 2048) :
    k0_pay11 (k0_pay13 (grid0.coords t) (iblk m c 0 t) (iblk m c 1 t) (iblk m c 2 t) (iblk m c 3 t) (iblk m c 4 t)) (k0_pay14 (grid0.coords t) (iblk m c 0 t) (iblk m c 1 t) (iblk m c 2 t) (iblk m c 3 t) (iblk m c 4 t)) (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t))
      (View.ld (iblk m c 3 t) r0_7) (ix3 0 i d) = REF0 (m ((c : Thread nD τ).loc main_arg0)) (m ((c : Thread nD τ).loc main_arg1)) (m ((c : Thread nD τ).loc main_arg2)) (ix3 2 (row t i) d) := by
  rw [REF0_apply]
  refine Eq.trans ?_ (mixed_at m c t 2 i d)
  unfold k0_pay16 k0_pay15 k0_pay14 k0_pay13
  rw [full2, full0, full1]
  pointwise [k0_pay11]

/-- Mixed stream 3 as a point stores it. -/
theorem piece3 (c : Dev nD) (t : Fin cfg0.N) (i : Fin 256) (d : Fin 2048) :
    k0_pay12 (k0_pay13 (grid0.coords t) (iblk m c 0 t) (iblk m c 1 t) (iblk m c 2 t) (iblk m c 3 t) (iblk m c 4 t)) (k0_pay14 (grid0.coords t) (iblk m c 0 t) (iblk m c 1 t) (iblk m c 2 t) (iblk m c 3 t) (iblk m c 4 t)) (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t))
      (View.ld (iblk m c 3 t) r0_9) (ix3 0 i d) = REF0 (m ((c : Thread nD τ).loc main_arg0)) (m ((c : Thread nD τ).loc main_arg1)) (m ((c : Thread nD τ).loc main_arg2)) (ix3 3 (row t i) d) := by
  rw [REF0_apply]
  refine Eq.trans ?_ (mixed_at m c t 3 i d)
  unfold k0_pay16 k0_pay15 k0_pay14 k0_pay13
  rw [full2, full0, full1]
  pointwise [k0_pay12]

/-- The mixed streams after the run are the reference's. -/
theorem final0 (c : Dev nD) : (dats m 0 c).arrAt 5 cfg0.N = REF0 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  canon_tiles x h
  · obtain ⟨i, d, rfl⟩ := one3 x
    exact (piece3 m c t i d).trans (congrArg (REF0 (m ((c : Thread nD τ).loc main_arg0)) (m ((c : Thread nD τ).loc main_arg1)) (m ((c : Thread nD τ).loc main_arg2))) (out5_at t y 3 i d h0 h1 h2)).symm
  · obtain ⟨i, d, rfl⟩ := one3 x
    exact (piece2 m c t i d).trans (congrArg (REF0 (m ((c : Thread nD τ).loc main_arg0)) (m ((c : Thread nD τ).loc main_arg1)) (m ((c : Thread nD τ).loc main_arg2))) (out5_at t y 2 i d h0 h1 h2)).symm
  · obtain ⟨i, d, rfl⟩ := one3 x
    exact (piece1 m c t i d).trans (congrArg (REF0 (m ((c : Thread nD τ).loc main_arg0)) (m ((c : Thread nD τ).loc main_arg1)) (m ((c : Thread nD τ).loc main_arg2))) (out5_at t y 1 i d h0 h1 h2)).symm
  · obtain ⟨i, d, rfl⟩ := one3 x
    exact (piece0 m c t i d).trans (congrArg (REF0 (m ((c : Thread nD τ).loc main_arg0)) (m ((c : Thread nD τ).loc main_arg1)) (m ((c : Thread nD τ).loc main_arg2))) (out5_at t y 0 i d h0 h1 h2)).symm

/-- The low-rank weights laid side by side in a lane tile each, zeros after their own columns. -/
abbrev LOW (x3 : FVec Ideal S2048x96 .f32) (x4 : FVec Ideal S2048x96 .f32) : FVec Ideal S2x2048x128 .bf16 :=
  (truncf .bf16 (concatenate S2x2048x128 0 [⟨S1x2048x128, (broadcastInDim S1x2048x128 ![1, 2] bcast_S2048x128_S1x2048x128_1_2 (pad (α := Ideal .f32) S2048x128 ![0, 0] ![0, 32] ![0, 0] x3 (sitofp (F := Ideal) .f32 (constantI S_ 32 0#32)) pads_S2048x96_S2048x128_000_0320 h_S_) : FVec Ideal S1x2048x128 .f32)⟩, ⟨S1x2048x128, (broadcastInDim S1x2048x128 ![1, 2] bcast_S2048x128_S1x2048x128_1_2 (pad (α := Ideal .f32) S2048x128 ![0, 0] ![0, 32] ![0, 0] x4 (sitofp (F := Ideal) .f32 (constantI S_ 32 0#32)) pads_S2048x96_S2048x128_000_0320 h_S_) : FVec Ideal S1x2048x128 .f32)⟩] concatenates_S1x2048x128_S1x2048x128_S2x2048x128_d0) bitsLt_bf16_f32)

/-- The low-rank weights as the kernel finds them. -/
theorem low_eq (c : Dev nD) : V m c main_v5 = LOW (m ((c : Thread nD τ).loc main_arg3)) (m ((c : Thread nD τ).loc main_arg4)) := by
  unfold LOW
  unfold V hostOps0 hostOps0_1 hostOps0_2 hostOps0_3 hostOps0_4
  simp only [List.flatten_cons, List.flatten_nil, List.append_nil, List.cons_append, List.nil_append]
  after_results_entrywise (rounds := 1) []

/-- A row against a low-rank weight's padded columns: the sum may be taken inside the column's cases. -/
theorem columns (w : Nat) (hw : w ≤ 128) (a : Fin 2048 → Ideal .f32) (b : Fin 2048 → Fin w → Ideal .f32) (j : Fin 128) :
    ∑ k, a k * (if h : j.val < w then b k ⟨j.val, h⟩ else (FloatOps.sitofp FTy.f32 0#32 : Ideal .f32))
    = if h : j.val < w then ∑ k, a k * b k ⟨j.val, h⟩ else (FloatOps.sitofp FTy.f32 0#32 : Ideal .f32) := by
  have h0 : (FloatOps.sitofp .f32 0#32 : Ideal .f32) = 0 := by simp [FloatOps.sitofp]
  split_ifs
  · rfl
  · rw [h0]
    exact Finset.sum_eq_zero fun k _ => mul_zero _

/-- The hyperbolic tangent may be taken inside a padded column's cases: it is zero at zero. -/
theorem tanh_columns (w j : Nat) (f : j < w → Ideal .f32) :
    Ideal.tanh (if h : j < w then f h else (FloatOps.sitofp FTy.f32 0#32 : Ideal .f32))
    = if h : j < w then Ideal.tanh (f h) else (FloatOps.sitofp FTy.f32 0#32 : Ideal .f32) := by
  have h0 : (FloatOps.sitofp .f32 0#32 : Ideal .f32) = 0 := by simp [FloatOps.sitofp]
  split_ifs
  · rfl
  · rw [h0]
    refine (congrArg Ideal.tanh EReal.coe_zero.symm).trans ?_
    show ((Real.tanh 0 : ℝ) : EReal) = 0
    simp

/-- Low-rank weight 0 as a point's block holds it. -/
theorem low0 (c : Dev nD) (t : Fin cfg0.N) (k : Fin 2048) (j : Fin 128) :
    iblk m c 4 t (ix3 0 k j) = if h : j.val < 96 then (m ((c : Thread nD τ).loc main_arg3)) (ix2 k ⟨j.val, h⟩) else (FloatOps.sitofp FTy.f32 0#32 : Ideal .f32) := by
  have h : iblk m c 4 t (ix3 0 k j) = V m c main_v5 (ix3 0 k j) := by
    unfold iblk
    blk_ext! [idx t]
  rw [h, low_eq]
  generalize (m ((c : Thread nD τ).loc main_arg3)) = w
  pointwise [LOW]

/-- Low-rank projection 0 as a point stores it. -/
theorem lpiece0 (c : Dev nD) (t : Fin cfg0.N) (i : Fin 256) (j : Fin 128) :
    k0_pay1 (k0_pay13 (grid0.coords t) (iblk m c 0 t) (iblk m c 1 t) (iblk m c 2 t) (iblk m c 3 t) (iblk m c 4 t)) (k0_pay17 (grid0.coords t) (iblk m c 0 t) (iblk m c 1 t) (iblk m c 2 t) (iblk m c 3 t) (iblk m c 4 t))
      (View.ld (iblk m c 3 t) r0_11) (View.ld (iblk m c 4 t) r0_12) (ix3 0 i j) = REF1 (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t i) j) := by
  rw [REF1_apply]
  unfold k0_pay17 k0_pay16 k0_pay15 k0_pay14 k0_pay13
  rw [full2, full0, full1]
  pointwise [k0_pay1]
  simp only [low0]
  rw [columns 96 (by decide) _ (fun k j => (m ((c : Thread nD τ).loc main_arg3)) (ix2 k j))]
  rw [tanh_columns]
  split_ifs
  · exact congrArg Ideal.tanh (Finset.sum_congr rfl fun k _ => congrArg (· * _) (mixed_at m c t 4 i k))
  · rfl

/-- Low-rank weight 1 as a point's block holds it. -/
theorem low1 (c : Dev nD) (t : Fin cfg0.N) (k : Fin 2048) (j : Fin 128) :
    iblk m c 4 t (ix3 1 k j) = if h : j.val < 96 then (m ((c : Thread nD τ).loc main_arg4)) (ix2 k ⟨j.val, h⟩) else (FloatOps.sitofp FTy.f32 0#32 : Ideal .f32) := by
  have h : iblk m c 4 t (ix3 1 k j) = V m c main_v5 (ix3 1 k j) := by
    unfold iblk
    blk_ext! [idx t]
  rw [h, low_eq]
  generalize (m ((c : Thread nD τ).loc main_arg4)) = w
  pointwise [LOW]

/-- Low-rank projection 1 as a point stores it. -/
theorem lpiece1 (c : Dev nD) (t : Fin cfg0.N) (i : Fin 256) (j : Fin 128) :
    k0_pay2 (k0_pay13 (grid0.coords t) (iblk m c 0 t) (iblk m c 1 t) (iblk m c 2 t) (iblk m c 3 t) (iblk m c 4 t)) (k0_pay17 (grid0.coords t) (iblk m c 0 t) (iblk m c 1 t) (iblk m c 2 t) (iblk m c 3 t) (iblk m c 4 t))
      (View.ld (iblk m c 3 t) r0_14) (View.ld (iblk m c 4 t) r0_15) (ix3 0 i j) = REF1 (m ((c : Thread nD τ).loc main_arg0)) (m ((c : Thread nD τ).loc main_arg1)) (m ((c : Thread nD τ).loc main_arg2)) (m ((c : Thread nD τ).loc main_arg3)) (m ((c : Thread nD τ).loc main_arg4)) (ix3 1 (row t i) j) := by
  rw [REF1_apply]
  unfold k0_pay17 k0_pay16 k0_pay15 k0_pay14 k0_pay13
  rw [full2, full0, full1]
  pointwise [k0_pay2]
  simp only [low1]
  rw [columns 96 (by decide) _ (fun k j => (m ((c : Thread nD τ).loc main_arg4)) (ix2 k j))]
  split_ifs
  · exact Finset.sum_congr rfl fun k _ => congrArg (· * _) (mixed_at m c t 5 i k)
  · rfl

/-- The low-rank projections after the run are the reference's. -/
theorem final1 (c : Dev nD) : (dats m 0 c).arrAt 6 cfg0.N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  canon_tiles x h
  · obtain ⟨i, d, rfl⟩ := one3 x
    exact (lpiece1 m c t i d).trans (congrArg (REF1 (m ((c : Thread nD τ).loc main_arg0)) (m ((c : Thread nD τ).loc main_arg1)) (m ((c : Thread nD τ).loc main_arg2)) (m ((c : Thread nD τ).loc main_arg3)) (m ((c : Thread nD τ).loc main_arg4))) (out6_at t y 1 i d h0 h1 h2)).symm
  · obtain ⟨i, d, rfl⟩ := one3 x
    exact (lpiece0 m c t i d).trans (congrArg (REF1 (m ((c : Thread nD τ).loc main_arg0)) (m ((c : Thread nD τ).loc main_arg1)) (m ((c : Thread nD τ).loc main_arg2)) (m ((c : Thread nD τ).loc main_arg3)) (m ((c : Thread nD τ).loc main_arg4))) (out6_at t y 0 i d h0 h1 h2)).symm

end Cert.Kernel9Ideal.Plain

end
-- ==== Proof.Plain.C9.lean ====
/- The claims about program 9: its reference runs as stated, and its kernel's results are the reference's. -/
module

public import proofs.«01_k».proof.Defs
public import proofs.«01_k».proof.Proof.Plain.K9
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 9 runs, its arguments unchanged. -/
theorem quiescent_Reference9 : Cert.quiescent_Reference9Ideal (hReference9Ideal := Cert.Reference9Ideal.Gen.facts) := by
  intro m g _
  exact (θ_run _ _ _).mono (fun r h => ⟨fun c => (h c).2.2, sem_eq_zero_of_no_sems (by decide) _⟩) (Cert.Reference9Ideal.Value.run m g)

/-- The results of program 9's kernel are its reference's, as numbers. -/
theorem algebraic9 : Cert.algebraic_Kernel9Ideal_Reference9Ideal (hKernel9Ideal := Cert.Kernel9Ideal.Gen.facts) (hReference9Ideal := Cert.Reference9Ideal.Gen.facts) := by
  intro m g m' g' _ hagree
  refine ⟨fun c => (Cert.Kernel9Ideal.Gen.dats m 0 c).arrAt 5 Cert.Kernel9Ideal.cfg0.N, fun c => (Cert.Kernel9Ideal.Gen.dats m 0 c).arrAt 6 Cert.Kernel9Ideal.cfg0.N,
    Cert.Kernel9Ideal.Value.run_blocks m g, (θ_run _ _ _).mono (fun r h c => ?_) (Cert.Reference9Ideal.Value.run m' g')⟩
  obtain ⟨h0, h1, a0, a1, a2, a3, a4⟩ := h c
  obtain ⟨e0, e1, e2, e3, e4⟩ := hagree c
  have f0 : Cert.Reference9Ideal.Plain.REF0 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))
      = Cert.Reference9Ideal.Plain.REF0 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) := by
    rw [e0, e1, e2]
  have f1 : Cert.Reference9Ideal.Plain.REF1 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4))
      = Cert.Reference9Ideal.Plain.REF1 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) := by
    rw [e0, e1, e2, e3, e4]
  exact ⟨h0.trans (f0.trans (Cert.Kernel9Ideal.Plain.final0 m c).symm), h1.trans (f1.trans (Cert.Kernel9Ideal.Plain.final1 m c).symm), a0, a1, a2, a3, a4⟩

end Cert.Plain

end
-- ==== Proof.Plain.K10.lean ====
/- The second recurrence layer's token shift and low-rank projections: the kernel's mixed streams and projections equal the reference's. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.StableHlo.RunClose

@[expose] public section

set_option maxRecDepth 16384

noncomputable section

namespace Cert.Reference10Ideal.Plain

open Cert.Reference10Ideal Cert.Reference10Ideal.Gen Idealize.ShloMosaic Idealize.ShloMosaic.TcCoe

/-- The reference's mixed streams. -/
def REF0 (x0 : FVec Ideal S16384x2048 .f32) (x1 : FVec Ideal S2048 .f32) (x2 : FVec Ideal S6x2048 .f32) : FVec Ideal S4x16384x2048 .bf16 :=
  truncf .bf16 (extractStridedSlice S4x16384x2048 ![0, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S4x16384x2048_0_0_0) bitsLt_bf16_f32

/-- The reference's low-rank projections. -/
def REF1 (x0 : FVec Ideal S16384x2048 .f32) (x1 : FVec Ideal S2048 .f32) (x2 : FVec Ideal S6x2048 .f32) (x3 : FVec Ideal S2048x96 .f32) (x4 : FVec Ideal S2048x96 .f32) (x5 : FVec Ideal S2048x64 .f32) : FVec Ideal S3x16384x128 .bf16 :=
  truncf .bf16 ((concatenate S3x16384x128 0 [⟨S1x16384x128, ((broadcastInDim S1x16384x128 ![1, 2] bcast_S16384x128_S1x16384x128_1_2 (pad (α := Ideal .f32) S16384x128 ![0, 0] ![0, 32] ![0, 0] (Host.tanh (Host.dotGeneral dot_S16384x2048_S2048x96_S16384x96_1_0_0_1_n_n none (shapeCast _ (extractStridedSlice S1x16384x2048 ![4, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S1x16384x2048_4_0_0) shapeCasts_S1x16384x2048_S16384x2048) x3)) (sitofp (F := Ideal) .f32 (constantI S_ 32 0#32)) pads_S16384x96_S16384x128_000_0320 h_S_)) : (⟨S1x16384x128, .f32⟩ : BufTy).Contents (Elt Ideal))⟩, ⟨S1x16384x128, ((broadcastInDim S1x16384x128 ![1, 2] bcast_S16384x128_S1x16384x128_1_2 (pad (α := Ideal .f32) S16384x128 ![0, 0] ![0, 32] ![0, 0] (Host.dotGeneral dot_S16384x2048_S2048x96_S16384x96_1_0_0_1_n_n none (shapeCast _ (extractStridedSlice S1x16384x2048 ![5, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S1x16384x2048_5_0_0) shapeCasts_S1x16384x2048_S16384x2048) x4) (sitofp (F := Ideal) .f32 (constantI S_ 32 0#32)) pads_S16384x96_S16384x128_000_0320 h_S_)) : (⟨S1x16384x128, .f32⟩ : BufTy).Contents (Elt Ideal))⟩, ⟨S1x16384x128, ((broadcastInDim S1x16384x128 ![1, 2] bcast_S16384x128_S1x16384x128_1_2 (pad (α := Ideal .f32) S16384x128 ![0, 0] ![0, 64] ![0, 0] (Host.dotGeneral dot_S16384x2048_S2048x64_S16384x64_1_0_0_1_n_n none (shapeCast _ (extractStridedSlice S1x16384x2048 ![2, 0, 0] (shapeCast _ (addf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048))) (mulf (broadcastInDim S6x4x4096x2048 ![0, 1, 2, 3] bcast_S1x4x4096x2048_S6x4x4096x2048_0_1_2_3 (broadcastInDim S1x4x4096x2048 ![1, 2, 3] bcast_S4x4096x2048_S1x4x4096x2048_1_2_3 (subf (extractStridedSlice S4x4096x2048 ![0, 0, 0] (pad (α := Ideal .f32) S4x4097x2048 ![0, 1, 0] ![0, 0, 0] ![0, 0, 0] (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048) (sitofp (F := Ideal) .f32 (constantI S_ 32 0#32)) pads_S4x4096x2048_S4x4097x2048_000_100_000 h_S_) slices_S4x4097x2048_S4x4096x2048_0_0_0) (shapeCast _ (mulf (mulf x0 (broadcastInDim S16384x2048 ![0, 1] bcast_S16384x1_S16384x2048_0_1 (Host.rsqrt (addf (Host.divf (broadcastInDim S16384x1 ![0] bcast_S16384_S16384x1_0 (Host.reduceAdd (mulf x0 x0) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 x1))) shapeCasts_S16384x2048_S4x4096x2048)))) (broadcastInDim S6x4x4096x2048 ![0, 1, 2, 3] bcast_S6x1x1x2048_S6x4x4096x2048_0_1_2_3 (broadcastInDim S6x1x1x2048 ![0, 3] bcast_S6x2048_S6x1x1x2048_0_3 x2)))) shapeCasts_S6x4x4096x2048_S6x16384x2048) slices_S6x16384x2048_S1x16384x2048_2_0_0) shapeCasts_S1x16384x2048_S16384x2048) x5) (sitofp (F := Ideal) .f32 (constantI S_ 32 0#32)) pads_S16384x64_S16384x128_000_0640 h_S_)) : (⟨S1x16384x128, .f32⟩ : BufTy).Contents (Elt Ideal))⟩] concatenates_S1x16384x128_S1x16384x128_S1x16384x128_S3x16384x128_d0 : (⟨S3x16384x128, .f32⟩ : BufTy).Contents (Elt Ideal))) bitsLt_bf16_f32

/-- A token's row normalised: the row times the reciprocal root of its mean square plus the small constant, times the gain. -/
def NRM (X : FVec Ideal S16384x2048 .f32) (G : FVec Ideal S2048 .f32) (r : Fin 16384) (d : Fin 2048) : Ideal .f32 :=
  X (ix2 r d) * Ideal.rsqrt (Ideal.div (∑ x : Fin 2048, X (ix2 r x) * X (ix2 r x)) (Ideal.ofBits FTy.f32 1157627904#32)
    + Ideal.ofBits FTy.f32 897988541#32) * G (ix1 d)

/-- The row before a token's in its sequence, normalised; zero before a sequence's first. -/
def PRV (X : FVec Ideal S16384x2048 .f32) (G : FVec Ideal S2048 .f32) (r : Fin 16384) (d : Fin 2048) : Ideal .f32 :=
  if h : r.val / 4096 < 4 ∧ 1 ≤ r.val % 4096 ∧ r.val % 4096 - 1 < 4096 then
    NRM X G ⟨r.val / 4096 * 4096 + (r.val % 4096 - 1), by omega⟩ d
  else FloatOps.sitofp FTy.f32 0#32

/-- A token's row moved towards the row before it by a mix's own weight. -/
def MIX (X : FVec Ideal S16384x2048 .f32) (G : FVec Ideal S2048 .f32) (M : FVec Ideal S6x2048 .f32) (n : Fin 6) (r : Fin 16384)
    (d : Fin 2048) : Ideal .f32 :=
  NRM X G r d + (PRV X G r d - NRM X G r d) * M (ix2 n d)

/-- The reference's mixed streams, entry by entry. -/
theorem REF0_apply (x0 : FVec Ideal S16384x2048 .f32) (x1 : FVec Ideal S2048 .f32) (x2 : FVec Ideal S6x2048 .f32) (n : Fin 4) (r : Fin 16384) (d : Fin 2048) :
    REF0 x0 x1 x2 (ix3 n r d) = MIX x0 x1 x2 ⟨n.val, by omega⟩ r d := by
  pointwise [REF0]
  rfl

/-- The reference's low-rank projections, entry by entry. -/
theorem REF1_apply (x0 : FVec Ideal S16384x2048 .f32) (x1 : FVec Ideal S2048 .f32) (x2 : FVec Ideal S6x2048 .f32) (x3 : FVec Ideal S2048x96 .f32) (x4 : FVec Ideal S2048x96 .f32) (x5 : FVec Ideal S2048x64 .f32) (n : Fin 3) (r : Fin 16384) (d : Fin 128) :
    REF1 x0 x1 x2 x3 x4 x5 (ix3 n r d) = (if h : n.val < 1 then (if h : d.val < 96 then Ideal.tanh (∑ x, MIX x0 x1 x2 4 r x * x3 (ix2 x ⟨d.val, by omega⟩)) else (FloatOps.sitofp FTy.f32 0#32 : Ideal .f32)) else (if h : n.val - 1 < 1 then (if h : d.val < 96 then ∑ x, MIX x0 x1 x2 5 r x * x4 (ix2 x ⟨d.val, by omega⟩) else (FloatOps.sitofp FTy.f32 0#32 : Ideal .f32)) else (if h : d.val < 64 then ∑ x, MIX x0 x1 x2 2 r x * x5 (ix2 x ⟨d.val, by omega⟩) else (FloatOps.sitofp FTy.f32 0#32 : Ideal .f32)))) := by
  pointwise [REF1]
  rfl

end Cert.Reference10Ideal.Plain

namespace Cert.Kernel10Ideal.Plain

open Cert.Kernel10Ideal Cert.Kernel10Ideal.Gen Idealize.ShloMosaic Idealize.ShloMosaic.TcCoe Idealize.SL.Sem
open Cert.Reference10Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, 0]
    ∧ win0_1.index t = ![(grid0.coords t 0).val * 32 - 1, 0]
    ∧ win0_2.index t = ![0, 0]
    ∧ win0_3.index t = ![0, 0]
    ∧ win0_4.index t = ![0, 0, 0]
    ∧ win0_5.index t = ![0, (grid0.coords t 0).val, 0]
    ∧ win0_6.index t = ![0, (grid0.coords t 0).val, 0]
    ∧ (grid0.coords t 0).val < 64 :=
  (by decide +kernel : ∀ t : Fin grid0.N, _)

/-- The row of the stream that lies at a row of a point's block. -/
abbrev row (t : Fin cfg0.N) (i : Fin 256) : Fin 16384 := ⟨(grid0.coords t 0).val * 256 + i.val, by have := (idx t).2.2.2.2.2.2.2; omega⟩

/-- The first block a point reads is the stream's rows. -/
theorem x_at (c : Dev nD) (t : Fin cfg0.N) (i : Fin 256) (d : Fin 2048) :
    iblk m c 0 t (ix2 i d) = (m ((c : Thread nD τ).loc main_arg0)) (ix2 (row t i) d) := by
  blk_point [iblk, V, idx t]

/-- The second block a point reads ends with the row before the first block's, except at the array's start. -/
theorem p_at (c : Dev nD) (t : Fin cfg0.N) (h : 0 < (grid0.coords t 0).val) (d : Fin 2048) :
    iblk m c 1 t (ix2 7 d) = (m ((c : Thread nD τ).loc main_arg0)) (ix2 ⟨(grid0.coords t 0).val * 256 - 1, by have := (idx t).2.2.2.2.2.2.2; omega⟩ d) := by
  blk_point [iblk, V, idx t]

/-- The gain, as the kernel reads it. -/
theorem g_at (c : Dev nD) (t : Fin cfg0.N) (d : Fin 2048) :
    iblk m c 2 t (ix2 0 d) = (m ((c : Thread nD τ).loc main_arg1)) (ix1 d) := by
  have h : iblk m c 2 t (ix2 0 d) = V m c main_v8 (ix2 0 d) := by
    unfold iblk
    blk_ext! [idx t]
  rw [h]
  unfold V hostOps0 hostOps0_1 hostOps0_2 hostOps0_3 hostOps0_4 hostOps0_5 hostOps0_6
  simp only [List.flatten_cons, List.flatten_nil, List.append_nil, List.cons_append, List.nil_append]
  after_results
  pointwise

/-- The mixes' weights, as the kernel reads them. -/
theorem m_at (c : Dev nD) (t : Fin cfg0.N) (n : Fin 6) (d : Fin 2048) :
    iblk m c 3 t (ix2 n d) = (m ((c : Thread nD τ).loc main_arg2)) (ix2 n d) := by
  blk_point [iblk, V, idx t]

/-- A row of the block normalised is the stream's row normalised. -/
theorem u_at (c : Dev nD) (t : Fin cfg0.N) (i : Fin 256) (d : Fin 2048) :
    k0_pay3 (iblk m c 2 t) (iblk m c 0 t) (ix2 i d) = NRM (m ((c : Thread nD τ).loc main_arg0)) (m ((c : Thread nD τ).loc main_arg1)) (row t i) d := by
  pointwise [k0_pay3, k0_pay2]
  simp only [x_at, g_at, NRM]

/-- The kernel's test for a block's first row. -/
theorem row_word (i : Fin 256) : IntOp.cmpi CmpIPredicate.eq (BitVec.ofNat 32 i.val) 0#32 = if i.val = 0 then 1#1 else 0#1 := by
  revert i; decide +kernel

/-- The kernel's test for a sequence's first block. -/
theorem blk_word (g : Fin 64) : Scalar.cmpi CmpIPredicate.eq (Scalar.remsi (Scalar.muli (BitVec.ofNat 32 g.val) 256#32) 4096#32) 0#32
    = if g.val % 16 = 0 then 1#1 else 0#1 := by
  revert g; decide +kernel

/-- The row before, as the kernel picks it. -/
theorem prev_at (c : Dev nD) (t : Fin cfg0.N) (i : Fin 256) (d : Fin 2048) :
    k0_pay7 (k0_pay3 (iblk m c 2 t) (iblk m c 0 t)) (k0_pay4 (iblk m c 2 t) (iblk m c 0 t)) k0_pay5
      (k0_pay6 (grid0.coords t) (iblk m c 2 t) (iblk m c 1 t)) (ix2 i d) = PRV (m ((c : Thread nD τ).loc main_arg0)) (m ((c : Thread nD τ).loc main_arg1)) (row t i) d - NRM (m ((c : Thread nD τ).loc main_arg0)) (m ((c : Thread nD τ).loc main_arg1)) (row t i) d := by
  pointwise [k0_pay7, k0_pay5, k0_pay4, k0_pay6, k0_pay2]
  rw [u_at m c t i d, row_word i, blk_word ⟨(grid0.coords t 0).val, (idx t).2.2.2.2.2.2.2⟩]
  refine congrArg (· - _) ?_
  have hT := (idx t).2.2.2.2.2.2.2
  by_cases hi : i.val = 0
  · rw [if_pos hi]
    by_cases hg : (grid0.coords t 0).val % 16 = 0
    · rw [if_pos hg, PRV, dif_neg (by dsimp only [row]; omega)]
      simp [Scalar.select, FloatOps.sitofp]
    · rw [if_neg hg, PRV, dif_pos (by dsimp only [row]; omega)]
      have hr : (⟨(row t i).val / 4096 * 4096 + ((row t i).val % 4096 - 1), by dsimp only [row]; omega⟩ : Fin 16384)
          = ⟨(grid0.coords t 0).val * 256 - 1, by omega⟩ := Fin.ext (by dsimp only [row]; omega)
      rw [hr]
      simp [Scalar.select, p_at m c t (by omega), g_at, NRM]
  · rw [if_neg hi, PRV, dif_pos (by dsimp only [row]; omega)]
    have hr : (⟨(row t i).val / 4096 * 4096 + ((row t i).val % 4096 - 1), by dsimp only [row]; omega⟩ : Fin 16384)
        = row t ⟨(i.val + 256 - 1) % 256, by omega⟩ := Fin.ext (by dsimp only [row]; omega)
    rw [hr, ← u_at]
    rfl

/-- What a point stores of a mixed stream. -/
theorem mixed_at (c : Dev nD) (t : Fin cfg0.N) (n : Fin 6) (i : Fin 256) (d : Fin 2048) :
    k0_pay3 (iblk m c 2 t) (iblk m c 0 t) (ix2 i d) +
      k0_pay7 (k0_pay3 (iblk m c 2 t) (iblk m c 0 t)) (k0_pay4 (iblk m c 2 t) (iblk m c 0 t)) k0_pay5
        (k0_pay6 (grid0.coords t) (iblk m c 2 t) (iblk m c 1 t)) (ix2 i d) * iblk m c 3 t (ix2 n d)
    = MIX (m ((c : Thread nD τ).loc main_arg0)) (m ((c : Thread nD τ).loc main_arg1)) (m ((c : Thread nD τ).loc main_arg2)) n (row t i) d := by
  rw [u_at, prev_at, m_at, MIX]

/-- Where an index of a point's block of the mixed streams lies. -/
theorem out5_at (t : Fin cfg0.N) (y) (n : Fin 4) (i : Fin 256) (d : Fin 2048) (h0 : (y 0).val = n.val) (h1 : (y 1).val = i.val)
    (h2 : (y 2).val = d.val) : (win0_5.blk t).view.emb y = ix3 n (row t i) d := by
  blk_ext [idx t]

/-- Where an index of a point's block of the low-rank projections lies. -/
theorem out6_at (t : Fin cfg0.N) (y) (n : Fin 3) (i : Fin 256) (d : Fin 128) (h0 : (y 0).val = n.val) (h1 : (y 1).val = i.val)
    (h2 : (y 2).val = d.val) : (win0_6.blk t).view.emb y = ix3 n (row t i) d := by
  blk_ext [idx t]

/-- A whole load of the gain. -/
theorem full2 (x : Vec Ideal S1x2048 .f32) : View.ld x r0_0 = x := View.ld_unit_lit _ _ (by intro a; fin_cases a <;> rfl)

/-- A whole load of the rows. -/
theorem full0 (x : Vec Ideal S256x2048 .f32) : View.ld x r0_1 = x := View.ld_unit_lit _ _ (by intro a; fin_cases a <;> rfl)

/-- A whole load of the rows before. -/
theorem full1 (x : Vec Ideal S8x2048 .f32) : View.ld x r0_2 = x := View.ld_unit_lit _ _ (by intro a; fin_cases a <;> rfl)

/-- An index whose first axis has one position. -/
theorem one3 {a b : Nat} (x : (⟨3, ![1, a, b]⟩ : Shape).Idx) : ∃ (i : Fin a) (d : Fin b), x = ix3 0 i d :=
  ⟨x 1, x 2, (eq_ix3 x).trans (congrArg (ix3 · (x 1) (x 2)) (Subsingleton.elim (α := Fin 1) _ _))⟩

/-- Mixed stream 0 as a point stores it. -/
theorem piece0 (c : Dev nD) (t : Fin cfg0.N) (i : Fin 256) (d : Fin 2048) :
    k0_pay8 (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t)) (k0_pay17 (grid0.coords t) (iblk m c 0 t) (iblk m c 1 t) (iblk m c 2 t) (iblk m c 3 t) (iblk m c 4 t)) (k0_pay18 (grid0.coords t) (iblk m c 0 t) (iblk m c 1 t) (iblk m c 2 t) (iblk m c 3 t) (iblk m c 4 t))
      (View.ld (iblk m c 3 t) r0_3) (ix3 0 i d) = REF0 (m ((c : Thread nD τ).loc main_arg0)) (m ((c : Thread nD τ).loc main_arg1)) (m ((c : Thread nD τ).loc main_arg2)) (ix3 0 (row t i) d) := by
  rw [REF0_apply]
  refine Eq.trans ?_ (mixed_at m c t 0 i d)
  unfold k0_pay18 k0_pay17 k0_pay16 k0_pay15
  rw [full2, full0, full1]
  pointwise [k0_pay8]

/-- Mixed stream 1 as a point stores it. -/
theorem piece1 (c : Dev nD) (t : Fin cfg0.N) (i : Fin 256) (d : Fin 2048) :
    k0_pay9 (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t)) (k0_pay17 (grid0.coords t) (iblk m c 0 t) (iblk m c 1 t) (iblk m c 2 t) (iblk m c 3 t) (iblk m c 4 t)) (k0_pay18 (grid0.coords t) (iblk m c 0 t) (iblk m c 1 t) (iblk m c 2 t) (iblk m c 3 t) (iblk m c 4 t))
      (View.ld (iblk m c 3 t) r0_5) (ix3 0 i d) = REF0 (m ((c : Thread nD τ).loc main_arg0)) (m ((c : Thread nD τ).loc main_arg1)) (m ((c : Thread nD τ).loc main_arg2)) (ix3 1 (row t i) d) := by
  rw [REF0_apply]
  refine Eq.trans ?_ (mixed_at m c t 1 i d)
  unfold k0_pay18 k0_pay17 k0_pay16 k0_pay15
  rw [full2, full0, full1]
  pointwise [k0_pay9]

/-- Mixed stream 2 as a point stores it. -/
theorem piece2 (c : Dev nD) (t : Fin cfg0.N) (i : Fin 256) (d : Fin 2048) :
    k0_pay10 (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t)) (k0_pay17 (grid0.coords t) (iblk m c 0 t) (iblk m c 1 t) (iblk m c 2 t) (iblk m c 3 t) (iblk m c 4 t)) (k0_pay18 (grid0.coords t) (iblk m c 0 t) (iblk m c 1 t) (iblk m c 2 t) (iblk m c 3 t) (iblk m c 4 t))
      (View.ld (iblk m c 3 t) r0_7) (ix3 0 i d) = REF0 (m ((c : Thread nD τ).loc main_arg0)) (m ((c : Thread nD τ).loc main_arg1)) (m ((c : Thread nD τ).loc main_arg2)) (ix3 2 (row t i) d) := by
  rw [REF0_apply]
  refine Eq.trans ?_ (mixed_at m c t 2 i d)
  unfold k0_pay18 k0_pay17 k0_pay16 k0_pay15
  rw [full2, full0, full1]
  pointwise [k0_pay10]

/-- Mixed stream 3 as a point stores it. -/
theorem piece3 (c : Dev nD) (t : Fin cfg0.N) (i : Fin 256) (d : Fin 2048) :
    k0_pay11 (k0_pay15 (grid0.coords t) (iblk m c 0 t) (iblk m c 1 t) (iblk m c 2 t) (iblk m c 3 t) (iblk m c 4 t)) (k0_pay16 (grid0.coords t) (iblk m c 0 t) (iblk m c 1 t) (iblk m c 2 t) (iblk m c 3 t) (iblk m c 4 t)) (k0_pay17 (grid0.coords t) (iblk m c 0 t) (iblk m c 1 t) (iblk m c 2 t) (iblk m c 3 t) (iblk m c 4 t)) (k0_pay18 (grid0.coords t) (iblk m c 0 t) (iblk m c 1 t) (iblk m c 2 t) (iblk m c 3 t) (iblk m c 4 t))
      (View.ld (iblk m c 3 t) r0_9) (ix3 0 i d) = REF0 (m ((c : Thread nD τ).loc main_arg0)) (m ((c : Thread nD τ).loc main_arg1)) (m ((c : Thread nD τ).loc main_arg2)) (ix3 3 (row t i) d) := by
  rw [REF0_apply]
  refine Eq.trans ?_ (mixed_at m c t 3 i d)
  unfold k0_pay18 k0_pay17 k0_pay16 k0_pay15
  rw [full2, full0, full1]
  pointwise [k0_pay11]

/-- The mixed streams after the run are the reference's. -/
theorem final0 (c : Dev nD) : (dats m 0 c).arrAt 5 cfg0.N = REF0 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  canon_tiles x h
  · obtain ⟨i, d, rfl⟩ := one3 x
    exact (piece3 m c t i d).trans (congrArg (REF0 (m ((c : Thread nD τ).loc main_arg0)) (m ((c : Thread nD τ).loc main_arg1)) (m ((c : Thread nD τ).loc main_arg2))) (out5_at t y 3 i d h0 h1 h2)).symm
  · obtain ⟨i, d, rfl⟩ := one3 x
    exact (piece2 m c t i d).trans (congrArg (REF0 (m ((c : Thread nD τ).loc main_arg0)) (m ((c : Thread nD τ).loc main_arg1)) (m ((c : Thread nD τ).loc main_arg2))) (out5_at t y 2 i d h0 h1 h2)).symm
  · obtain ⟨i, d, rfl⟩ := one3 x
    exact (piece1 m c t i d).trans (congrArg (REF0 (m ((c : Thread nD τ).loc main_arg0)) (m ((c : Thread nD τ).loc main_arg1)) (m ((c : Thread nD τ).loc main_arg2))) (out5_at t y 1 i d h0 h1 h2)).symm
  · obtain ⟨i, d, rfl⟩ := one3 x
    exact (piece0 m c t i d).trans (congrArg (REF0 (m ((c : Thread nD τ).loc main_arg0)) (m ((c : Thread nD τ).loc main_arg1)) (m ((c : Thread nD τ).loc main_arg2))) (out5_at t y 0 i d h0 h1 h2)).symm

/-- The low-rank weights laid side by side in a lane tile each, zeros after their own columns. -/
abbrev LOW (x3 : FVec Ideal S2048x96 .f32) (x4 : FVec Ideal S2048x96 .f32) (x5 : FVec Ideal S2048x64 .f32) : FVec Ideal S3x2048x128 .bf16 :=
  (truncf .bf16 (concatenate S3x2048x128 0 [⟨S1x2048x128, (broadcastInDim S1x2048x128 ![1, 2] bcast_S2048x128_S1x2048x128_1_2 (pad (α := Ideal .f32) S2048x128 ![0, 0] ![0, 32] ![0, 0] x3 (sitofp (F := Ideal) .f32 (constantI S_ 32 0#32)) pads_S2048x96_S2048x128_000_0320 h_S_) : FVec Ideal S1x2048x128 .f32)⟩, ⟨S1x2048x128, (broadcastInDim S1x2048x128 ![1, 2] bcast_S2048x128_S1x2048x128_1_2 (pad (α := Ideal .f32) S2048x128 ![0, 0] ![0, 32] ![0, 0] x4 (sitofp (F := Ideal) .f32 (constantI S_ 32 0#32)) pads_S2048x96_S2048x128_000_0320 h_S_) : FVec Ideal S1x2048x128 .f32)⟩, ⟨S1x2048x128, (broadcastInDim S1x2048x128 ![1, 2] bcast_S2048x128_S1x2048x128_1_2 (pad (α := Ideal .f32) S2048x128 ![0, 0] ![0, 64] ![0, 0] x5 (sitofp (F := Ideal) .f32 (constantI S_ 32 0#32)) pads_S2048x64_S2048x128_000_0640 h_S_) : FVec Ideal S1x2048x128 .f32)⟩] concatenates_S1x2048x128_S1x2048x128_S1x2048x128_S3x2048x128_d0) bitsLt_bf16_f32)

/-- The low-rank weights as the kernel finds them. -/
theorem low_eq (c : Dev nD) : V m c main_v7 = LOW (m ((c : Thread nD τ).loc main_arg3)) (m ((c : Thread nD τ).loc main_arg4)) (m ((c : Thread nD τ).loc main_arg5)) := by
  unfold LOW
  unfold V hostOps0 hostOps0_1 hostOps0_2 hostOps0_3 hostOps0_4 hostOps0_5 hostOps0_6
  simp only [List.flatten_cons, List.flatten_nil, List.append_nil, List.cons_append, List.nil_append]
  after_results_entrywise (rounds := 1) []

/-- A row against a low-rank weight's padded columns: the sum may be taken inside the column's cases. -/
theorem columns (w : Nat) (hw : w ≤ 128) (a : Fin 2048 → Ideal .f32) (b : Fin 2048 → Fin w → Ideal .f32) (j : Fin 128) :
    ∑ k, a k * (if h : j.val < w then b k ⟨j.val, h⟩ else (FloatOps.sitofp FTy.f32 0#32 : Ideal .f32))
    = if h : j.val < w then ∑ k, a k * b k ⟨j.val, h⟩ else (FloatOps.sitofp FTy.f32 0#32 : Ideal .f32) := by
  have h0 : (FloatOps.sitofp .f32 0#32 : Ideal .f32) = 0 := by simp [FloatOps.sitofp]
  split_ifs
  · rfl
  · rw [h0]
    exact Finset.sum_eq_zero fun k _ => mul_zero _

/-- The hyperbolic tangent may be taken inside a padded column's cases: it is zero at zero. -/
theorem tanh_columns (w j : Nat) (f : j < w → Ideal .f32) :
    Ideal.tanh (if h : j < w then f h else (FloatOps.sitofp FTy.f32 0#32 : Ideal .f32))
    = if h : j < w then Ideal.tanh (f h) else (FloatOps.sitofp FTy.f32 0#32 : Ideal .f32) := by
  have h0 : (FloatOps.sitofp .f32 0#32 : Ideal .f32) = 0 := by simp [FloatOps.sitofp]
  split_ifs
  · rfl
  · rw [h0]
    refine (congrArg Ideal.tanh EReal.coe_zero.symm).trans ?_
    show ((Real.tanh 0 : ℝ) : EReal) = 0
    simp

/-- Low-rank weight 0 as a point's block holds it. -/
theorem low0 (c : Dev nD) (t : Fin cfg0.N) (k : Fin 2048) (j : Fin 128) :
    iblk m c 4 t (ix3 0 k j) = if h : j.val < 96 then (m ((c : Thread nD τ).loc main_arg3)) (ix2 k ⟨j.val, h⟩) else (FloatOps.sitofp FTy.f32 0#32 : Ideal .f32) := by
  have h : iblk m c 4 t (ix3 0 k j) = V m c main_v7 (ix3 0 k j) := by
    unfold iblk
    blk_ext! [idx t]
  rw [h, low_eq]
  generalize (m ((c : Thread nD τ).loc main_arg3)) = w
  pointwise [LOW]

/-- Low-rank projection 0 as a point stores it. -/
theorem lpiece0 (c : Dev nD) (t : Fin cfg0.N) (i : Fin 256) (j : Fin 128) :
    k0_pay12 (k0_pay15 (grid0.coords t) (iblk m c 0 t) (iblk m c 1 t) (iblk m c 2 t) (iblk m c 3 t) (iblk m c 4 t)) (k0_pay19 (grid0.coords t) (iblk m c 0 t) (iblk m c 1 t) (iblk m c 2 t) (iblk m c 3 t) (iblk m c 4 t))
      (View.ld (iblk m c 3 t) r0_11) (View.ld (iblk m c 4 t) r0_12) (ix3 0 i j) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 (row t i) j) := by
  rw [REF1_apply]
  unfold k0_pay19 k0_pay18 k0_pay17 k0_pay16 k0_pay15
  rw [full2, full0, full1]
  pointwise [k0_pay12]
  simp only [low0]
  rw [columns 96 (by decide) _ (fun k j => (m ((c : Thread nD τ).loc main_arg3)) (ix2 k j))]
  rw [tanh_columns]
  split_ifs
  · exact congrArg Ideal.tanh (Finset.sum_congr rfl fun k _ => congrArg (· * _) (mixed_at m c t 4 i k))
  · rfl

/-- Low-rank weight 1 as a point's block holds it. -/
theorem low1 (c : Dev nD) (t : Fin cfg0.N) (k : Fin 2048) (j : Fin 128) :
    iblk m c 4 t (ix3 1 k j) = if h : j.val < 96 then (m ((c : Thread nD τ).loc main_arg4)) (ix2 k ⟨j.val, h⟩) else (FloatOps.sitofp FTy.f32 0#32 : Ideal .f32) := by
  have h : iblk m c 4 t (ix3 1 k j) = V m c main_v7 (ix3 1 k j) := by
    unfold iblk
    blk_ext! [idx t]
  rw [h, low_eq]
  generalize (m ((c : Thread nD τ).loc main_arg4)) = w
  pointwise [LOW]

/-- Low-rank projection 1 as a point stores it. -/
theorem lpiece1 (c : Dev nD) (t : Fin cfg0.N) (i : Fin 256) (j : Fin 128) :
    k0_pay13 (k0_pay15 (grid0.coords t) (iblk m c 0 t) (iblk m c 1 t) (iblk m c 2 t) (iblk m c 3 t) (iblk m c 4 t)) (k0_pay19 (grid0.coords t) (iblk m c 0 t) (iblk m c 1 t) (iblk m c 2 t) (iblk m c 3 t) (iblk m c 4 t))
      (View.ld (iblk m c 3 t) r0_14) (View.ld (iblk m c 4 t) r0_15) (ix3 0 i j) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 1 (row t i) j) := by
  rw [REF1_apply]
  unfold k0_pay19 k0_pay18 k0_pay17 k0_pay16 k0_pay15
  rw [full2, full0, full1]
  pointwise [k0_pay13]
  simp only [low1]
  rw [columns 96 (by decide) _ (fun k j => (m ((c : Thread nD τ).loc main_arg4)) (ix2 k j))]
  split_ifs
  · exact Finset.sum_congr rfl fun k _ => congrArg (· * _) (mixed_at m c t 5 i k)
  · rfl

/-- Low-rank weight 2 as a point's block holds it. -/
theorem low2 (c : Dev nD) (t : Fin cfg0.N) (k : Fin 2048) (j : Fin 128) :
    iblk m c 4 t (ix3 2 k j) = if h : j.val < 64 then (m ((c : Thread nD τ).loc main_arg5)) (ix2 k ⟨j.val, h⟩) else (FloatOps.sitofp FTy.f32 0#32 : Ideal .f32) := by
  have h : iblk m c 4 t (ix3 2 k j) = V m c main_v7 (ix3 2 k j) := by
    unfold iblk
    blk_ext! [idx t]
  rw [h, low_eq]
  generalize (m ((c : Thread nD τ).loc main_arg5)) = w
  pointwise [LOW]

/-- Low-rank projection 2 as a point stores it. -/
theorem lpiece2 (c : Dev nD) (t : Fin cfg0.N) (i : Fin 256) (j : Fin 128) :
    k0_pay1 (k0_pay14 (k0_pay15 (grid0.coords t) (iblk m c 0 t) (iblk m c 1 t) (iblk m c 2 t) (iblk m c 3 t) (iblk m c 4 t)) (k0_pay19 (grid0.coords t) (iblk m c 0 t) (iblk m c 1 t) (iblk m c 2 t) (iblk m c 3 t) (iblk m c 4 t))
      (View.ld (iblk m c 3 t) r0_7) (View.ld (iblk m c 4 t) r0_17)) (ix3 0 i j) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 2 (row t i) j) := by
  rw [REF1_apply]
  unfold k0_pay19 k0_pay18 k0_pay17 k0_pay16 k0_pay15
  rw [full2, full0, full1]
  pointwise [k0_pay14, k0_pay1]
  simp only [low2]
  rw [columns 64 (by decide) _ (fun k j => (m ((c : Thread nD τ).loc main_arg5)) (ix2 k j))]
  split_ifs
  · exact Finset.sum_congr rfl fun k _ => congrArg (· * _) (mixed_at m c t 2 i k)
  · rfl

/-- The low-rank projections after the run are the reference's. -/
theorem final1 (c : Dev nD) : (dats m 0 c).arrAt 6 cfg0.N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  canon_tiles x h
  · obtain ⟨i, d, rfl⟩ := one3 x
    exact (lpiece2 m c t i d).trans (congrArg (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (out6_at t y 2 i d h0 h1 h2)).symm
  · obtain ⟨i, d, rfl⟩ := one3 x
    exact (lpiece1 m c t i d).trans (congrArg (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (out6_at t y 1 i d h0 h1 h2)).symm
  · obtain ⟨i, d, rfl⟩ := one3 x
    exact (lpiece0 m c t i d).trans (congrArg (REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (out6_at t y 0 i d h0 h1 h2)).symm

end Cert.Kernel10Ideal.Plain

end
-- ==== Proof.Plain.C10.lean ====
/- The claims about program 10: its reference runs as stated, and its kernel's results are the reference's. -/
module

public import proofs.«01_k».proof.Defs
public import proofs.«01_k».proof.Proof.Plain.K10
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 10 runs, its arguments unchanged. -/
theorem quiescent_Reference10 : Cert.quiescent_Reference10Ideal (hReference10Ideal := Cert.Reference10Ideal.Gen.facts) := by
  intro m g _
  exact (θ_run _ _ _).mono (fun r h => ⟨fun c => (h c).2.2, sem_eq_zero_of_no_sems (by decide) _⟩) (Cert.Reference10Ideal.Value.run m g)

/-- The results of program 10's kernel are its reference's, as numbers. -/
theorem algebraic10 : Cert.algebraic_Kernel10Ideal_Reference10Ideal (hKernel10Ideal := Cert.Kernel10Ideal.Gen.facts) (hReference10Ideal := Cert.Reference10Ideal.Gen.facts) := by
  intro m g m' g' _ hagree
  refine ⟨fun c => (Cert.Kernel10Ideal.Gen.dats m 0 c).arrAt 5 Cert.Kernel10Ideal.cfg0.N, fun c => (Cert.Kernel10Ideal.Gen.dats m 0 c).arrAt 6 Cert.Kernel10Ideal.cfg0.N,
    Cert.Kernel10Ideal.Value.run_blocks m g, (θ_run _ _ _).mono (fun r h c => ?_) (Cert.Reference10Ideal.Value.run m' g')⟩
  obtain ⟨h0, h1, a0, a1, a2, a3, a4, a5⟩ := h c
  obtain ⟨e0, e1, e2, e3, e4, e5⟩ := hagree c
  have f0 : Cert.Reference10Ideal.Plain.REF0 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))
      = Cert.Reference10Ideal.Plain.REF0 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) := by
    rw [e0, e1, e2]
  have f1 : Cert.Reference10Ideal.Plain.REF1 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5))
      = Cert.Reference10Ideal.Plain.REF1 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) := by
    rw [e0, e1, e2, e3, e4, e5]
  exact ⟨h0.trans (f0.trans (Cert.Kernel10Ideal.Plain.final0 m c).symm), h1.trans (f1.trans (Cert.Kernel10Ideal.Plain.final1 m c).symm), a0, a1, a2, a3, a4, a5⟩

end Cert.Plain

end
-- ==== Proof.Plain.K11.lean ====
/- The first layer of the compression: the kernel's four products equal the reference's two pairs. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.StableHlo.RunClose

@[expose] public section

set_option maxRecDepth 16384

noncomputable section

namespace Cert.Reference11Ideal.Plain

open Cert.Reference11Ideal Cert.Reference11Ideal.Gen Idealize.ShloMosaic Idealize.ShloMosaic.TcCoe

/-- The reference's hidden products: the first halves of the blocks, then the second halves. -/
abbrev REF0 (x0 : FVec Ideal S4x4096x2048 .bf16) (x1 : FVec Ideal S2x4096x256 .f32) : FVec Ideal S4x4096x256 .f32 :=
  concatenate S4x4096x256 0 [⟨S2x4096x256, (Host.dotGeneral dot_S2x4096x2048_S2x2048x256_S2x4096x256_2_1_1_2_0_0 none (extractStridedSlice S2x4096x2048 ![0, 0, 0] (extf .f32 x0 bitsLt_bf16_f32) slices_S4x4096x2048_S2x4096x2048_0_0_0) (extractStridedSlice S2x2048x256 ![0, 0, 0] x1 slices_S2x4096x256_S2x2048x256_0_0_0))⟩, ⟨S2x4096x256, (Host.dotGeneral dot_S2x4096x2048_S2x2048x256_S2x4096x256_2_1_1_2_0_0 none (extractStridedSlice S2x4096x2048 ![2, 0, 0] (extf .f32 x0 bitsLt_bf16_f32) slices_S4x4096x2048_S2x4096x2048_2_0_0) (extractStridedSlice S2x2048x256 ![0, 2048, 0] x1 slices_S2x4096x256_S2x2048x256_0_2048_0))⟩] concatenates_S2x4096x256_S2x4096x256_S4x4096x256_d0

end Cert.Reference11Ideal.Plain

namespace Cert.Kernel11Ideal.Plain

open Cert.Kernel11Ideal Cert.Kernel11Ideal.Gen Idealize.ShloMosaic Idealize.ShloMosaic.TcCoe Idealize.SL.Sem
open Cert.Reference11Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, (grid0.coords t 1).val, 0]
    ∧ win0_1.index t = ![(grid0.coords t 0).val, 0, (grid0.coords t 2).val]
    ∧ win0_2.index t = ![(grid0.coords t 0).val, (grid0.coords t 1).val, (grid0.coords t 2).val]
    ∧ (grid0.coords t 0).val < 4
    ∧ (grid0.coords t 1).val < 2
    ∧ (grid0.coords t 2).val < 1 :=
  (by decide +kernel : ∀ t : Fin grid0.N, _)

/-- The weight as the kernel finds it: the first halves' weights, then the second halves'. -/
theorem halves (c : Dev nD) : V m c main_v3 = truncf .bf16 (concatenate S4x2048x256 0 [⟨S2x2048x256, (extractStridedSlice S2x2048x256 ![0, 0, 0] (m ((c : Thread nD τ).loc main_arg1)) slices_S2x4096x256_S2x2048x256_0_0_0 : FVec Ideal S2x2048x256 .f32)⟩,
      ⟨S2x2048x256, (extractStridedSlice S2x2048x256 ![0, 2048, 0] (m ((c : Thread nD τ).loc main_arg1)) slices_S2x4096x256_S2x2048x256_0_2048_0 : FVec Ideal S2x2048x256 .f32)⟩]
      concatenates_S2x2048x256_S2x2048x256_S4x2048x256_d0) bitsLt_bf16_f32 := by
  unfold V hostOps0
  simp only [List.flatten_cons, List.flatten_nil, List.append_nil, List.cons_append, List.nil_append]
  after_results_entrywise (rounds := 1) []

/-- The weight, entry by entry. -/
theorem half (c : Dev nD) (n : Fin 4) (k : Fin 2048) (j : Fin 256) : V m c main_v3 (ix3 n k j) =
    if h : n.val < 2 then (m ((c : Thread nD τ).loc main_arg1)) (ix3 ⟨n.val, h⟩ ⟨k.val, by omega⟩ j)
    else (m ((c : Thread nD τ).loc main_arg1)) (ix3 ⟨n.val - 2, by omega⟩ ⟨2048 + k.val, by omega⟩ j) := by
  rw [halves]
  pointwise
  done

/-- The rows a point reads are the argument's. -/
theorem a_at (c : Dev nD) (t : Fin cfg0.N) (i : Fin 2048) (k : Fin 2048) : iblk m c 0 t (ix3 0 i k)
    = (m ((c : Thread nD τ).loc main_arg0)) (ix3 ⟨(grid0.coords t 0).val, (idx t).2.2.2.1⟩ ⟨(grid0.coords t 1).val * 2048 + i.val, by have := (idx t).2.2.2.2.1; omega⟩ k) := by
  blk_point [iblk, V, idx t]

/-- The weight a point reads. -/
theorem w_at (c : Dev nD) (t : Fin cfg0.N) (k : Fin 2048) (j : Fin 256) : iblk m c 1 t (ix3 0 k j)
    = if h : (grid0.coords t 0).val < 2 then (m ((c : Thread nD τ).loc main_arg1)) (ix3 ⟨(grid0.coords t 0).val, h⟩ ⟨k.val, by omega⟩ j)
      else (m ((c : Thread nD τ).loc main_arg1)) (ix3 ⟨(grid0.coords t 0).val - 2, by have := (idx t).2.2.2.1; omega⟩ ⟨2048 + k.val, by omega⟩ j) := by
  have h : iblk m c 1 t (ix3 0 k j) = V m c main_v3 (ix3 ⟨(grid0.coords t 0).val, (idx t).2.2.2.1⟩ k j) := by
    unfold iblk
    have h2 := (idx t).2.2.2.2.2
    blk_ext! [idx t]
  rw [h, half]

/-- What a point stores at an entry is the reference's value where the entry lies. -/
theorem entry (c : Dev nD) (t : Fin cfg0.N) (i : Fin 2048) (j : Fin 256) : k0_pay1 (iblk m c 0 t) (iblk m c 1 t) (ix3 0 i j)
    = REF0 (m ((c : Thread nD τ).loc main_arg0)) (m ((c : Thread nD τ).loc main_arg1)) (ix3 ⟨(grid0.coords t 0).val, (idx t).2.2.2.1⟩ ⟨(grid0.coords t 1).val * 2048 + i.val, by have := (idx t).2.2.2.2.1; omega⟩ j) := by
  pointwise [k0_pay1, REF0]
  simp only [a_at, w_at]
  have h4 := (idx t).2.2.2.1
  by_cases h : (grid0.coords t 0).val < 2
  · simp only [dif_pos h]
    rfl
  · simp only [dif_neg h]
    refine Finset.sum_congr rfl fun k _ => congrArg (· * _) ?_
    refine congrArg (fun n : Fin 4 => (m ((c : Thread nD τ).loc main_arg0)) (ix3 n _ k)) (Fin.ext ?_)
    show (grid0.coords t 0).val = 2 + ((grid0.coords t 0).val - 2)
    omega

/-- What a point stores at an index of its block is the reference's value where the block lies. -/
theorem point0 (c : Dev nD) (t : Fin cfg0.N) (y : S1x2048x256.Idx) : k0_pay1 (iblk m c 0 t) (iblk m c 1 t) y
    = REF0 (m ((c : Thread nD τ).loc main_arg0)) (m ((c : Thread nD τ).loc main_arg1)) (((cfg0.win 2).blk t).view.emb y) := by
  have hy : y = ix3 0 (y 1) (y 2) := (eq_ix3 y).trans (congrArg (ix3 · (y 1) (y 2)) (Subsingleton.elim (α := Fin 1) _ _))
  have he : ((cfg0.win 2).blk t).view.emb y = ix3 ⟨(grid0.coords t 0).val, (idx t).2.2.2.1⟩ ⟨(grid0.coords t 1).val * 2048 + (y 1).val, by have := (idx t).2.2.2.2.1; have := (y 1).isLt; change (y 1).val < 2048 at this; omega⟩ (y 2) := by
    have h2 := (idx t).2.2.2.2.2
    have h0 : (y 0).val < 1 := (y 0).isLt
    blk_ext [idx t]
  exact (congrArg (k0_pay1 (iblk m c 0 t) (iblk m c 1 t)) hy).trans ((entry m c t (y 1) (y 2)).trans (congrArg (REF0 (m ((c : Thread nD τ).loc main_arg0)) (m ((c : Thread nD τ).loc main_arg1))) he.symm))

/-- The result array after the run is the reference's. -/
theorem final0 (c : Dev nD) : (dats m 0 c).arrAt 2 cfg0.N
    = REF0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

end Cert.Kernel11Ideal.Plain

end
-- ==== Proof.Plain.C11.lean ====
/- The claims about program 11: its reference runs as stated, and its kernel's results are the reference's. -/
module

public import proofs.«01_k».proof.Defs
public import proofs.«01_k».proof.Proof.Plain.K11
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 11 runs, its arguments unchanged. -/
theorem quiescent_Reference11 : Cert.quiescent_Reference11Ideal (hReference11Ideal := Cert.Reference11Ideal.Gen.facts) := by
  intro m g _
  exact (θ_run _ _ _).mono (fun r h => ⟨fun c => (h c).2, sem_eq_zero_of_no_sems (by decide) _⟩) (Cert.Reference11Ideal.Value.run m g)

/-- The results of program 11's kernel are its reference's, as numbers. -/
theorem algebraic11 : Cert.algebraic_Kernel11Ideal_Reference11Ideal (hKernel11Ideal := Cert.Kernel11Ideal.Gen.facts) (hReference11Ideal := Cert.Reference11Ideal.Gen.facts) := by
  intro m g m' g' _ hagree
  refine ⟨fun c => (Cert.Kernel11Ideal.Gen.dats m 0 c).arrAt 2 Cert.Kernel11Ideal.cfg0.N,
    Cert.Kernel11Ideal.Value.run_blocks m g, (θ_run _ _ _).mono (fun r h c => ?_) (Cert.Reference11Ideal.Value.run m' g')⟩
  obtain ⟨h0, a0, a1⟩ := h c
  obtain ⟨e0, e1⟩ := hagree c
  have f0 : Cert.Reference11Ideal.Plain.REF0 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1))
      = Cert.Reference11Ideal.Plain.REF0 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) := by
    rw [e0, e1]
  exact ⟨h0.trans (f0.trans (Cert.Kernel11Ideal.Plain.final0 m c).symm), a0, a1⟩

end Cert.Plain

end
-- ==== Proof.Plain.K12.lean ====
/- The second layer of the compression: the kernel's rows equal the reference's. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.StableHlo.RunClose

@[expose] public section

set_option maxRecDepth 16384

noncomputable section

namespace Cert.Reference12Ideal.Plain

open Cert.Reference12Ideal Cert.Reference12Ideal.Gen Idealize.ShloMosaic Idealize.ShloMosaic.TcCoe

/-- The reference's compressed keys and values. -/
def REF0 (x0 : FVec Ideal S4x4096x256 .f32) (x1 : FVec Ideal S2x256x128 .f32) : FVec Ideal S2x16x256x128 .bf16 :=
  truncf .bf16 (concatenate S2x16x256x128 0 [⟨S1x16x256x128, (broadcastInDim S1x16x256x128 ![1, 2, 3] bcast_S16x256x128_S1x16x256x128_1_2_3 ((concatenate S16x256x128 2 [⟨S16x256x16, ((subf (mulf (extractStridedSlice S16x256x16 ![0, 0, 0] (shapeCast _ (extractStridedSlice S1x16x256x128 ![0, 0, 0, 0] (Host.dotGeneral dot_S2x16x256x256_S2x256x128_S2x16x256x128_3_1_12_2_0_0 none (mulf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2)) (Host.divf (broadcastInDim S2x16x256x256 ![] bcast_S_S2x16x256x256 (constant (F := Ideal) S_ .f32 0x3F800000#32)) (addf (broadcastInDim S2x16x256x256 ![] bcast_S_S2x16x256x256 (constant (F := Ideal) S_ .f32 0x3F800000#32)) (Host.exp (Host.negf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2))))))) x1) slices_S2x16x256x128_S1x16x256x128_0_0_0_0) shapeCasts_S1x16x256x128_S16x256x128) slices_S16x256x128_S16x256x16_0_0_0) (broadcastInDim S16x256x16 ![0, 1, 2] bcast_S1x256x16_S16x256x16_0_1_2 (broadcastInDim S1x256x16 ![1, 2] bcast_S256x16_S1x256x16_1_2 (Host.cos (mulf (broadcastInDim S256x16 ![0, 1] bcast_S256x1_S256x16_0_1 (broadcastInDim S256x1 ![0] bcast_S256_S256x1_0 (sitofp (F := Ideal) .f32 (subi (addi (muli (iotaInDim S256 32 0) (broadcastInDim S256 ![] bcast_S_S256 (constantI S_ 32 16#32))) (broadcastInDim S256 ![] bcast_S_S256 (constantI S_ 32 32#32))) (broadcastInDim S256 ![] bcast_S_S256 (constantI S_ 32 1#32)))))) (broadcastInDim S256x16 ![0, 1] bcast_S1x16_S256x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32))))))))))) (mulf (extractStridedSlice S16x256x16 ![0, 0, 16] (shapeCast _ (extractStridedSlice S1x16x256x128 ![0, 0, 0, 0] (Host.dotGeneral dot_S2x16x256x256_S2x256x128_S2x16x256x128_3_1_12_2_0_0 none (mulf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2)) (Host.divf (broadcastInDim S2x16x256x256 ![] bcast_S_S2x16x256x256 (constant (F := Ideal) S_ .f32 0x3F800000#32)) (addf (broadcastInDim S2x16x256x256 ![] bcast_S_S2x16x256x256 (constant (F := Ideal) S_ .f32 0x3F800000#32)) (Host.exp (Host.negf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2))))))) x1) slices_S2x16x256x128_S1x16x256x128_0_0_0_0) shapeCasts_S1x16x256x128_S16x256x128) slices_S16x256x128_S16x256x16_0_0_16) (broadcastInDim S16x256x16 ![0, 1, 2] bcast_S1x256x16_S16x256x16_0_1_2 (broadcastInDim S1x256x16 ![1, 2] bcast_S256x16_S1x256x16_1_2 (Host.sin (mulf (broadcastInDim S256x16 ![0, 1] bcast_S256x1_S256x16_0_1 (broadcastInDim S256x1 ![0] bcast_S256_S256x1_0 (sitofp (F := Ideal) .f32 (subi (addi (muli (iotaInDim S256 32 0) (broadcastInDim S256 ![] bcast_S_S256 (constantI S_ 32 16#32))) (broadcastInDim S256 ![] bcast_S_S256 (constantI S_ 32 32#32))) (broadcastInDim S256 ![] bcast_S_S256 (constantI S_ 32 1#32)))))) (broadcastInDim S256x16 ![0, 1] bcast_S1x16_S256x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32)))))))))))) : (⟨S16x256x16, .f32⟩ : BufTy).Contents (Elt Ideal))⟩, ⟨S16x256x16, ((addf (mulf (extractStridedSlice S16x256x16 ![0, 0, 16] (shapeCast _ (extractStridedSlice S1x16x256x128 ![0, 0, 0, 0] (Host.dotGeneral dot_S2x16x256x256_S2x256x128_S2x16x256x128_3_1_12_2_0_0 none (mulf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2)) (Host.divf (broadcastInDim S2x16x256x256 ![] bcast_S_S2x16x256x256 (constant (F := Ideal) S_ .f32 0x3F800000#32)) (addf (broadcastInDim S2x16x256x256 ![] bcast_S_S2x16x256x256 (constant (F := Ideal) S_ .f32 0x3F800000#32)) (Host.exp (Host.negf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2))))))) x1) slices_S2x16x256x128_S1x16x256x128_0_0_0_0) shapeCasts_S1x16x256x128_S16x256x128) slices_S16x256x128_S16x256x16_0_0_16) (broadcastInDim S16x256x16 ![0, 1, 2] bcast_S1x256x16_S16x256x16_0_1_2 (broadcastInDim S1x256x16 ![1, 2] bcast_S256x16_S1x256x16_1_2 (Host.cos (mulf (broadcastInDim S256x16 ![0, 1] bcast_S256x1_S256x16_0_1 (broadcastInDim S256x1 ![0] bcast_S256_S256x1_0 (sitofp (F := Ideal) .f32 (subi (addi (muli (iotaInDim S256 32 0) (broadcastInDim S256 ![] bcast_S_S256 (constantI S_ 32 16#32))) (broadcastInDim S256 ![] bcast_S_S256 (constantI S_ 32 32#32))) (broadcastInDim S256 ![] bcast_S_S256 (constantI S_ 32 1#32)))))) (broadcastInDim S256x16 ![0, 1] bcast_S1x16_S256x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32))))))))))) (mulf (extractStridedSlice S16x256x16 ![0, 0, 0] (shapeCast _ (extractStridedSlice S1x16x256x128 ![0, 0, 0, 0] (Host.dotGeneral dot_S2x16x256x256_S2x256x128_S2x16x256x128_3_1_12_2_0_0 none (mulf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2)) (Host.divf (broadcastInDim S2x16x256x256 ![] bcast_S_S2x16x256x256 (constant (F := Ideal) S_ .f32 0x3F800000#32)) (addf (broadcastInDim S2x16x256x256 ![] bcast_S_S2x16x256x256 (constant (F := Ideal) S_ .f32 0x3F800000#32)) (Host.exp (Host.negf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2))))))) x1) slices_S2x16x256x128_S1x16x256x128_0_0_0_0) shapeCasts_S1x16x256x128_S16x256x128) slices_S16x256x128_S16x256x16_0_0_0) (broadcastInDim S16x256x16 ![0, 1, 2] bcast_S1x256x16_S16x256x16_0_1_2 (broadcastInDim S1x256x16 ![1, 2] bcast_S256x16_S1x256x16_1_2 (Host.sin (mulf (broadcastInDim S256x16 ![0, 1] bcast_S256x1_S256x16_0_1 (broadcastInDim S256x1 ![0] bcast_S256_S256x1_0 (sitofp (F := Ideal) .f32 (subi (addi (muli (iotaInDim S256 32 0) (broadcastInDim S256 ![] bcast_S_S256 (constantI S_ 32 16#32))) (broadcastInDim S256 ![] bcast_S_S256 (constantI S_ 32 32#32))) (broadcastInDim S256 ![] bcast_S_S256 (constantI S_ 32 1#32)))))) (broadcastInDim S256x16 ![0, 1] bcast_S1x16_S256x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32)))))))))))) : (⟨S16x256x16, .f32⟩ : BufTy).Contents (Elt Ideal))⟩, ⟨S16x256x96, ((extractStridedSlice S16x256x96 ![0, 0, 32] (shapeCast _ (extractStridedSlice S1x16x256x128 ![0, 0, 0, 0] (Host.dotGeneral dot_S2x16x256x256_S2x256x128_S2x16x256x128_3_1_12_2_0_0 none (mulf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2)) (Host.divf (broadcastInDim S2x16x256x256 ![] bcast_S_S2x16x256x256 (constant (F := Ideal) S_ .f32 0x3F800000#32)) (addf (broadcastInDim S2x16x256x256 ![] bcast_S_S2x16x256x256 (constant (F := Ideal) S_ .f32 0x3F800000#32)) (Host.exp (Host.negf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2))))))) x1) slices_S2x16x256x128_S1x16x256x128_0_0_0_0) shapeCasts_S1x16x256x128_S16x256x128) slices_S16x256x128_S16x256x96_0_0_32) : (⟨S16x256x96, .f32⟩ : BufTy).Contents (Elt Ideal))⟩] concatenates_S16x256x16_S16x256x16_S16x256x96_S16x256x128_d2 : (⟨S16x256x128, .f32⟩ : BufTy).Contents (Elt Ideal))))⟩, ⟨S1x16x256x128, (broadcastInDim S1x16x256x128 ![1, 2, 3] bcast_S16x256x128_S1x16x256x128_1_2_3 (shapeCast _ (extractStridedSlice S1x16x256x128 ![1, 0, 0, 0] (Host.dotGeneral dot_S2x16x256x256_S2x256x128_S2x16x256x128_3_1_12_2_0_0 none (mulf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2)) (Host.divf (broadcastInDim S2x16x256x256 ![] bcast_S_S2x16x256x256 (constant (F := Ideal) S_ .f32 0x3F800000#32)) (addf (broadcastInDim S2x16x256x256 ![] bcast_S_S2x16x256x256 (constant (F := Ideal) S_ .f32 0x3F800000#32)) (Host.exp (Host.negf (addf (shapeCast _ (extractStridedSlice S2x4096x256 ![0, 0, 0] x0 slices_S4x4096x256_S2x4096x256_0_0_0) shapeCasts_S2x4096x256_S2x16x256x256) (concatenate S2x16x256x256 2 [⟨S2x16x255x256, (extractStridedSlice S2x16x255x256 ![0, 0, 1, 0] (shapeCast _ (extractStridedSlice S2x4096x256 ![2, 0, 0] x0 slices_S4x4096x256_S2x4096x256_2_0_0) shapeCasts_S2x4096x256_S2x16x256x256) slices_S2x16x256x256_S2x16x255x256_0_0_1_0)⟩, ⟨S2x16x1x256, (extractStridedSlice S2x16x1x256 ![0, 0, 0, 0] (shapeCast _ (extractStridedSlice S2x4096x256 ![2, 0, 0] x0 slices_S4x4096x256_S2x4096x256_2_0_0) shapeCasts_S2x4096x256_S2x16x256x256) slices_S2x16x256x256_S2x16x1x256_0_0_0_0)⟩] concatenates_S2x16x255x256_S2x16x1x256_S2x16x256x256_d2))))))) x1) slices_S2x16x256x128_S1x16x256x128_1_0_0_0) shapeCasts_S1x16x256x128_S16x256x128))⟩] concatenates_S1x16x256x128_S1x16x256x128_S2x16x256x128_d0) bitsLt_bf16_f32

/-- A group's two halves added: its first half, and the next group's second half (the last group takes the first's). -/
def HALVES (X : FVec Ideal S4x4096x256 .f32) (j : Fin 2) (b : Fin 16) (p : Fin 256) (x : Fin 256) : Ideal .f32 :=
  X (ix3 ⟨j.val, by omega⟩ ⟨b.val * 256 + p.val, by omega⟩ x) +
    if h : p.val < 255 then X (ix3 ⟨j.val + 2, by omega⟩ ⟨b.val * 256 + (1 + p.val), by omega⟩ x)
    else X (ix3 ⟨j.val + 2, by omega⟩ ⟨b.val * 256 + (p.val - 255), by omega⟩ x)

/-- The second product of the compression, after the activation. -/
def OUT (X : FVec Ideal S4x4096x256 .f32) (W : FVec Ideal S2x256x128 .f32) (j : Fin 2) (b : Fin 16) (p : Fin 256) (d : Fin 128) : Ideal .f32 :=
  ∑ x, HALVES X j b p x * Ideal.div 1 (1 + Ideal.exp (-HALVES X j b p x)) * W (ix3 j x d)

/-- The angle of a rotation: the group's last position times the pair's frequency. -/
def TH (p : Fin 256) (q : Nat) : Ideal .f32 :=
  (FloatOps.sitofp FTy.f32 (IntOp.subi (IntOp.addi (IntOp.muli (BitVec.ofNat 32 p.val) 16#32) 32#32) 1#32) : Ideal .f32) *
    Ideal.pow (Ideal.ofBits FTy.f32 1223959552#32) (Ideal.div (-(FloatOps.sitofp FTy.f32 (BitVec.ofNat 32 q) : Ideal .f32)) (Ideal.ofBits FTy.f32 1098907648#32))

/-- The reference's compressed keys, entry by entry. -/
theorem REF0_keys (x0 : FVec Ideal S4x4096x256 .f32) (x1 : FVec Ideal S2x256x128 .f32) (b : Fin 16) (p : Fin 256) (d : Fin 128) :
    REF0 x0 x1 (ix4 0 b p d) =
    if h : d.val < 16 then OUT x0 x1 0 b p ⟨d.val, by omega⟩ * Ideal.cos (TH p d.val) - OUT x0 x1 0 b p ⟨16 + d.val, by omega⟩ * Ideal.sin (TH p d.val)
    else if h : d.val - 16 < 16 then
      OUT x0 x1 0 b p ⟨16 + (d.val - 16), by omega⟩ * Ideal.cos (TH p (d.val - 16)) + OUT x0 x1 0 b p ⟨d.val - 16, by omega⟩ * Ideal.sin (TH p (d.val - 16))
    else OUT x0 x1 0 b p ⟨32 + (d.val - 16 - 16), by omega⟩ := by
  pointwise [REF0]
  rfl

/-- The reference's compressed values, entry by entry. -/
theorem REF0_values (x0 : FVec Ideal S4x4096x256 .f32) (x1 : FVec Ideal S2x256x128 .f32) (b : Fin 16) (p : Fin 256) (d : Fin 128) :
    REF0 x0 x1 (ix4 1 b p d) = OUT x0 x1 1 b p d := by
  pointwise [REF0]
  rfl

end Cert.Reference12Ideal.Plain

namespace Cert.Kernel12Ideal.Plain

open Cert.Kernel12Ideal Cert.Kernel12Ideal.Gen Idealize.ShloMosaic Idealize.ShloMosaic.TcCoe Idealize.SL.Sem
open Cert.Reference12Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val, (grid0.coords t 1).val, 0]
    ∧ win0_1.index t = ![(grid0.coords t 0).val + 2, (grid0.coords t 1).val, 0]
    ∧ win0_2.index t = ![(grid0.coords t 0).val, 0, 0]
    ∧ win0_3.index t = ![0, 0]
    ∧ win0_4.index t = ![0, 0]
    ∧ win0_5.index t = ![0, 0]
    ∧ win0_6.index t = ![(grid0.coords t 0).val, (grid0.coords t 1).val, 0, 0]
    ∧ (grid0.coords t 0).val < 2
    ∧ (grid0.coords t 1).val < 16 :=
  (by decide +kernel : ∀ t : Fin grid0.N, _)

/-- The angles as the kernel's host code makes them. -/
abbrev ANG : FVec Ideal S256x16 .f32 :=
  mulf (broadcastInDim S256x16 ![0, 1] bcast_S256x1_S256x16_0_1 (broadcastInDim S256x1 ![0] bcast_S256_S256x1_0 (sitofp .f32
      (subi (addi (muli (iotaInDim S256 32 0) (broadcastInDim S256 ![] bcast_S_S256 (constantI S_ 32 16#32)))
        (broadcastInDim S256 ![] bcast_S_S256 (constantI S_ 32 32#32))) (broadcastInDim S256 ![] bcast_S_S256 (constantI S_ 32 1#32))))))
    (broadcastInDim S256x16 ![0, 1] bcast_S1x16_S256x16_0_1 (broadcastInDim S1x16 ![1] bcast_S16_S1x16_1 (Host.powf
      (broadcastInDim S16 ![] bcast_S_S16 (constant (F := Ideal) S_ .f32 0x48F42400#32)) (Host.divf (Host.negf (sitofp (F := Ideal) .f32 (iotaInDim S16 32 0)))
        (broadcastInDim S16 ![] bcast_S_S16 (constant (F := Ideal) S_ .f32 0x41800000#32))))))

/-- The cosines' table as the kernel finds it. -/
theorem tab22 (c : Dev nD) : V m c main_v22 = concatenate S256x128 1 [⟨S256x16, (Host.cos ANG : FVec Ideal S256x16 .f32)⟩, ⟨S256x16, (Host.cos ANG : FVec Ideal S256x16 .f32)⟩, ⟨S256x96, (broadcastInDim S256x96 ![] bcast_S_S256x96 (constant (F := Ideal) S_ .f32 0x3F800000#32) : FVec Ideal S256x96 .f32)⟩] concatenates_S256x16_S256x16_S256x96_S256x128_d1 := by
  unfold V hostOps0
  simp only [List.flatten_cons, List.flatten_nil, List.append_nil, List.cons_append, List.nil_append]
  after_results_entrywise (rounds := 1) []

/-- The first sines' table as the kernel finds it. -/
theorem tab25 (c : Dev nD) : V m c main_v25 = concatenate S256x128 1 [⟨S256x16, (Host.negf (Host.sin ANG) : FVec Ideal S256x16 .f32)⟩, ⟨S256x112, (broadcastInDim S256x112 ![] bcast_S_S256x112 (constant (F := Ideal) S_ .f32 0x00000000#32) : FVec Ideal S256x112 .f32)⟩] concatenates_S256x16_S256x112_S256x128_d1 := by
  unfold V hostOps0
  simp only [List.flatten_cons, List.flatten_nil, List.append_nil, List.cons_append, List.nil_append]
  after_results_entrywise (rounds := 1) []

/-- The second sines' table as the kernel finds it. -/
theorem tab28 (c : Dev nD) : V m c main_v28 = concatenate S256x128 1 [⟨S256x16, (broadcastInDim S256x16 ![] bcast_S_S256x16 (constant (F := Ideal) S_ .f32 0x00000000#32) : FVec Ideal S256x16 .f32)⟩, ⟨S256x16, (Host.sin ANG : FVec Ideal S256x16 .f32)⟩, ⟨S256x96, (broadcastInDim S256x96 ![] bcast_S_S256x96 (constant (F := Ideal) S_ .f32 0x00000000#32) : FVec Ideal S256x96 .f32)⟩] concatenates_S256x16_S256x16_S256x96_S256x128_d1 := by
  unfold V hostOps0
  simp only [List.flatten_cons, List.flatten_nil, List.append_nil, List.cons_append, List.nil_append]
  after_results_entrywise (rounds := 1) []

/-- The cosines a point reads. -/
theorem t22_at (c : Dev nD) (t : Fin cfg0.N) (p : Fin 256) (d : Fin 128) : iblk m c 3 t (ix2 p d) = (if h : d.val < 16 then Ideal.cos (TH p d.val) else if h : d.val - 16 < 16 then Ideal.cos (TH p (d.val - 16)) else 1 : Ideal .f32) := by
  have h : iblk m c 3 t (ix2 p d) = V m c main_v22 (ix2 p d) := by
    unfold iblk
    blk_ext! [idx t]
  rw [h, tab22]
  pointwise [ANG]
  rfl

/-- The first sines a point reads. -/
theorem t25_at (c : Dev nD) (t : Fin cfg0.N) (p : Fin 256) (d : Fin 128) : iblk m c 4 t (ix2 p d) = (if h : d.val < 16 then -Ideal.sin (TH p d.val) else 0 : Ideal .f32) := by
  have h : iblk m c 4 t (ix2 p d) = V m c main_v25 (ix2 p d) := by
    unfold iblk
    blk_ext! [idx t]
  rw [h, tab25]
  pointwise [ANG]
  rfl

/-- The second sines a point reads. -/
theorem t28_at (c : Dev nD) (t : Fin cfg0.N) (p : Fin 256) (d : Fin 128) : iblk m c 5 t (ix2 p d) = (if h : d.val < 16 then 0 else if h : d.val - 16 < 16 then Ideal.sin (TH p (d.val - 16)) else 0 : Ideal .f32) := by
  have h : iblk m c 5 t (ix2 p d) = V m c main_v28 (ix2 p d) := by
    unfold iblk
    blk_ext! [idx t]
  rw [h, tab28]
  pointwise [ANG]
  rfl

/-- A point's output leading index. -/
abbrev J (t : Fin cfg0.N) : Fin 2 := ⟨(grid0.coords t 0).val, (idx t).2.2.2.2.2.2.2.1⟩

/-- A point's group. -/
abbrev B (t : Fin cfg0.N) : Fin 16 := ⟨(grid0.coords t 1).val, (idx t).2.2.2.2.2.2.2.2⟩

/-- The first halves as a point reads them. -/
theorem lo_at (c : Dev nD) (t : Fin cfg0.N) (p : Fin 256) (x : Fin 256) : iblk m c 0 t (ix3 0 p x)
    = (m ((c : Thread nD τ).loc main_arg0)) (ix3 ⟨(J t).val, by omega⟩ ⟨(B t).val * 256 + p.val, by omega⟩ x) := by
  blk_point [iblk, V, idx t]

/-- The second halves as a point reads and rotates them. -/
theorem hi_at (c : Dev nD) (t : Fin cfg0.N) (p : Fin 256) (x : Fin 256) : iblk m c 1 t (ix3 0 ⟨(p.val + 256 - 255) % 256, by omega⟩ x)
    = if h : p.val < 255 then (m ((c : Thread nD τ).loc main_arg0)) (ix3 ⟨(J t).val + 2, by omega⟩ ⟨(B t).val * 256 + (1 + p.val), by omega⟩ x)
      else (m ((c : Thread nD τ).loc main_arg0)) (ix3 ⟨(J t).val + 2, by omega⟩ ⟨(B t).val * 256 + (p.val - 255), by omega⟩ x) := by
  split_ifs
  · blk_point [iblk, V, idx t]
  · blk_point [iblk, V, idx t]

/-- The second weight as a point reads it. -/
theorem w_at (c : Dev nD) (t : Fin cfg0.N) (x : Fin 256) (d : Fin 128) : iblk m c 2 t (ix3 0 x d) = (m ((c : Thread nD τ).loc main_arg1)) (ix3 (J t) x d) := by
  blk_point [iblk, V, idx t]

/-- The rotation the kernel makes of whole rows is the reference's, and the values are left as they are. -/
theorem rope (X : FVec Ideal S4x4096x256 .f32) (W : FVec Ideal S2x256x128 .f32) (j : Fin 2) (b : Fin 16) (p : Fin 256) (d : Fin 128) :
    Scalar.select (Scalar.cmpi CmpIPredicate.eq (BitVec.ofNat 32 j.val) 0#32)
    (OUT X W j b p d * (if h : d.val < 16 then Ideal.cos (TH p d.val) else if h : d.val - 16 < 16 then Ideal.cos (TH p (d.val - 16)) else 1)
      + OUT X W j b p ⟨(d.val + 128 - 112) % 128, by omega⟩ * (if h : d.val < 16 then -Ideal.sin (TH p d.val) else 0)
      + OUT X W j b p ⟨(d.val + 128 - 16) % 128, by omega⟩ * (if h : d.val < 16 then 0 else if h : d.val - 16 < 16 then Ideal.sin (TH p (d.val - 16)) else 0))
    (OUT X W j b p d) = REF0 X W (ix4 j b p d) := by
  have hj : j = 0 ∨ j = 1 := by omega
  rcases hj with rfl | rfl
  · rw [REF0_keys]
    show _ + _ + _ = _
    by_cases h1 : d.val < 16
    · have e : (⟨(d.val + 128 - 112) % 128, by omega⟩ : Fin 128) = ⟨16 + d.val, by omega⟩ := Fin.ext (by dsimp only; omega)
      simp only [dif_pos h1, mul_zero, add_zero, e, mul_neg, sub_eq_add_neg]
    · by_cases h2 : d.val - 16 < 16
      · have e : (⟨(d.val + 128 - 16) % 128, by omega⟩ : Fin 128) = ⟨d.val - 16, by omega⟩ := Fin.ext (by dsimp only; omega)
        have e' : d = ⟨16 + (d.val - 16), by omega⟩ := Fin.ext (by dsimp only; omega)
        simp only [dif_neg h1, dif_pos h2, mul_zero, add_zero, e]
        rw [← e']
      · have e' : d = ⟨32 + (d.val - 16 - 16), by omega⟩ := Fin.ext (by dsimp only; omega)
        simp only [dif_neg h1, dif_neg h2, mul_zero, add_zero, mul_one]
        rw [← e']
  · rw [REF0_values]
    rfl

/-- What a point stores at an entry is the reference's value where the entry lies. -/
theorem entry (c : Dev nD) (t : Fin cfg0.N) (p : Fin 256) (d : Fin 128) :
    k0_pay1 (k0_pay2 (grid0.coords t) (iblk m c 0 t) (iblk m c 1 t) (iblk m c 2 t) (iblk m c 3 t) (iblk m c 4 t) (iblk m c 5 t)) (ix4 0 0 p d)
    = REF0 (m ((c : Thread nD τ).loc main_arg0)) (m ((c : Thread nD τ).loc main_arg1)) (ix4 (J t) (B t) p d) := by
  pointwise [k0_pay1, k0_pay2]
  simp only [lo_at, hi_at, w_at, t22_at, t25_at, t28_at, zero_sub]
  change Scalar.select (Scalar.cmpi CmpIPredicate.eq (BitVec.ofNat 32 (J t).val) 0#32)
    (OUT (m ((c : Thread nD τ).loc main_arg0)) (m ((c : Thread nD τ).loc main_arg1)) (J t) (B t) p d * _ + OUT (m ((c : Thread nD τ).loc main_arg0)) (m ((c : Thread nD τ).loc main_arg1)) (J t) (B t) p ⟨(d.val + 128 - 112) % 128, by omega⟩ * _
      + OUT (m ((c : Thread nD τ).loc main_arg0)) (m ((c : Thread nD τ).loc main_arg1)) (J t) (B t) p ⟨(d.val + 128 - 16) % 128, by omega⟩ * _)
    (OUT (m ((c : Thread nD τ).loc main_arg0)) (m ((c : Thread nD τ).loc main_arg1)) (J t) (B t) p d) = _
  generalize J t = j
  generalize B t = b
  generalize (m ((c : Thread nD τ).loc main_arg0)) = X
  generalize (m ((c : Thread nD τ).loc main_arg1)) = W
  exact rope X W j b p d

/-- Where an index of a point's block lies. -/
theorem out6_at (t : Fin cfg0.N) (y : S1x1x256x128.Idx) : (win0_6.blk t).view.emb y = ix4 (J t) (B t) (y 2) (y 3) := by
  have h0 : (y 0).val < 1 := (y 0).isLt
  have h1 : (y 1).val < 1 := (y 1).isLt
  blk_ext [idx t]

/-- The result array after the run is the reference's. -/
theorem final0 (c : Dev nD) : (dats m 0 c).arrAt 6 cfg0.N
    = REF0 (m ((c : Thread nD τ).loc main_arg0)) (m ((c : Thread nD τ).loc main_arg1)) := by
  refine (dats m 0 c).arrAt_eq_of_covers 6 _ (by decide +kernel) fun t _ y => ?_
  blk_simp
  rw [after0_6]; frame_out
  have hy : (y : S1x1x256x128.Idx) = ix4 0 0 (y 2) (y 3) := (eq_ix4 y).trans
    (congrArg₂ (ix4 · · (y 2) (y 3)) (Subsingleton.elim (α := Fin 1) _ _) (Subsingleton.elim (α := Fin 1) _ _))
  exact (congrArg (k0_pay1 (k0_pay2 (grid0.coords t) (iblk m c 0 t) (iblk m c 1 t) (iblk m c 2 t) (iblk m c 3 t) (iblk m c 4 t) (iblk m c 5 t))) hy).trans
    ((entry m c t (y 2) (y 3)).trans (congrArg (REF0 (m ((c : Thread nD τ).loc main_arg0)) (m ((c : Thread nD τ).loc main_arg1))) (out6_at t y).symm))

end Cert.Kernel12Ideal.Plain

end
-- ==== Proof.Plain.C12.lean ====
/- The claims about program 12: its reference runs as stated, and its kernel's results are the reference's. -/
module

public import proofs.«01_k».proof.Defs
public import proofs.«01_k».proof.Proof.Plain.K12
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 12 runs, its arguments unchanged. -/
theorem quiescent_Reference12 : Cert.quiescent_Reference12Ideal (hReference12Ideal := Cert.Reference12Ideal.Gen.facts) := by
  intro m g _
  exact (θ_run _ _ _).mono (fun r h => ⟨fun c => (h c).2, sem_eq_zero_of_no_sems (by decide) _⟩) (Cert.Reference12Ideal.Value.run m g)

/-- The results of program 12's kernel are its reference's, as numbers. -/
theorem algebraic12 : Cert.algebraic_Kernel12Ideal_Reference12Ideal (hKernel12Ideal := Cert.Kernel12Ideal.Gen.facts) (hReference12Ideal := Cert.Reference12Ideal.Gen.facts) := by
  intro m g m' g' _ hagree
  refine ⟨fun c => (Cert.Kernel12Ideal.Gen.dats m 0 c).arrAt 6 Cert.Kernel12Ideal.cfg0.N,
    Cert.Kernel12Ideal.Value.run_blocks m g, (θ_run _ _ _).mono (fun r h c => ?_) (Cert.Reference12Ideal.Value.run m' g')⟩
  obtain ⟨h0, a0, a1⟩ := h c
  obtain ⟨e0, e1⟩ := hagree c
  have f0 : Cert.Reference12Ideal.Plain.REF0 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))
      = Cert.Reference12Ideal.Plain.REF0 (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) := by
    rw [e0, e1]
  exact ⟨h0.trans (f0.trans (Cert.Kernel12Ideal.Plain.final0 m c).symm), a0, a1⟩

end Cert.Plain

end
-- ==== Proof.Plain.K13.lean ====
/- The shared keys and values as the attention reads them: the kernel's five results equal the reference's. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.StableHlo.RunClose

@[expose] public section

set_option maxRecDepth 16384

noncomputable section

namespace Cert.Reference13Ideal.Plain

open Cert.Reference13Ideal Cert.Reference13Ideal.Gen Idealize.ShloMosaic Idealize.ShloMosaic.TcCoe

/-- The reference's rows to compress, sixteen tokens side by side. -/
def REF0 (x0 : FVec Ideal S16384x3072 .f32) (x1 : FVec Ideal S2x32x128 .f32) : FVec Ideal S4x4x4x256x2048 .bf16 :=
  truncf .bf16 (concatenate S4x4x4x256x2048 0 [⟨S2x4x4x256x2048, (addf (shapeCast _ (extractStridedSlice S2x4x4x4096x128 ![0, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S2x4x4x4096x128_0_0_0_0_0) shapeCasts_S2x4x4x4096x128_S2x4x4x256x2048) (broadcastInDim S2x4x4x256x2048 ![0, 1, 2, 3, 4] bcast_S2x1x1x1x2048_S2x4x4x256x2048_0_1_2_3_4 (broadcastInDim S2x1x1x1x2048 ![0, 4] bcast_S2x2048_S2x1x1x1x2048_0_4 (shapeCast _ (extractStridedSlice S2x1x2048 ![0, 0, 0] (shapeCast _ x1 shapeCasts_S2x32x128_S2x2x2048) slices_S2x2x2048_S2x1x2048_0_0_0) shapeCasts_S2x1x2048_S2x2048))))⟩, ⟨S2x4x4x256x2048, (addf (shapeCast _ (extractStridedSlice S2x4x4x4096x128 ![0, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S2x4x4x4096x128_0_0_0_0_0) shapeCasts_S2x4x4x4096x128_S2x4x4x256x2048) (broadcastInDim S2x4x4x256x2048 ![0, 1, 2, 3, 4] bcast_S2x1x1x1x2048_S2x4x4x256x2048_0_1_2_3_4 (broadcastInDim S2x1x1x1x2048 ![0, 4] bcast_S2x2048_S2x1x1x1x2048_0_4 (shapeCast _ (extractStridedSlice S2x1x2048 ![0, 1, 0] (shapeCast _ x1 shapeCasts_S2x32x128_S2x2x2048) slices_S2x2x2048_S2x1x2048_0_1_0) shapeCasts_S2x1x2048_S2x2048))))⟩] concatenates_S2x4x4x256x2048_S2x4x4x256x2048_S4x4x4x256x2048_d0) bitsLt_bf16_f32

/-- The reference's selected keys, rotated, with their block beside them. -/
def REF1 (x0 : FVec Ideal S16384x3072 .f32) : FVec Ideal S4x4x4096x256 .bf16 :=
  truncf .bf16 (concatenate S4x4x4096x256 3 [⟨S4x4x4096x128, ((concatenate S4x4x4096x128 3 [⟨S4x4x4096x16, ((subf (mulf (extractStridedSlice S4x4x4096x16 ![0, 0, 0, 0] (shapeCast _ (extractStridedSlice S1x4x4x4096x128 ![2, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_2_0_0_0_0) shapeCasts_S1x4x4x4096x128_S4x4x4096x128) slices_S4x4x4096x128_S4x4x4096x16_0_0_0_0) (broadcastInDim S4x4x4096x16 ![0, 1, 2, 3] bcast_S1x1x4096x16_S4x4x4096x16_0_1_2_3 (broadcastInDim S1x1x4096x16 ![2, 3] bcast_S4096x16_S1x1x4096x16_2_3 (Host.cos (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32))))))))))) (mulf (extractStridedSlice S4x4x4096x16 ![0, 0, 0, 16] (shapeCast _ (extractStridedSlice S1x4x4x4096x128 ![2, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_2_0_0_0_0) shapeCasts_S1x4x4x4096x128_S4x4x4096x128) slices_S4x4x4096x128_S4x4x4096x16_0_0_0_16) (broadcastInDim S4x4x4096x16 ![0, 1, 2, 3] bcast_S1x1x4096x16_S4x4x4096x16_0_1_2_3 (broadcastInDim S1x1x4096x16 ![2, 3] bcast_S4096x16_S1x1x4096x16_2_3 (Host.sin (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32)))))))))))) : (⟨S4x4x4096x16, .f32⟩ : BufTy).Contents (Elt Ideal))⟩, ⟨S4x4x4096x16, ((addf (mulf (extractStridedSlice S4x4x4096x16 ![0, 0, 0, 16] (shapeCast _ (extractStridedSlice S1x4x4x4096x128 ![2, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_2_0_0_0_0) shapeCasts_S1x4x4x4096x128_S4x4x4096x128) slices_S4x4x4096x128_S4x4x4096x16_0_0_0_16) (broadcastInDim S4x4x4096x16 ![0, 1, 2, 3] bcast_S1x1x4096x16_S4x4x4096x16_0_1_2_3 (broadcastInDim S1x1x4096x16 ![2, 3] bcast_S4096x16_S1x1x4096x16_2_3 (Host.cos (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32))))))))))) (mulf (extractStridedSlice S4x4x4096x16 ![0, 0, 0, 0] (shapeCast _ (extractStridedSlice S1x4x4x4096x128 ![2, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_2_0_0_0_0) shapeCasts_S1x4x4x4096x128_S4x4x4096x128) slices_S4x4x4096x128_S4x4x4096x16_0_0_0_0) (broadcastInDim S4x4x4096x16 ![0, 1, 2, 3] bcast_S1x1x4096x16_S4x4x4096x16_0_1_2_3 (broadcastInDim S1x1x4096x16 ![2, 3] bcast_S4096x16_S1x1x4096x16_2_3 (Host.sin (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32)))))))))))) : (⟨S4x4x4096x16, .f32⟩ : BufTy).Contents (Elt Ideal))⟩, ⟨S4x4x4096x96, ((extractStridedSlice S4x4x4096x96 ![0, 0, 0, 32] (shapeCast _ (extractStridedSlice S1x4x4x4096x128 ![2, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_2_0_0_0_0) shapeCasts_S1x4x4x4096x128_S4x4x4096x128) slices_S4x4x4096x128_S4x4x4096x96_0_0_0_32) : (⟨S4x4x4096x96, .f32⟩ : BufTy).Contents (Elt Ideal))⟩] concatenates_S4x4x4096x16_S4x4x4096x16_S4x4x4096x96_S4x4x4096x128_d3 : (⟨S4x4x4096x128, .f32⟩ : BufTy).Contents (Elt Ideal)))⟩, ⟨S4x4x4096x128, (broadcastInDim S4x4x4096x128 ![2, 3] bcast_S4096x128_S4x4x4096x128_2_3 (shapeCast _ (broadcastInDim S64x64x128 ![0, 1, 2] bcast_S64x1x128_S64x64x128_0_1_2 (broadcastInDim S64x1x128 ![0, 2] bcast_S64x128_S64x1x128_0_2 (uitofp .f32 (cmpi .eq (addi (iotaInDim S64x128 32 0) (broadcastInDim S64x128 ![] bcast_S_S64x128 (constantI S_ 32 0#32))) (iotaInDim S64x128 32 1))))) shapeCasts_S64x64x128_S4096x128))⟩] concatenates_S4x4x4096x128_S4x4x4096x128_S4x4x4096x256_d3) bitsLt_bf16_f32

/-- The reference's selected values, with a one beside them. -/
def REF2 (x0 : FVec Ideal S16384x3072 .f32) : FVec Ideal S4x4x4096x256 .bf16 :=
  truncf .bf16 (concatenate S4x4x4096x256 3 [⟨S4x4x4096x128, (shapeCast _ (extractStridedSlice S1x4x4x4096x128 ![3, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_3_0_0_0_0) shapeCasts_S1x4x4x4096x128_S4x4x4096x128)⟩, ⟨S4x4x4096x128, (pad (α := Ideal .f32) S4x4x4096x128 ![0, 0, 0, 0] ![0, 0, 0, 127] ![0, 0, 0, 0] (broadcastInDim S4x4x4096x1 ![] bcast_S_S4x4x4096x1 (constant (F := Ideal) S_ .f32 0x3F800000#32)) (sitofp (F := Ideal) .f32 (constantI S_ 32 0#32)) pads_S4x4x4096x1_S4x4x4096x128_000_000_000_01270 h_S_)⟩] concatenates_S4x4x4096x128_S4x4x4096x128_S4x4x4096x256_d3) bitsLt_bf16_f32

/-- The reference's window keys, rotated. -/
def REF3 (x0 : FVec Ideal S16384x3072 .f32) : FVec Ideal S4x4x4096x128 .bf16 :=
  truncf .bf16 ((concatenate S4x4x4096x128 3 [⟨S4x4x4096x16, ((subf (mulf (extractStridedSlice S4x4x4096x16 ![0, 0, 0, 0] (shapeCast _ (extractStridedSlice S1x4x4x4096x128 ![4, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_4_0_0_0_0) shapeCasts_S1x4x4x4096x128_S4x4x4096x128) slices_S4x4x4096x128_S4x4x4096x16_0_0_0_0) (broadcastInDim S4x4x4096x16 ![0, 1, 2, 3] bcast_S1x1x4096x16_S4x4x4096x16_0_1_2_3 (broadcastInDim S1x1x4096x16 ![2, 3] bcast_S4096x16_S1x1x4096x16_2_3 (Host.cos (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32))))))))))) (mulf (extractStridedSlice S4x4x4096x16 ![0, 0, 0, 16] (shapeCast _ (extractStridedSlice S1x4x4x4096x128 ![4, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_4_0_0_0_0) shapeCasts_S1x4x4x4096x128_S4x4x4096x128) slices_S4x4x4096x128_S4x4x4096x16_0_0_0_16) (broadcastInDim S4x4x4096x16 ![0, 1, 2, 3] bcast_S1x1x4096x16_S4x4x4096x16_0_1_2_3 (broadcastInDim S1x1x4096x16 ![2, 3] bcast_S4096x16_S1x1x4096x16_2_3 (Host.sin (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32)))))))))))) : (⟨S4x4x4096x16, .f32⟩ : BufTy).Contents (Elt Ideal))⟩, ⟨S4x4x4096x16, ((addf (mulf (extractStridedSlice S4x4x4096x16 ![0, 0, 0, 16] (shapeCast _ (extractStridedSlice S1x4x4x4096x128 ![4, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_4_0_0_0_0) shapeCasts_S1x4x4x4096x128_S4x4x4096x128) slices_S4x4x4096x128_S4x4x4096x16_0_0_0_16) (broadcastInDim S4x4x4096x16 ![0, 1, 2, 3] bcast_S1x1x4096x16_S4x4x4096x16_0_1_2_3 (broadcastInDim S1x1x4096x16 ![2, 3] bcast_S4096x16_S1x1x4096x16_2_3 (Host.cos (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32))))))))))) (mulf (extractStridedSlice S4x4x4096x16 ![0, 0, 0, 0] (shapeCast _ (extractStridedSlice S1x4x4x4096x128 ![4, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_4_0_0_0_0) shapeCasts_S1x4x4x4096x128_S4x4x4096x128) slices_S4x4x4096x128_S4x4x4096x16_0_0_0_0) (broadcastInDim S4x4x4096x16 ![0, 1, 2, 3] bcast_S1x1x4096x16_S4x4x4096x16_0_1_2_3 (broadcastInDim S1x1x4096x16 ![2, 3] bcast_S4096x16_S1x1x4096x16_2_3 (Host.sin (mulf (broadcastInDim S4096x16 ![0, 1] bcast_S4096x1_S4096x16_0_1 (broadcastInDim S4096x1 ![0] bcast_S4096_S4096x1_0 (sitofp (F := Ideal) .f32 (iotaInDim S4096 32 0)))) (broadcastInDim S4096x16 ![0, 1] bcast_S1x16_S4096x16_0_1 (broadcastInDim S1x16 ![1] bcast_S16_S1x16_1 (Host.powf (broadcastInDim S16 ![] bcast_S_S16 (constant (F := Ideal) S_ .f32 0x48F42400#32)) (Host.divf (Host.negf (sitofp (F := Ideal) .f32 (iotaInDim S16 32 0))) (broadcastInDim S16 ![] bcast_S_S16 (constant (F := Ideal) S_ .f32 0x41800000#32)))))))))))) : (⟨S4x4x4096x16, .f32⟩ : BufTy).Contents (Elt Ideal))⟩, ⟨S4x4x4096x96, ((extractStridedSlice S4x4x4096x96 ![0, 0, 0, 32] (shapeCast _ (extractStridedSlice S1x4x4x4096x128 ![4, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_4_0_0_0_0) shapeCasts_S1x4x4x4096x128_S4x4x4096x128) slices_S4x4x4096x128_S4x4x4096x96_0_0_0_32) : (⟨S4x4x4096x96, .f32⟩ : BufTy).Contents (Elt Ideal))⟩] concatenates_S4x4x4096x16_S4x4x4096x16_S4x4x4096x96_S4x4x4096x128_d3 : (⟨S4x4x4096x128, .f32⟩ : BufTy).Contents (Elt Ideal))) bitsLt_bf16_f32

/-- The reference's window values, with a one beside them. -/
def REF4 (x0 : FVec Ideal S16384x3072 .f32) : FVec Ideal S4x4x4096x256 .bf16 :=
  truncf .bf16 (concatenate S4x4x4096x256 3 [⟨S4x4x4096x128, (shapeCast _ (extractStridedSlice S1x4x4x4096x128 ![5, 0, 0, 0, 0] (transpose S6x4x4x4096x128 [2, 0, 3, 1, 4] (shapeCast _ x0 shapeCasts_S16384x3072_S4x4096x6x4x128) transposes_S4x4096x6x4x128_S6x4x4x4096x128_2_0_3_1_4) slices_S6x4x4x4096x128_S1x4x4x4096x128_5_0_0_0_0) shapeCasts_S1x4x4x4096x128_S4x4x4096x128)⟩, ⟨S4x4x4096x128, (pad (α := Ideal .f32) S4x4x4096x128 ![0, 0, 0, 0] ![0, 0, 0, 127] ![0, 0, 0, 0] (broadcastInDim S4x4x4096x1 ![] bcast_S_S4x4x4096x1 (constant (F := Ideal) S_ .f32 0x3F800000#32)) (sitofp (F := Ideal) .f32 (constantI S_ 32 0#32)) pads_S4x4x4096x1_S4x4x4096x128_000_000_000_01270 h_S_)⟩] concatenates_S4x4x4096x128_S4x4x4096x128_S4x4x4096x256_d3) bitsLt_bf16_f32

/-- The angle of a rotation: the token's position times the pair's frequency. -/
def TH (n : Fin 4096) (q : Nat) : Ideal .f32 :=
  (FloatOps.sitofp FTy.f32 (BitVec.ofNat 32 n.val) : Ideal .f32) *
    Ideal.pow (Ideal.ofBits FTy.f32 1223959552#32) (Ideal.div (-(FloatOps.sitofp FTy.f32 (BitVec.ofNat 32 q) : Ideal .f32)) (Ideal.ofBits FTy.f32 1098907648#32))

/-- A row rotated by a token's angles: the first sixteen columns with the next sixteen, the others as they are. -/
def ROT (f : Fin 128 → Ideal .f32) (n : Fin 4096) (d : Fin 128) : Ideal .f32 :=
  if h : d.val < 16 then f ⟨d.val, by omega⟩ * Ideal.cos (TH n d.val) - f ⟨16 + d.val, by omega⟩ * Ideal.sin (TH n d.val)
  else if h : d.val - 16 < 16 then
    f ⟨16 + (d.val - 16), by omega⟩ * Ideal.cos (TH n (d.val - 16)) + f ⟨d.val - 16, by omega⟩ * Ideal.sin (TH n (d.val - 16))
  else f ⟨32 + (d.val - 16 - 16), by omega⟩

/-- A group's row of a token, from a column on. -/
abbrev ROW (x0 : FVec Ideal S16384x3072 .f32) (o : Nat) (ho : o ≤ 2560) (b : Fin 4) (g : Fin 4) (n : Fin 4096) (e : Fin 128) : Ideal .f32 :=
  x0 (ix2 ⟨b.val * 4096 + n.val, by omega⟩ ⟨o + g.val * 128 + e.val, by omega⟩)

/-- The reference's rows to compress, entry by entry. -/
theorem REF0_apply (x0 : FVec Ideal S16384x3072 .f32) (x1 : FVec Ideal S2x32x128 .f32) (a : Fin 4) (b : Fin 4) (g : Fin 4) (n : Fin 256) (q : Fin 2048) :
    REF0 x0 x1 (ix5 a b g n q) = if h : a.val < 2 then
      x0 (ix2 ⟨b.val * 4096 + (n.val * 16 + q.val / 128), by omega⟩ ⟨a.val * 512 + g.val * 128 + q.val % 128, by omega⟩)
        + x1 (ix3 ⟨a.val, by omega⟩ ⟨q.val / 128, by omega⟩ ⟨q.val % 128, by omega⟩)
    else
      x0 (ix2 ⟨b.val * 4096 + (n.val * 16 + q.val / 128), by omega⟩ ⟨(a.val - 2) * 512 + g.val * 128 + q.val % 128, by omega⟩)
        + x1 (ix3 ⟨a.val - 2, by omega⟩ ⟨16 + q.val / 128, by omega⟩ ⟨q.val % 128, by omega⟩) := by
  pointwise [REF0]

/-- The reference's selected keys, entry by entry. -/
theorem REF1_apply (x0 : FVec Ideal S16384x3072 .f32) (b : Fin 4) (g : Fin 4) (n : Fin 4096) (d : Fin 256) :
    REF1 x0 (ix4 b g n d) = if h : d.val < 128 then ROT (ROW x0 1024 (by decide) b g n) n ⟨d.val, h⟩
    else (FloatOps.uitofp FTy.f32 (IntOp.cmpi CmpIPredicate.eq (IntOp.addi (BitVec.ofNat 32 (n.val / 64)) 0#32) (BitVec.ofNat 32 (d.val - 128))) : Ideal .f32) := by
  pointwise [REF1]
  rfl

/-- The reference's window keys, entry by entry. -/
theorem REF3_apply (x0 : FVec Ideal S16384x3072 .f32) (b : Fin 4) (g : Fin 4) (n : Fin 4096) (d : Fin 128) :
    REF3 x0 (ix4 b g n d) = ROT (ROW x0 2048 (by decide) b g n) n d := by
  pointwise [REF3]
  rfl

/-- The reference's selected values, entry by entry. -/
theorem REF2_apply (x0 : FVec Ideal S16384x3072 .f32) (b : Fin 4) (g : Fin 4) (n : Fin 4096) (d : Fin 256) :
    REF2 x0 (ix4 b g n d) = if h : d.val < 128 then ROW x0 1536 (by decide) b g n ⟨d.val, h⟩
    else if h : d.val - 128 < 1 then 1 else (FloatOps.sitofp FTy.f32 0#32 : Ideal .f32) := by
  pointwise [REF2]

/-- The reference's window values, entry by entry. -/
theorem REF4_apply (x0 : FVec Ideal S16384x3072 .f32) (b : Fin 4) (g : Fin 4) (n : Fin 4096) (d : Fin 256) :
    REF4 x0 (ix4 b g n d) = if h : d.val < 128 then ROW x0 2560 (by decide) b g n ⟨d.val, h⟩
    else if h : d.val - 128 < 1 then 1 else (FloatOps.sitofp FTy.f32 0#32 : Ideal .f32) := by
  pointwise [REF4]

end Cert.Reference13Ideal.Plain

namespace Cert.Kernel13Ideal.Plain

open Cert.Kernel13Ideal Cert.Kernel13Ideal.Gen Idealize.ShloMosaic Idealize.ShloMosaic.TcCoe Idealize.SL.Sem
open Cert.Reference13Ideal.Plain
open Idealize.ShloMosaic.Pipeline (Dat)

variable (m : (ℓ : Loc nD τ sig) → Buf (Elt Ideal) ℓ)

/-- The blocks the grid's points read and write. -/
theorem idx : ∀ t : Fin cfg0.N, win0_0.index t = ![(grid0.coords t 0).val * 8 + (grid0.coords t 1).val, 0]
    ∧ win0_1.index t = ![(grid0.coords t 1).val, 0]
    ∧ win0_2.index t = ![(grid0.coords t 1).val, 0]
    ∧ win0_3.index t = ![(grid0.coords t 1).val, 0]
    ∧ win0_4.index t = ![0, 0]
    ∧ win0_5.index t = ![0, 0]
    ∧ win0_6.index t = ![0, (grid0.coords t 0).val, 0, (grid0.coords t 1).val, 0]
    ∧ win0_7.index t = ![(grid0.coords t 0).val, 0, (grid0.coords t 1).val, 0]
    ∧ win0_8.index t = ![(grid0.coords t 0).val, 0, (grid0.coords t 1).val, 0]
    ∧ win0_9.index t = ![(grid0.coords t 0).val, 0, (grid0.coords t 1).val, 0]
    ∧ win0_10.index t = ![(grid0.coords t 0).val, 0, (grid0.coords t 1).val, 0]
    ∧ (grid0.coords t 0).val < 4
    ∧ (grid0.coords t 1).val < 8 :=
  (by decide +kernel : ∀ t : Fin grid0.N, _)

/-- A point's sequence. -/
abbrev B (t : Fin cfg0.N) : Fin 4 := ⟨(grid0.coords t 0).val, (idx t).2.2.2.2.2.2.2.2.2.2.2.1⟩

/-- A point's run of tokens. -/
abbrev I (t : Fin cfg0.N) : Fin 8 := ⟨(grid0.coords t 1).val, (idx t).2.2.2.2.2.2.2.2.2.2.2.2⟩

/-- The token of its sequence that lies at a row of a point's block. -/
abbrev tok (t : Fin cfg0.N) (n : Fin 512) : Fin 4096 := ⟨(I t).val * 512 + n.val, by omega⟩

/-- The group of sixteen tokens that lies at a row of a point's block. -/
abbrev grp (t : Fin cfg0.N) (n : Fin 32) : Fin 256 := ⟨(I t).val * 32 + n.val, by omega⟩

/-- The angles as the kernel's host code makes them. -/
abbrev ANG : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1 (Host.powf
      (broadcastInDim S16 ![] bcast_S_S16 (constant (F := Ideal) S_ .f32 0x48F42400#32)) (Host.divf (Host.negf (sitofp (F := Ideal) .f32 (iotaInDim S16 32 0)))
        (broadcastInDim S16 ![] bcast_S_S16 (constant (F := Ideal) S_ .f32 0x41800000#32))))))

/-- The cosines' table as the kernel finds it. -/
theorem tab16 (c : Dev nD) : V m c main_v16 = concatenate S4096x128 1 [⟨S4096x16, (Host.cos ANG : FVec Ideal S4096x16 .f32)⟩, ⟨S4096x16, (Host.cos ANG : FVec Ideal S4096x16 .f32)⟩, ⟨S4096x96, (broadcastInDim S4096x96 ![] bcast_S_S4096x96 (constant (F := Ideal) S_ .f32 0x3F800000#32) : FVec Ideal S4096x96 .f32)⟩] concatenates_S4096x16_S4096x16_S4096x96_S4096x128_d1 := by
  unfold V hostOps0
  simp only [List.flatten_cons, List.flatten_nil, List.append_nil, List.cons_append, List.nil_append]
  after_results_entrywise (rounds := 1) []

/-- The cosines a point reads. -/
theorem t16_at (c : Dev nD) (t : Fin cfg0.N) (p : Fin 512) (d : Fin 128) : iblk m c 1 t (ix2 p d) = (if h : d.val < 16 then Ideal.cos (TH (tok t p) d.val) else if h : d.val - 16 < 16 then Ideal.cos (TH (tok t p) (d.val - 16)) else 1 : Ideal .f32) := by
  have h : iblk m c 1 t (ix2 p d) = V m c main_v16 (ix2 (tok t p) d) := by
    unfold iblk
    blk_ext! [idx t]
  rw [h, tab16]
  pointwise [ANG]
  rfl

/-- The first sines' table as the kernel finds it. -/
theorem tab19 (c : Dev nD) : V m c main_v19 = concatenate S4096x128 1 [⟨S4096x16, (Host.negf (Host.sin ANG) : FVec Ideal S4096x16 .f32)⟩, ⟨S4096x112, (broadcastInDim S4096x112 ![] bcast_S_S4096x112 (constant (F := Ideal) S_ .f32 0x00000000#32) : FVec Ideal S4096x112 .f32)⟩] concatenates_S4096x16_S4096x112_S4096x128_d1 := by
  unfold V hostOps0
  simp only [List.flatten_cons, List.flatten_nil, List.append_nil, List.cons_append, List.nil_append]
  after_results_entrywise (rounds := 1) []

/-- The first sines a point reads. -/
theorem t19_at (c : Dev nD) (t : Fin cfg0.N) (p : Fin 512) (d : Fin 128) : iblk m c 2 t (ix2 p d) = (if h : d.val < 16 then -Ideal.sin (TH (tok t p) d.val) else 0 : Ideal .f32) := by
  have h : iblk m c 2 t (ix2 p d) = V m c main_v19 (ix2 (tok t p) d) := by
    unfold iblk
    blk_ext! [idx t]
  rw [h, tab19]
  pointwise [ANG]
  rfl

/-- The second sines' table as the kernel finds it. -/
theorem tab22 (c : Dev nD) : V m c main_v22 = concatenate S4096x128 1 [⟨S4096x16, (broadcastInDim S4096x16 ![] bcast_S_S4096x16 (constant (F := Ideal) S_ .f32 0x00000000#32) : FVec Ideal S4096x16 .f32)⟩, ⟨S4096x16, (Host.sin ANG : FVec Ideal S4096x16 .f32)⟩, ⟨S4096x96, (broadcastInDim S4096x96 ![] bcast_S_S4096x96 (constant (F := Ideal) S_ .f32 0x00000000#32) : FVec Ideal S4096x96 .f32)⟩] concatenates_S4096x16_S4096x16_S4096x96_S4096x128_d1 := by
  unfold V hostOps0
  simp only [List.flatten_cons, List.flatten_nil, List.append_nil, List.cons_append, List.nil_append]
  after_results_entrywise (rounds := 1) []

/-- The second sines a point reads. -/
theorem t22_at (c : Dev nD) (t : Fin cfg0.N) (p : Fin 512) (d : Fin 128) : iblk m c 3 t (ix2 p d) = (if h : d.val < 16 then 0 else if h : d.val - 16 < 16 then Ideal.sin (TH (tok t p) (d.val - 16)) else 0 : Ideal .f32) := by
  have h : iblk m c 3 t (ix2 p d) = V m c main_v22 (ix2 (tok t p) d) := by
    unfold iblk
    blk_ext! [idx t]
  rw [h, tab22]
  pointwise [ANG]
  rfl

/-- The rows a point reads are the argument's. -/
theorem kv_at (c : Dev nD) (t : Fin cfg0.N) (n : Fin 512) (k : Fin 3072) :
    iblk m c 0 t (ix2 n k) = (m ((c : Thread nD τ).loc main_arg0)) (ix2 ⟨(B t).val * 4096 + (tok t n).val, by omega⟩ k) := by
  blk_point [iblk, V, idx t]

/-- The positions' terms a point adds to the keys. -/
theorem pe0_at (c : Dev nD) (t : Fin cfg0.N) (r : Fin 2) (q : Fin 2048) :
    iblk m c 4 t (ix2 r q) = (m ((c : Thread nD τ).loc main_arg1)) (ix3 0 ⟨r.val * 16 + q.val / 128, by omega⟩ ⟨q.val % 128, by omega⟩) := by
  have h : iblk m c 4 t (ix2 r q) = V m c main_v25 (ix2 r q) := by
    unfold iblk
    blk_ext! [idx t]
  rw [h]
  unfold V hostOps0
  simp only [List.flatten_cons, List.flatten_nil, List.append_nil, List.cons_append, List.nil_append]
  after_results
  pointwise

/-- The positions' terms a point adds to the values. -/
theorem pe1_at (c : Dev nD) (t : Fin cfg0.N) (r : Fin 2) (q : Fin 2048) :
    iblk m c 5 t (ix2 r q) = (m ((c : Thread nD τ).loc main_arg1)) (ix3 1 ⟨r.val * 16 + q.val / 128, by omega⟩ ⟨q.val % 128, by omega⟩) := by
  have h : iblk m c 5 t (ix2 r q) = V m c main_v27 (ix2 r q) := by
    unfold iblk
    blk_ext! [idx t]
  rw [h]
  unfold V hostOps0
  simp only [List.flatten_cons, List.flatten_nil, List.append_nil, List.cons_append, List.nil_append]
  after_results
  pointwise

/-- The rotation the kernel makes of a whole row is the reference's. -/
theorem rope (f : Fin 128 → Ideal .f32) (n : Fin 4096) (d : Fin 128) :
    f d * (if h : d.val < 16 then Ideal.cos (TH n d.val) else if h : d.val - 16 < 16 then Ideal.cos (TH n (d.val - 16)) else 1)
      + f ⟨(d.val + 128 - 112) % 128, by omega⟩ * (if h : d.val < 16 then -Ideal.sin (TH n d.val) else 0)
      + f ⟨(d.val + 128 - 16) % 128, by omega⟩ * (if h : d.val < 16 then 0 else if h : d.val - 16 < 16 then Ideal.sin (TH n (d.val - 16)) else 0)
    = ROT f n d := by
  unfold ROT
  by_cases h1 : d.val < 16
  · have e : (⟨(d.val + 128 - 112) % 128, by omega⟩ : Fin 128) = ⟨16 + d.val, by omega⟩ := Fin.ext (by dsimp only; omega)
    simp only [dif_pos h1, mul_zero, add_zero, e, mul_neg, sub_eq_add_neg]
  · by_cases h2 : d.val - 16 < 16
    · have e : (⟨(d.val + 128 - 16) % 128, by omega⟩ : Fin 128) = ⟨d.val - 16, by omega⟩ := Fin.ext (by dsimp only; omega)
      have e' : d = ⟨16 + (d.val - 16), by omega⟩ := Fin.ext (by dsimp only; omega)
      simp only [dif_neg h1, dif_pos h2, mul_zero, add_zero, e]
      rw [← e']
    · have e' : d = ⟨32 + (d.val - 16 - 16), by omega⟩ := Fin.ext (by dsimp only; omega)
      simp only [dif_neg h1, dif_neg h2, mul_zero, add_zero, mul_one]
      rw [← e']

/-- The kernel's shift of a token's position gives its block. -/
theorem shift_word : ∀ (i : Fin 8) (n : Fin 512),
    IntOp.shrsi ArithUnit.vector (IntOp.addi (Scalar.muli (BitVec.ofNat 32 i.val) 512#32) (BitVec.ofNat 32 n.val)) 6#32
    = BitVec.ofNat 32 ((i.val * 512 + n.val) / 64) := by
  decide +kernel

/-- The column of a token's block holds a one in the kernel as in the reference. -/
theorem block_word (i : Fin 8) (n : Fin 512) (e : Nat) :
    (Scalar.select (IntOp.cmpi CmpIPredicate.eq (BitVec.ofNat 32 e)
      (IntOp.shrsi ArithUnit.vector (IntOp.addi (Scalar.muli (BitVec.ofNat 32 i.val) 512#32) (BitVec.ofNat 32 n.val)) 6#32)) 1 0 : Ideal .f32)
    = (FloatOps.uitofp FTy.f32 (IntOp.cmpi CmpIPredicate.eq (IntOp.addi (BitVec.ofNat 32 ((i.val * 512 + n.val) / 64)) 0#32) (BitVec.ofNat 32 e)) : Ideal .f32) := by
  rw [shift_word]
  generalize BitVec.ofNat 32 ((i.val * 512 + n.val) / 64) = a
  generalize BitVec.ofNat 32 e = b
  have h0 : IntOp.addi a 0#32 = a := BitVec.add_zero a
  rw [h0]
  by_cases h : b = a
  · subst h
    simp [IntOp.cmpi, Scalar.select, FloatOps.uitofp]
  · have h' : a ≠ b := fun q => h q.symm
    have e1 : (b == a) = false := beq_eq_false_iff_ne.mpr h
    have e2 : (a == b) = false := beq_eq_false_iff_ne.mpr h'
    simp [IntOp.cmpi, Scalar.select, FloatOps.uitofp, e1, e2]

/-- The kernel's column of ones is the reference's. -/
theorem ones_word (e : Nat) (he : e < 128) : (Scalar.select (IntOp.cmpi CmpIPredicate.eq (BitVec.ofNat 32 e) 0#32) 1 0 : Ideal .f32)
    = if h : e < 1 then 1 else (FloatOps.sitofp FTy.f32 0#32 : Ideal .f32) := by
  have h0 : (FloatOps.sitofp .f32 0#32 : Ideal .f32) = 0 := by simp [FloatOps.sitofp]
  have h1 : IntOp.cmpi CmpIPredicate.eq (BitVec.ofNat 32 e) 0#32 = if e < 1 then 1#1 else 0#1 :=
    (by decide +kernel : ∀ e : Fin 128, IntOp.cmpi CmpIPredicate.eq (BitVec.ofNat 32 e.val) 0#32 = if e.val < 1 then 1#1 else 0#1) ⟨e, he⟩
  rw [h1]
  by_cases h : e < 1
  · simp [h, Scalar.select]
  · simp [h, Scalar.select, h0]

/-- A whole load of a rotation table. -/
theorem fullt (x : Vec Ideal S512x128 .f32) : View.ld x r0_0 = x := View.ld_unit_lit _ _ (by intro a; fin_cases a <;> rfl)

/-- An index whose first two axes have one position. -/
theorem one4 {a b : Nat} (x : (⟨4, ![1, 1, a, b]⟩ : Shape).Idx) : ∃ (i : Fin a) (d : Fin b), x = ix4 0 0 i d :=
  ⟨x 2, x 3, (eq_ix4 x).trans (congrArg₂ (ix4 · · (x 2) (x 3)) (Subsingleton.elim (α := Fin 1) _ _) (Subsingleton.elim (α := Fin 1) _ _))⟩

/-- An index whose first three axes have one position. -/
theorem one5 {a b : Nat} (x : (⟨5, ![1, 1, 1, a, b]⟩ : Shape).Idx) : ∃ (i : Fin a) (d : Fin b), x = ix5 0 0 0 i d :=
  ⟨x 3, x 4, (eq_ix5 x).trans ((congrArg₂ (ix5 · · (x 2) (x 3) (x 4)) (Subsingleton.elim (α := Fin 1) _ _) (Subsingleton.elim (α := Fin 1) _ _)).trans
    (congrArg (ix5 0 0 · (x 3) (x 4)) (Subsingleton.elim (α := Fin 1) _ _)))⟩
/-- Every sixteenth row of a block's columns, from a row on. -/
def slc (v : Vec Ideal S512x128 .f32) (l : Fin 16) : S32x128.Idx → Ideal .f32 :=
  shapeCast S32x128 (extractStridedSlice S32x1x128 ![0, l.val, 0] (shapeCast S32x16x128 v shapeCasts_S512x128_S32x16x128 : FVec Ideal S32x16x128 .f32)
    (by revert l; decide) : FVec Ideal S32x1x128 .f32) shapeCasts_S32x1x128_S32x128

/-- Its entries. -/
theorem slc_at (v : Vec Ideal S512x128 .f32) (l : Fin 16) (n : Fin 32) (d : Fin 128) : slc v l (ix2 n d) = v (ix2 ⟨n.val * 16 + l.val, by omega⟩ d) := by
  pointwise [slc]

/-- Sixteen rows side by side: the sixteen selections of rows laid out one after the other. -/
theorem rows_eq (v : Vec Ideal S512x128 .f32) :
    (k0_pay75 v : FVec Ideal S32x2048 .f32) = concatenate S32x2048 1 (List.ofFn fun l : Fin 16 => (⟨S32x128, slc v l⟩ : (s : Shape) × (s.Idx → Ideal .f32))) concatenates_S32x128_S32x128_S32x128_S32x128_S32x128_S32x128_S32x128_S32x128_S32x128_S32x128_S32x128_S32x128_S32x128_S32x128_S32x128_S32x128_S32x2048_d1 := by
  rfl

/-- Sixteen rows side by side, entry by entry. -/
theorem rows_at (v : Vec Ideal S512x128 .f32) (n : Fin 32) (q : Fin 2048) :
    (k0_pay75 v : FVec Ideal S32x2048 .f32) (ix2 n q) = v (ix2 ⟨n.val * 16 + q.val / 128, by omega⟩ ⟨q.val % 128, by omega⟩) := by
  rw [rows_eq]
  refine (concatenate_ofFn_apply (t := S32x2048) (s₁ := S32x128) 1 (slc v) _ rfl 128 rfl (ix2 n q) ⟨q.val / 128, by omega⟩ rfl (ix2 n ⟨q.val % 128, by omega⟩) rfl ?_).trans (slc_at _ _ _ _)
  intro b hb
  fin_cases b
  · rfl
  · exact absurd rfl hb

/-- A row of positions' terms added to sixteen rows side by side. -/
theorem add_at (v : Vec Ideal S512x128 .f32) (w : Vec Ideal S1x2048 .f32) (n : Fin 32) (q : Fin 2048) :
    (k0_pay76 v w : FVec Ideal S1x1x1x32x2048 .bf16) (ix5 0 0 0 n q) = (k0_pay75 v : FVec Ideal S32x2048 .f32) (ix2 n q) + w (ix2 0 q) := by
  pointwise [k0_pay76]

/-- Where an index of a point's block of window 6 lies. -/
theorem out6_at (t : Fin cfg0.N) (y) (a : Fin 4) (g : Fin 4) (n : Fin 32) (q : Fin 2048) (h0 : (y 0).val = a.val) (h2 : (y 2).val = g.val)
    (h3 : (y 3).val = n.val) (h4 : (y 4).val = q.val) : (win0_6.blk t).view.emb y = ix5 a (B t) g (grp t n) q := by
  have h1 : (y 1).val < 1 := (y 1).isLt
  blk_ext [idx t]

/-- Where an index of a point's block of window 7 lies. -/
theorem out7_at (t : Fin cfg0.N) (y) (g : Fin 4) (n : Fin 512) (d : Fin 256) (h1 : (y 1).val = g.val)
    (h2 : (y 2).val = n.val) (h3 : (y 3).val = d.val) : (win0_7.blk t).view.emb y = ix4 (B t) g (tok t n) d := by
  have h0 : (y 0).val < 1 := (y 0).isLt
  blk_ext [idx t]

/-- Where an index of a point's block of window 8 lies. -/
theorem out8_at (t : Fin cfg0.N) (y) (g : Fin 4) (n : Fin 512) (d : Fin 256) (h1 : (y 1).val = g.val)
    (h2 : (y 2).val = n.val) (h3 : (y 3).val = d.val) : (win0_8.blk t).view.emb y = ix4 (B t) g (tok t n) d := by
  have h0 : (y 0).val < 1 := (y 0).isLt
  blk_ext [idx t]

/-- Where an index of a point's block of window 9 lies. -/
theorem out9_at (t : Fin cfg0.N) (y) (g : Fin 4) (n : Fin 512) (d : Fin 128) (h1 : (y 1).val = g.val)
    (h2 : (y 2).val = n.val) (h3 : (y 3).val = d.val) : (win0_9.blk t).view.emb y = ix4 (B t) g (tok t n) d := by
  have h0 : (y 0).val < 1 := (y 0).isLt
  blk_ext [idx t]

/-- Where an index of a point's block of window 10 lies. -/
theorem out10_at (t : Fin cfg0.N) (y) (g : Fin 4) (n : Fin 512) (d : Fin 256) (h1 : (y 1).val = g.val)
    (h2 : (y 2).val = n.val) (h3 : (y 3).val = d.val) : (win0_10.blk t).view.emb y = ix4 (B t) g (tok t n) d := by
  have h0 : (y 0).val < 1 := (y 0).isLt
  blk_ext [idx t]

/-- What a point stores of part 3 of group 3. -/
theorem p6_0 (c : Dev nD) (t : Fin cfg0.N) (n : Fin 32) (q : Fin 2048) :
    (k0_pay82 (k0_pay79 (View.ld (iblk m c 0 t) r0_42)) (View.ld (iblk m c 5 t) r0_4) : FVec Ideal S1x1x1x32x2048 .bf16) (ix5 0 0 0 n q)
    = REF0 (m ((c : Thread nD τ).loc main_arg0)) (m ((c : Thread nD τ).loc main_arg1)) (ix5 3 (B t) 3 (grp t n) q) := by
  refine (add_at (View.ld (iblk m c 0 t) r0_42) (View.ld (iblk m c 5 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨896 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 1 q)) ?_ ?_
    · pointwise
    · rw [pe1_at]
      exact congrArg (fun b => (m ((c : Thread nD τ).loc main_arg1)) (ix3 1 b _)) (Fin.ext (by dsimp only [Fin.isValue]; omega))

/-- What a point stores of part 1 of group 3. -/
theorem p6_1 (c : Dev nD) (t : Fin cfg0.N) (n : Fin 32) (q : Fin 2048) :
    (k0_pay81 (k0_pay80 (View.ld (iblk m c 0 t) r0_42) (View.ld (iblk m c 5 t) r0_2)) : FVec Ideal S1x1x1x32x2048 .bf16) (ix5 0 0 0 n q)
    = REF0 (m ((c : Thread nD τ).loc main_arg0)) (m ((c : Thread nD τ).loc main_arg1)) (ix5 1 (B t) 3 (grp t n) q) := by
  refine (add_at (View.ld (iblk m c 0 t) r0_42) (View.ld (iblk m c 5 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨896 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 0 q)) ?_ ?_
    · pointwise
    · rw [pe1_at]
      exact congrArg (fun b => (m ((c : Thread nD τ).loc main_arg1)) (ix3 1 b _)) (Fin.ext (by dsimp only [Fin.isValue]; simp))

/-- What a point stores of part 2 of group 3. -/
theorem p6_2 (c : Dev nD) (t : Fin cfg0.N) (n : Fin 32) (q : Fin 2048) :
    (k0_pay78 (k0_pay77 (View.ld (iblk m c 0 t) r0_39) (View.ld (iblk m c 4 t) r0_4)) : FVec Ideal S1x1x1x32x2048 .bf16) (ix5 0 0 0 n q)
    = REF0 (m ((c : Thread nD τ).loc main_arg0)) (m ((c : Thread nD τ).loc main_arg1)) (ix5 2 (B t) 3 (grp t n) q) := by
  refine (add_at (View.ld (iblk m c 0 t) r0_39) (View.ld (iblk m c 4 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨384 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 1 q)) ?_ ?_
    · pointwise
    · rw [pe0_at]
      exact congrArg (fun b => (m ((c : Thread nD τ).loc main_arg1)) (ix3 0 b _)) (Fin.ext (by dsimp only [Fin.isValue]; omega))

/-- What a point stores of part 0 of group 3. -/
theorem p6_3 (c : Dev nD) (t : Fin cfg0.N) (n : Fin 32) (q : Fin 2048) :
    (k0_pay76 (View.ld (iblk m c 0 t) r0_39) (View.ld (iblk m c 4 t) r0_2) : FVec Ideal S1x1x1x32x2048 .bf16) (ix5 0 0 0 n q)
    = REF0 (m ((c : Thread nD τ).loc main_arg0)) (m ((c : Thread nD τ).loc main_arg1)) (ix5 0 (B t) 3 (grp t n) q) := by
  refine (add_at (View.ld (iblk m c 0 t) r0_39) (View.ld (iblk m c 4 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨384 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 0 q)) ?_ ?_
    · pointwise
    · rw [pe0_at]
      exact congrArg (fun b => (m ((c : Thread nD τ).loc main_arg1)) (ix3 0 b _)) (Fin.ext (by dsimp only [Fin.isValue]; simp))

/-- What a point stores of part 3 of group 2. -/
theorem p6_4 (c : Dev nD) (t : Fin cfg0.N) (n : Fin 32) (q : Fin 2048) :
    (k0_pay70 (k0_pay116 (grid0.coords t) (iblk m c 0 t) (iblk m c 1 t) (iblk m c 2 t) (iblk m c 3 t) (iblk m c 4 t) (iblk m c 5 t)) (k0_pay117 (grid0.coords t) (iblk m c 0 t) (iblk m c 1 t) (iblk m c 2 t) (iblk m c 3 t) (iblk m c 4 t) (iblk m c 5 t)) (k0_pay118 (grid0.coords t) (iblk m c 0 t) (iblk m c 1 t) (iblk m c 2 t) (iblk m c 3 t) (iblk m c 4 t) (iblk m c 5 t)) (k0_pay119 (grid0.coords t) (iblk m c 0 t) (iblk m c 1 t) (iblk m c 2 t) (iblk m c 3 t) (iblk m c 4 t) (iblk m c 5 t)) (k0_pay120 (grid0.coords t) (iblk m c 0 t) (iblk m c 1 t) (iblk m c 2 t) (iblk m c 3 t) (iblk m c 4 t) (iblk m c 5 t)) (k0_pay121 (grid0.coords t) (iblk m c 0 t) (iblk m c 1 t) (iblk m c 2 t) (iblk m c 3 t) (iblk m c 4 t) (iblk m c 5 t)) (k0_pay122 (grid0.coords t) (iblk m c 0 t) (iblk m c 1 t) (iblk m c 2 t) (iblk m c 3 t) (iblk m c 4 t) (iblk m c 5 t)) (k0_pay123 (grid0.coords t) (iblk m c 0 t) (iblk m c 1 t) (iblk m c 2 t) (iblk m c 3 t) (iblk m c 4 t) (iblk m c 5 t)) (View.ld (iblk m c 5 t) r0_4) : FVec Ideal S1x1x1x32x2048 .bf16) (ix5 0 0 0 n q)
    = REF0 (m ((c : Thread nD τ).loc main_arg0)) (m ((c : Thread nD τ).loc main_arg1)) (ix5 3 (B t) 2 (grp t n) q) := by
  refine (add_at (View.ld (iblk m c 0 t) r0_30) (View.ld (iblk m c 5 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨768 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 1 q)) ?_ ?_
    · pointwise
    · rw [pe1_at]
      exact congrArg (fun b => (m ((c : Thread nD τ).loc main_arg1)) (ix3 1 b _)) (Fin.ext (by dsimp only [Fin.isValue]; omega))

/-- What a point stores of part 1 of group 2. -/
theorem p6_5 (c : Dev nD) (t : Fin cfg0.N) (n : Fin 32) (q : Fin 2048) :
    (k0_pay69 (k0_pay116 (grid0.coords t) (iblk m c 0 t) (iblk m c 1 t) (iblk m c 2 t) (iblk m c 3 t) (iblk m c 4 t) (iblk m c 5 t)) (k0_pay117 (grid0.coords t) (iblk m c 0 t) (iblk m c 1 t) (iblk m c 2 t) (iblk m c 3 t) (iblk m c 4 t) (iblk m c 5 t)) (k0_pay118 (grid0.coords t) (iblk m c 0 t) (iblk m c 1 t) (iblk m c 2 t) (iblk m c 3 t) (iblk m c 4 t) (iblk m c 5 t)) (k0_pay119 (grid0.coords t) (iblk m c 0 t) (iblk m c 1 t) (iblk m c 2 t) (iblk m c 3 t) (iblk m c 4 t) (iblk m c 5 t)) (k0_pay120 (grid0.coords t) (iblk m c 0 t) (iblk m c 1 t) (iblk m c 2 t) (iblk m c 3 t) (iblk m c 4 t) (iblk m c 5 t)) (k0_pay121 (grid0.coords t) (iblk m c 0 t) (iblk m c 1 t) (iblk m c 2 t) (iblk m c 3 t) (iblk m c 4 t) (iblk m c 5 t)) (k0_pay122 (grid0.coords t) (iblk m c 0 t) (iblk m c 1 t) (iblk m c 2 t) (iblk m c 3 t) (iblk m c 4 t) (iblk m c 5 t)) (k0_pay123 (grid0.coords t) (iblk m c 0 t) (iblk m c 1 t) (iblk m c 2 t) (iblk m c 3 t) (iblk m c 4 t) (iblk m c 5 t)) (View.ld (iblk m c 5 t) r0_2) : FVec Ideal S1x1x1x32x2048 .bf16) (ix5 0 0 0 n q)
    = REF0 (m ((c : Thread nD τ).loc main_arg0)) (m ((c : Thread nD τ).loc main_arg1)) (ix5 1 (B t) 2 (grp t n) q) := by
  refine (add_at (View.ld (iblk m c 0 t) r0_30) (View.ld (iblk m c 5 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨768 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 0 q)) ?_ ?_
    · pointwise
    · rw [pe1_at]
      exact congrArg (fun b => (m ((c : Thread nD τ).loc main_arg1)) (ix3 1 b _)) (Fin.ext (by dsimp only [Fin.isValue]; simp))

/-- What a point stores of part 2 of group 2. -/
theorem p6_6 (c : Dev nD) (t : Fin cfg0.N) (n : Fin 32) (q : Fin 2048) :
    (k0_pay59 (k0_pay104 (grid0.coords t) (iblk m c 0 t) (iblk m c 1 t) (iblk m c 2 t) (iblk m c 3 t) (iblk m c 4 t) (iblk m c 5 t)) (k0_pay105 (grid0.coords t) (iblk m c 0 t) (iblk m c 1 t) (iblk m c 2 t) (iblk m c 3 t) (iblk m c 4 t) (iblk m c 5 t)) (k0_pay106 (grid0.coords t) (iblk m c 0 t) (iblk m c 1 t) (iblk m c 2 t) (iblk m c 3 t) (iblk m c 4 t) (iblk m c 5 t)) (k0_pay107 (grid0.coords t) (iblk m c 0 t) (iblk m c 1 t) (iblk m c 2 t) (iblk m c 3 t) (iblk m c 4 t) (iblk m c 5 t)) (k0_pay108 (grid0.coords t) (iblk m c 0 t) (iblk m c 1 t) (iblk m c 2 t) (iblk m c 3 t) (iblk m c 4 t) (iblk m c 5 t)) (k0_pay109 (grid0.coords t) (iblk m c 0 t) (iblk m c 1 t) (iblk m c 2 t) (iblk m c 3 t) (iblk m c 4 t) (iblk m c 5 t)) (k0_pay110 (grid0.coords t) (iblk m c 0 t) (iblk m c 1 t) (iblk m c 2 t) (iblk m c 3 t) (iblk m c 4 t) (iblk m c 5 t)) (k0_pay111 (grid0.coords t) (iblk m c 0 t) (iblk m c 1 t) (iblk m c 2 t) (iblk m c 3 t) (iblk m c 4 t) (iblk m c 5 t)) (k0_pay112 (grid0.coords t) (iblk m c 0 t) (iblk m c 1 t) (iblk m c 2 t) (iblk m c 3 t) (iblk m c 4 t) (iblk m c 5 t)) (k0_pay113 (grid0.coords t) (iblk m c 0 t) (iblk m c 1 t) (iblk m c 2 t) (iblk m c 3 t) (iblk m c 4 t) (iblk m c 5 t)) (k0_pay114 (grid0.coords t) (iblk m c 0 t) (iblk m c 1 t) (iblk m c 2 t) (iblk m c 3 t) (iblk m c 4 t) (iblk m c 5 t)) (k0_pay115 (grid0.coords t) (iblk m c 0 t) (iblk m c 1 t) (iblk m c 2 t) (iblk m c 3 t) (iblk m c 4 t) (iblk m c 5 t)) (View.ld (iblk m c 4 t) r0_4) : FVec Ideal S1x1x1x32x2048 .bf16) (ix5 0 0 0 n q)
    = REF0 (m ((c : Thread nD τ).loc main_arg0)) (m ((c : Thread nD τ).loc main_arg1)) (ix5 2 (B t) 2 (grp t n) q) := by
  refine (add_at (View.ld (iblk m c 0 t) r0_27) (View.ld (iblk m c 4 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨256 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 1 q)) ?_ ?_
    · pointwise
    · rw [pe0_at]
      exact congrArg (fun b => (m ((c : Thread nD τ).loc main_arg1)) (ix3 0 b _)) (Fin.ext (by dsimp only [Fin.isValue]; omega))

/-- What a point stores of part 0 of group 2. -/
theorem p6_7 (c : Dev nD) (t : Fin cfg0.N) (n : Fin 32) (q : Fin 2048) :
    (k0_pay58 (k0_pay104 (grid0.coords t) (iblk m c 0 t) (iblk m c 1 t) (iblk m c 2 t) (iblk m c 3 t) (iblk m c 4 t) (iblk m c 5 t)) (k0_pay105 (grid0.coords t) (iblk m c 0 t) (iblk m c 1 t) (iblk m c 2 t) (iblk m c 3 t) (iblk m c 4 t) (iblk m c 5 t)) (k0_pay106 (grid0.coords t) (iblk m c 0 t) (iblk m c 1 t) (iblk m c 2 t) (iblk m c 3 t) (iblk m c 4 t) (iblk m c 5 t)) (k0_pay107 (grid0.coords t) (iblk m c 0 t) (iblk m c 1 t) (iblk m c 2 t) (iblk m c 3 t) (iblk m c 4 t) (iblk m c 5 t)) (k0_pay108 (grid0.coords t) (iblk m c 0 t) (iblk m c 1 t) (iblk m c 2 t) (iblk m c 3 t) (iblk m c 4 t) (iblk m c 5 t)) (k0_pay109 (grid0.coords t) (iblk m c 0 t) (iblk m c 1 t) (iblk m c 2 t) (iblk m c 3 t) (iblk m c 4 t) (iblk m c 5 t)) (k0_pay110 (grid0.coords t) (iblk m c 0 t) (iblk m c 1 t) (iblk m c 2 t) (iblk m c 3 t) (iblk m c 4 t) (iblk m c 5 t)) (k0_pay111 (grid0.coords t) (iblk m c 0 t) (iblk m c 1 t) (iblk m c 2 t) (iblk m c 3 t) (iblk m c 4 t) (iblk m c 5 t)) (k0_pay112 (grid0.coords t) (iblk m c 0 t) (iblk m c 1 t) (iblk m c 2 t) (iblk m c 3 t) (iblk m c 4 t) (iblk m c 5 t)) (k0_pay113 (grid0.coords t) (iblk m c 0 t) (iblk m c 1 t) (iblk m c 2 t) (iblk m c 3 t) (iblk m c 4 t) (iblk m c 5 t)) (k0_pay114 (grid0.coords t) (iblk m c 0 t) (iblk m c 1 t) (iblk m c 2 t) (iblk m c 3 t) (iblk m c 4 t) (iblk m c 5 t)) (k0_pay115 (grid0.coords t) (iblk m c 0 t) (iblk m c 1 t) (iblk m c 2 t) (iblk m c 3 t) (iblk m c 4 t) (iblk m c 5 t)) (View.ld (iblk m c 4 t) r0_2) : FVec Ideal S1x1x1x32x2048 .bf16) (ix5 0 0 0 n q)
    = REF0 (m ((c : Thread nD τ).loc main_arg0)) (m ((c : Thread nD τ).loc main_arg1)) (ix5 0 (B t) 2 (grp t n) q) := by
  refine (add_at (View.ld (iblk m c 0 t) r0_27) (View.ld (iblk m c 4 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨256 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 0 q)) ?_ ?_
    · pointwise
    · rw [pe0_at]
      exact congrArg (fun b => (m ((c : Thread nD τ).loc main_arg1)) (ix3 0 b _)) (Fin.ext (by dsimp only [Fin.isValue]; simp))

/-- What a point stores of part 3 of group 1. -/
theorem p6_8 (c : Dev nD) (t : Fin cfg0.N) (n : Fin 32) (q : Fin 2048) :
    (k0_pay39 (k0_pay36 (View.ld (iblk m c 0 t) r0_18)) (View.ld (iblk m c 5 t) r0_4) : FVec Ideal S1x1x1x32x2048 .bf16) (ix5 0 0 0 n q)
    = REF0 (m ((c : Thread nD τ).loc main_arg0)) (m ((c : Thread nD τ).loc main_arg1)) (ix5 3 (B t) 1 (grp t n) q) := by
  refine (add_at (View.ld (iblk m c 0 t) r0_18) (View.ld (iblk m c 5 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨640 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 1 q)) ?_ ?_
    · pointwise
    · rw [pe1_at]
      exact congrArg (fun b => (m ((c : Thread nD τ).loc main_arg1)) (ix3 1 b _)) (Fin.ext (by dsimp only [Fin.isValue]; omega))

/-- What a point stores of part 1 of group 1. -/
theorem p6_9 (c : Dev nD) (t : Fin cfg0.N) (n : Fin 32) (q : Fin 2048) :
    (k0_pay38 (k0_pay37 (View.ld (iblk m c 0 t) r0_18) (View.ld (iblk m c 5 t) r0_2)) : FVec Ideal S1x1x1x32x2048 .bf16) (ix5 0 0 0 n q)
    = REF0 (m ((c : Thread nD τ).loc main_arg0)) (m ((c : Thread nD τ).loc main_arg1)) (ix5 1 (B t) 1 (grp t n) q) := by
  refine (add_at (View.ld (iblk m c 0 t) r0_18) (View.ld (iblk m c 5 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨640 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 0 q)) ?_ ?_
    · pointwise
    · rw [pe1_at]
      exact congrArg (fun b => (m ((c : Thread nD τ).loc main_arg1)) (ix3 1 b _)) (Fin.ext (by dsimp only [Fin.isValue]; simp))

/-- What a point stores of part 2 of group 1. -/
theorem p6_10 (c : Dev nD) (t : Fin cfg0.N) (n : Fin 32) (q : Fin 2048) :
    (k0_pay35 (k0_pay33 (View.ld (iblk m c 0 t) r0_15)) (View.ld (iblk m c 4 t) r0_4) : FVec Ideal S1x1x1x32x2048 .bf16) (ix5 0 0 0 n q)
    = REF0 (m ((c : Thread nD τ).loc main_arg0)) (m ((c : Thread nD τ).loc main_arg1)) (ix5 2 (B t) 1 (grp t n) q) := by
  refine (add_at (View.ld (iblk m c 0 t) r0_15) (View.ld (iblk m c 4 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨128 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 1 q)) ?_ ?_
    · pointwise
    · rw [pe0_at]
      exact congrArg (fun b => (m ((c : Thread nD τ).loc main_arg1)) (ix3 0 b _)) (Fin.ext (by dsimp only [Fin.isValue]; omega))

/-- What a point stores of part 0 of group 1. -/
theorem p6_11 (c : Dev nD) (t : Fin cfg0.N) (n : Fin 32) (q : Fin 2048) :
    (k0_pay34 (View.ld (iblk m c 0 t) r0_15) (View.ld (iblk m c 4 t) r0_2) : FVec Ideal S1x1x1x32x2048 .bf16) (ix5 0 0 0 n q)
    = REF0 (m ((c : Thread nD τ).loc main_arg0)) (m ((c : Thread nD τ).loc main_arg1)) (ix5 0 (B t) 1 (grp t n) q) := by
  refine (add_at (View.ld (iblk m c 0 t) r0_15) (View.ld (iblk m c 4 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨128 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 0 q)) ?_ ?_
    · pointwise
    · rw [pe0_at]
      exact congrArg (fun b => (m ((c : Thread nD τ).loc main_arg1)) (ix3 0 b _)) (Fin.ext (by dsimp only [Fin.isValue]; simp))

/-- What a point stores of part 3 of group 0. -/
theorem p6_12 (c : Dev nD) (t : Fin cfg0.N) (n : Fin 32) (q : Fin 2048) :
    (k0_pay27 (k0_pay99 (grid0.coords t) (iblk m c 0 t) (iblk m c 1 t) (iblk m c 2 t) (iblk m c 3 t) (iblk m c 4 t) (iblk m c 5 t)) (k0_pay100 (grid0.coords t) (iblk m c 0 t) (iblk m c 1 t) (iblk m c 2 t) (iblk m c 3 t) (iblk m c 4 t) (iblk m c 5 t)) (k0_pay101 (grid0.coords t) (iblk m c 0 t) (iblk m c 1 t) (iblk m c 2 t) (iblk m c 3 t) (iblk m c 4 t) (iblk m c 5 t)) (k0_pay102 (grid0.coords t) (iblk m c 0 t) (iblk m c 1 t) (iblk m c 2 t) (iblk m c 3 t) (iblk m c 4 t) (iblk m c 5 t)) (k0_pay103 (grid0.coords t) (iblk m c 0 t) (iblk m c 1 t) (iblk m c 2 t) (iblk m c 3 t) (iblk m c 4 t) (iblk m c 5 t)) (View.ld (iblk m c 5 t) r0_4) : FVec Ideal S1x1x1x32x2048 .bf16) (ix5 0 0 0 n q)
    = REF0 (m ((c : Thread nD τ).loc main_arg0)) (m ((c : Thread nD τ).loc main_arg1)) (ix5 3 (B t) 0 (grp t n) q) := by
  refine (add_at (View.ld (iblk m c 0 t) r0_6) (View.ld (iblk m c 5 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨512 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 1 q)) ?_ ?_
    · pointwise
    · rw [pe1_at]
      exact congrArg (fun b => (m ((c : Thread nD τ).loc main_arg1)) (ix3 1 b _)) (Fin.ext (by dsimp only [Fin.isValue]; omega))

/-- What a point stores of part 1 of group 0. -/
theorem p6_13 (c : Dev nD) (t : Fin cfg0.N) (n : Fin 32) (q : Fin 2048) :
    (k0_pay26 (k0_pay99 (grid0.coords t) (iblk m c 0 t) (iblk m c 1 t) (iblk m c 2 t) (iblk m c 3 t) (iblk m c 4 t) (iblk m c 5 t)) (k0_pay100 (grid0.coords t) (iblk m c 0 t) (iblk m c 1 t) (iblk m c 2 t) (iblk m c 3 t) (iblk m c 4 t) (iblk m c 5 t)) (k0_pay101 (grid0.coords t) (iblk m c 0 t) (iblk m c 1 t) (iblk m c 2 t) (iblk m c 3 t) (iblk m c 4 t) (iblk m c 5 t)) (k0_pay102 (grid0.coords t) (iblk m c 0 t) (iblk m c 1 t) (iblk m c 2 t) (iblk m c 3 t) (iblk m c 4 t) (iblk m c 5 t)) (k0_pay103 (grid0.coords t) (iblk m c 0 t) (iblk m c 1 t) (iblk m c 2 t) (iblk m c 3 t) (iblk m c 4 t) (iblk m c 5 t)) (View.ld (iblk m c 5 t) r0_2) : FVec Ideal S1x1x1x32x2048 .bf16) (ix5 0 0 0 n q)
    = REF0 (m ((c : Thread nD τ).loc main_arg0)) (m ((c : Thread nD τ).loc main_arg1)) (ix5 1 (B t) 0 (grp t n) q) := by
  refine (add_at (View.ld (iblk m c 0 t) r0_6) (View.ld (iblk m c 5 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨512 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 5 t) (ix2 0 q)) ?_ ?_
    · pointwise
    · rw [pe1_at]
      exact congrArg (fun b => (m ((c : Thread nD τ).loc main_arg1)) (ix3 1 b _)) (Fin.ext (by dsimp only [Fin.isValue]; simp))

/-- What a point stores of part 2 of group 0. -/
theorem p6_14 (c : Dev nD) (t : Fin cfg0.N) (n : Fin 32) (q : Fin 2048) :
    (k0_pay19 (k0_pay90 (grid0.coords t) (iblk m c 0 t) (iblk m c 1 t) (iblk m c 2 t) (iblk m c 3 t) (iblk m c 4 t) (iblk m c 5 t)) (k0_pay91 (grid0.coords t) (iblk m c 0 t) (iblk m c 1 t) (iblk m c 2 t) (iblk m c 3 t) (iblk m c 4 t) (iblk m c 5 t)) (k0_pay92 (grid0.coords t) (iblk m c 0 t) (iblk m c 1 t) (iblk m c 2 t) (iblk m c 3 t) (iblk m c 4 t) (iblk m c 5 t)) (k0_pay93 (grid0.coords t) (iblk m c 0 t) (iblk m c 1 t) (iblk m c 2 t) (iblk m c 3 t) (iblk m c 4 t) (iblk m c 5 t)) (k0_pay94 (grid0.coords t) (iblk m c 0 t) (iblk m c 1 t) (iblk m c 2 t) (iblk m c 3 t) (iblk m c 4 t) (iblk m c 5 t)) (k0_pay95 (grid0.coords t) (iblk m c 0 t) (iblk m c 1 t) (iblk m c 2 t) (iblk m c 3 t) (iblk m c 4 t) (iblk m c 5 t)) (k0_pay96 (grid0.coords t) (iblk m c 0 t) (iblk m c 1 t) (iblk m c 2 t) (iblk m c 3 t) (iblk m c 4 t) (iblk m c 5 t)) (k0_pay97 (grid0.coords t) (iblk m c 0 t) (iblk m c 1 t) (iblk m c 2 t) (iblk m c 3 t) (iblk m c 4 t) (iblk m c 5 t)) (k0_pay98 (grid0.coords t) (iblk m c 0 t) (iblk m c 1 t) (iblk m c 2 t) (iblk m c 3 t) (iblk m c 4 t) (iblk m c 5 t)) (View.ld (iblk m c 4 t) r0_4) : FVec Ideal S1x1x1x32x2048 .bf16) (ix5 0 0 0 n q)
    = REF0 (m ((c : Thread nD τ).loc main_arg0)) (m ((c : Thread nD τ).loc main_arg1)) (ix5 2 (B t) 0 (grp t n) q) := by
  refine (add_at (View.ld (iblk m c 0 t) r0_1) (View.ld (iblk m c 4 t) r0_4) n q).trans ?_
  rw [rows_at, REF0_apply, dif_neg (by decide)]
  refine congrArg₂ (· + ·) ?_ ?_
  · refine Eq.trans (b := iblk m c 0 t (ix2 ⟨n.val * 16 + q.val / 128, by omega⟩ ⟨0 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 1 q)) ?_ ?_
    · pointwise
    · rw [pe0_at]
      exact congrArg (fun b => (m ((c : Thread nD τ).loc main_arg1)) (ix3 0 b _)) (Fin.ext (by dsimp only [Fin.isValue]; omega))

/-- What a point stores of part 0 of group 0. -/
theorem p6_15 (c : Dev nD) (t : Fin cfg0.N) (n : Fin 32) (q : Fin 2048) :
    (k0_pay18 (k0_pay90 (grid0.coords t) (iblk m c 0 t) (iblk m c 1 t) (iblk m c 2 t) (iblk m c 3 t) (iblk m c 4 t) (iblk m c 5 t)) (k0_pay91 (grid0.coords t) (iblk m c 0 t) (iblk m c 1 t) (iblk m c 2 t) (iblk m c 3 t) (iblk m c 4 t) (iblk m c 5 t)) (k0_pay92 (grid0.coords t) (iblk m c 0 t) (iblk m c 1 t) (iblk m c 2 t) (iblk m c 3 t) (iblk m c 4 t) (iblk m c 5 t)) (k0_pay93 (grid0.coords t) (iblk m c 0 t) (iblk m c 1 t) (iblk m c 2 t) (iblk m c 3 t) (iblk m c 4 t) (iblk m c 5 t)) (k0_pay94 (grid0.coords t) (iblk m c 0 t) (iblk m c 1 t) (iblk m c 2 t) (iblk m c 3 t) (iblk m c 4 t) (iblk m c 5 t)) (k0_pay95 (grid0.coords t) (iblk m c 0 t) (iblk m c 1 t) (iblk m c 2 t) (iblk m c 3 t) (iblk m c 4 t) (iblk m c 5 t)) (k0_pay96 (grid0.coords t) (iblk m c 0 t) (iblk m c 1 t) (iblk m c 2 t) (iblk m c 3 t) (iblk m c 4 t) (iblk m c 5 t)) (k0_pay97 (grid0.coords t) (iblk m c 0 t) (iblk m c 1 t) (iblk m c 2 t) (iblk m c 3 t) (iblk m c 4 t) (iblk m c 5 t)) (k0_pay98 (grid0.coords t) (iblk m c 0 t) (iblk m c 1 t) (iblk m c 2 t) (iblk m c 3 t) (iblk m c 4 t) (iblk m c 5 t)) (View.ld (iblk m c 4 t) r0_2) : FVec Ideal S1x1x1x32x2048 .bf16) (ix5 0 0 0 n q)
    = REF0 (m ((c : Thread nD τ).loc main_arg0)) (m ((c : Thread nD τ).loc main_arg1)) (ix5 0 (B t) 0 (grp t n) q) := by
  refine (add_at (View.ld (iblk m c 0 t) r0_1) (View.ld (iblk m c 4 t) r0_2) n q).trans ?_
  rw [rows_at, REF0_apply, dif_pos (by decide)]
  refine congrArg₂ (· + ·) ?_ ?_
  · refine Eq.trans (b := iblk m c 0 t (ix2 ⟨n.val * 16 + q.val / 128, by omega⟩ ⟨0 + q.val % 128, by omega⟩)) ?_ ?_
    · pointwise
    · rw [kv_at]
      exact congrArg₂ (fun a b => (m ((c : Thread nD τ).loc main_arg0)) (ix2 a b)) (Fin.ext (by dsimp only; omega)) (Fin.ext (by rfl))
  · refine Eq.trans (b := (iblk m c 4 t) (ix2 0 q)) ?_ ?_
    · pointwise
    · rw [pe0_at]
      exact congrArg (fun b => (m ((c : Thread nD τ).loc main_arg1)) (ix3 0 b _)) (Fin.ext (by dsimp only [Fin.isValue]; simp))

/-- What a point stores of group 3 in window 7, from the blocks it reads. -/
theorem e7_0 (i : grid0.Coords) (x0 : Vec Ideal S512x3072 .f32) (x1 x2 x3 : Vec Ideal S512x128 .f32) (x4 x5 : Vec Ideal S2x2048 .f32) (n : Fin 512) (d : Fin 256) :
    (k0_pay83 (k0_pay85 i x0 x1 x2 x3 x4 x5) (k0_pay87 i x0 x1 x2 x3 x4 x5) (k0_pay88 i x0 x1 x2 x3 x4 x5) (k0_pay89 i x0 x1 x2 x3 x4 x5) (View.ld x0 r0_45) : FVec Ideal S1x1x512x256 .bf16) (ix4 0 0 n d)
    = if h : d.val < 128 then
        x0 (ix2 n ⟨1408 + d.val, by omega⟩) * x1 (ix2 n ⟨d.val, h⟩) + x0 (ix2 n ⟨1408 + (d.val + 128 - 112) % 128, by omega⟩) * x2 (ix2 n ⟨d.val, h⟩)
          + x0 (ix2 n ⟨1408 + (d.val + 128 - 16) % 128, by omega⟩) * x3 (ix2 n ⟨d.val, h⟩)
      else Scalar.select (IntOp.cmpi CmpIPredicate.eq (BitVec.ofNat 32 (d.val - 128))
        (IntOp.shrsi ArithUnit.vector (IntOp.addi (Scalar.muli (BitVec.ofNat 32 (i 1).val) 512#32) (BitVec.ofNat 32 n.val)) 6#32)) 1 0 := by
  unfold k0_pay85 k0_pay87 k0_pay88 k0_pay89
  simp only [fullt]
  pointwise [k0_pay83, k0_pay3, k0_pay5, k0_pay6, k0_pay7]

/-- What a point stores of group 3 in window 7. -/
theorem p7_0 (c : Dev nD) (t : Fin cfg0.N) (n : Fin 512) (d : Fin 256) :
    (k0_pay83 (k0_pay85 (grid0.coords t) (iblk m c 0 t) (iblk m c 1 t) (iblk m c 2 t) (iblk m c 3 t) (iblk m c 4 t) (iblk m c 5 t)) (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_45) : FVec Ideal S1x1x512x256 .bf16) (ix4 0 0 n d)
    = REF1 (m ((c : Thread nD τ).loc main_arg0)) (ix4 (B t) 3 (tok t n) d) := by
  rw [REF1_apply]
  refine (e7_0 (grid0.coords t) (iblk m c 0 t) (iblk m c 1 t) (iblk m c 2 t) (iblk m c 3 t) (iblk m c 4 t) (iblk m c 5 t) n d).trans ?_
  by_cases h : d.val < 128
  · simp only [dif_pos h, kv_at, t16_at, t19_at, t22_at]
    exact rope (ROW (m ((c : Thread nD τ).loc main_arg0)) 1024 (by decide) (B t) 3 (tok t n)) (tok t n) ⟨d.val, h⟩
  · simp only [dif_neg h]
    exact block_word (I t) n (d.val - 128)

/-- What a point stores of group 2 in window 7, from the blocks it reads. -/
theorem e7_1 (i : grid0.Coords) (x0 : Vec Ideal S512x3072 .f32) (x1 x2 x3 : Vec Ideal S512x128 .f32) (x4 x5 : Vec Ideal S2x2048 .f32) (n : Fin 512) (d : Fin 256) :
    (k0_pay71 (k0_pay85 i x0 x1 x2 x3 x4 x5) (k0_pay87 i x0 x1 x2 x3 x4 x5) (k0_pay88 i x0 x1 x2 x3 x4 x5) (k0_pay89 i x0 x1 x2 x3 x4 x5) (View.ld x0 r0_33) : FVec Ideal S1x1x512x256 .bf16) (ix4 0 0 n d)
    = if h : d.val < 128 then
        x0 (ix2 n ⟨1280 + d.val, by omega⟩) * x1 (ix2 n ⟨d.val, h⟩) + x0 (ix2 n ⟨1280 + (d.val + 128 - 112) % 128, by omega⟩) * x2 (ix2 n ⟨d.val, h⟩)
          + x0 (ix2 n ⟨1280 + (d.val + 128 - 16) % 128, by omega⟩) * x3 (ix2 n ⟨d.val, h⟩)
      else Scalar.select (IntOp.cmpi CmpIPredicate.eq (BitVec.ofNat 32 (d.val - 128))
        (IntOp.shrsi ArithUnit.vector (IntOp.addi (Scalar.muli (BitVec.ofNat 32 (i 1).val) 512#32) (BitVec.ofNat 32 n.val)) 6#32)) 1 0 := by
  unfold k0_pay85 k0_pay87 k0_pay88 k0_pay89
  simp only [fullt]
  pointwise [k0_pay71, k0_pay3, k0_pay5, k0_pay6, k0_pay7]

/-- What a point stores of group 2 in window 7. -/
theorem p7_1 (c : Dev nD) (t : Fin cfg0.N) (n : Fin 512) (d : Fin 256) :
    (k0_pay71 (k0_pay85 (grid0.coords t) (iblk m c 0 t) (iblk m c 1 t) (iblk m c 2 t) (iblk m c 3 t) (iblk m c 4 t) (iblk m c 5 t)) (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_33) : FVec Ideal S1x1x512x256 .bf16) (ix4 0 0 n d)
    = REF1 (m ((c : Thread nD τ).loc main_arg0)) (ix4 (B t) 2 (tok t n) d) := by
  rw [REF1_apply]
  refine (e7_1 (grid0.coords t) (iblk m c 0 t) (iblk m c 1 t) (iblk m c 2 t) (iblk m c 3 t) (iblk m c 4 t) (iblk m c 5 t) n d).trans ?_
  by_cases h : d.val < 128
  · simp only [dif_pos h, kv_at, t16_at, t19_at, t22_at]
    exact rope (ROW (m ((c : Thread nD τ).loc main_arg0)) 1024 (by decide) (B t) 2 (tok t n)) (tok t n) ⟨d.val, h⟩
  · simp only [dif_neg h]
    exact block_word (I t) n (d.val - 128)

/-- What a point stores of group 1 in window 7, from the blocks it reads. -/
theorem e7_2 (i : grid0.Coords) (x0 : Vec Ideal S512x3072 .f32) (x1 x2 x3 : Vec Ideal S512x128 .f32) (x4 x5 : Vec Ideal S2x2048 .f32) (n : Fin 512) (d : Fin 256) :
    (k0_pay40 (k0_pay85 i x0 x1 x2 x3 x4 x5) (k0_pay87 i x0 x1 x2 x3 x4 x5) (k0_pay88 i x0 x1 x2 x3 x4 x5) (k0_pay89 i x0 x1 x2 x3 x4 x5) (View.ld x0 r0_21) : FVec Ideal S1x1x512x256 .bf16) (ix4 0 0 n d)
    = if h : d.val < 128 then
        x0 (ix2 n ⟨1152 + d.val, by omega⟩) * x1 (ix2 n ⟨d.val, h⟩) + x0 (ix2 n ⟨1152 + (d.val + 128 - 112) % 128, by omega⟩) * x2 (ix2 n ⟨d.val, h⟩)
          + x0 (ix2 n ⟨1152 + (d.val + 128 - 16) % 128, by omega⟩) * x3 (ix2 n ⟨d.val, h⟩)
      else Scalar.select (IntOp.cmpi CmpIPredicate.eq (BitVec.ofNat 32 (d.val - 128))
        (IntOp.shrsi ArithUnit.vector (IntOp.addi (Scalar.muli (BitVec.ofNat 32 (i 1).val) 512#32) (BitVec.ofNat 32 n.val)) 6#32)) 1 0 := by
  unfold k0_pay85 k0_pay87 k0_pay88 k0_pay89
  simp only [fullt]
  pointwise [k0_pay40, k0_pay3, k0_pay5, k0_pay6, k0_pay7]

/-- What a point stores of group 1 in window 7. -/
theorem p7_2 (c : Dev nD) (t : Fin cfg0.N) (n : Fin 512) (d : Fin 256) :
    (k0_pay40 (k0_pay85 (grid0.coords t) (iblk m c 0 t) (iblk m c 1 t) (iblk m c 2 t) (iblk m c 3 t) (iblk m c 4 t) (iblk m c 5 t)) (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_21) : FVec Ideal S1x1x512x256 .bf16) (ix4 0 0 n d)
    = REF1 (m ((c : Thread nD τ).loc main_arg0)) (ix4 (B t) 1 (tok t n) d) := by
  rw [REF1_apply]
  refine (e7_2 (grid0.coords t) (iblk m c 0 t) (iblk m c 1 t) (iblk m c 2 t) (iblk m c 3 t) (iblk m c 4 t) (iblk m c 5 t) n d).trans ?_
  by_cases h : d.val < 128
  · simp only [dif_pos h, kv_at, t16_at, t19_at, t22_at]
    exact rope (ROW (m ((c : Thread nD τ).loc main_arg0)) 1024 (by decide) (B t) 1 (tok t n)) (tok t n) ⟨d.val, h⟩
  · simp only [dif_neg h]
    exact block_word (I t) n (d.val - 128)

/-- What a point stores of group 0 in window 7, from the blocks it reads. -/
theorem e7_3 (i : grid0.Coords) (x0 : Vec Ideal S512x3072 .f32) (x1 x2 x3 : Vec Ideal S512x128 .f32) (x4 x5 : Vec Ideal S2x2048 .f32) (n : Fin 512) (d : Fin 256) :
    (k0_pay28 (k0_pay85 i x0 x1 x2 x3 x4 x5) (k0_pay87 i x0 x1 x2 x3 x4 x5) (k0_pay88 i x0 x1 x2 x3 x4 x5) (k0_pay89 i x0 x1 x2 x3 x4 x5) (View.ld x0 r0_9) : FVec Ideal S1x1x512x256 .bf16) (ix4 0 0 n d)
    = if h : d.val < 128 then
        x0 (ix2 n ⟨1024 + d.val, by omega⟩) * x1 (ix2 n ⟨d.val, h⟩) + x0 (ix2 n ⟨1024 + (d.val + 128 - 112) % 128, by omega⟩) * x2 (ix2 n ⟨d.val, h⟩)
          + x0 (ix2 n ⟨1024 + (d.val + 128 - 16) % 128, by omega⟩) * x3 (ix2 n ⟨d.val, h⟩)
      else Scalar.select (IntOp.cmpi CmpIPredicate.eq (BitVec.ofNat 32 (d.val - 128))
        (IntOp.shrsi ArithUnit.vector (IntOp.addi (Scalar.muli (BitVec.ofNat 32 (i 1).val) 512#32) (BitVec.ofNat 32 n.val)) 6#32)) 1 0 := by
  unfold k0_pay85 k0_pay87 k0_pay88 k0_pay89
  simp only [fullt]
  pointwise [k0_pay28, k0_pay3, k0_pay5, k0_pay6, k0_pay7]

/-- What a point stores of group 0 in window 7. -/
theorem p7_3 (c : Dev nD) (t : Fin cfg0.N) (n : Fin 512) (d : Fin 256) :
    (k0_pay28 (k0_pay85 (grid0.coords t) (iblk m c 0 t) (iblk m c 1 t) (iblk m c 2 t) (iblk m c 3 t) (iblk m c 4 t) (iblk m c 5 t)) (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_9) : FVec Ideal S1x1x512x256 .bf16) (ix4 0 0 n d)
    = REF1 (m ((c : Thread nD τ).loc main_arg0)) (ix4 (B t) 0 (tok t n) d) := by
  rw [REF1_apply]
  refine (e7_3 (grid0.coords t) (iblk m c 0 t) (iblk m c 1 t) (iblk m c 2 t) (iblk m c 3 t) (iblk m c 4 t) (iblk m c 5 t) n d).trans ?_
  by_cases h : d.val < 128
  · simp only [dif_pos h, kv_at, t16_at, t19_at, t22_at]
    exact rope (ROW (m ((c : Thread nD τ).loc main_arg0)) 1024 (by decide) (B t) 0 (tok t n)) (tok t n) ⟨d.val, h⟩
  · simp only [dif_neg h]
    exact block_word (I t) n (d.val - 128)

/-- What a point stores of group 3 in window 8. -/
theorem p8_0 (c : Dev nD) (t : Fin cfg0.N) (n : Fin 512) (d : Fin 256) :
    (k0_pay84 (k0_pay86 (grid0.coords t) (iblk m c 0 t) (iblk m c 1 t) (iblk m c 2 t) (iblk m c 3 t) (iblk m c 4 t) (iblk m c 5 t)) (View.ld (iblk m c 0 t) r0_46) : FVec Ideal S1x1x512x256 .bf16) (ix4 0 0 n d)
    = REF2 (m ((c : Thread nD τ).loc main_arg0)) (ix4 (B t) 3 (tok t n) d) := by
  rw [REF2_apply]
  unfold k0_pay86
  pointwise [k0_pay84, k0_pay4]
  by_cases h : d.val < 128
  · simp only [dif_pos h, kv_at]
    rfl
  · simp only [dif_neg h]
    exact ones_word (d.val - 128) (by omega)

/-- What a point stores of group 2 in window 8. -/
theorem p8_1 (c : Dev nD) (t : Fin cfg0.N) (n : Fin 512) (d : Fin 256) :
    (k0_pay72 (k0_pay86 (grid0.coords t) (iblk m c 0 t) (iblk m c 1 t) (iblk m c 2 t) (iblk m c 3 t) (iblk m c 4 t) (iblk m c 5 t)) (View.ld (iblk m c 0 t) r0_34) : FVec Ideal S1x1x512x256 .bf16) (ix4 0 0 n d)
    = REF2 (m ((c : Thread nD τ).loc main_arg0)) (ix4 (B t) 2 (tok t n) d) := by
  rw [REF2_apply]
  unfold k0_pay86
  pointwise [k0_pay72, k0_pay4]
  by_cases h : d.val < 128
  · simp only [dif_pos h, kv_at]
    rfl
  · simp only [dif_neg h]
    exact ones_word (d.val - 128) (by omega)

/-- What a point stores of group 1 in window 8. -/
theorem p8_2 (c : Dev nD) (t : Fin cfg0.N) (n : Fin 512) (d : Fin 256) :
    (k0_pay42 (k0_pay41 (k0_pay86 (grid0.coords t) (iblk m c 0 t) (iblk m c 1 t) (iblk m c 2 t) (iblk m c 3 t) (iblk m c 4 t) (iblk m c 5 t)) (View.ld (iblk m c 0 t) r0_22)) : FVec Ideal S1x1x512x256 .bf16) (ix4 0 0 n d)
    = REF2 (m ((c : Thread nD τ).loc main_arg0)) (ix4 (B t) 1 (tok t n) d) := by
  rw [REF2_apply]
  unfold k0_pay86
  pointwise [k0_pay42, k0_pay41, k0_pay4]
  by_cases h : d.val < 128
  · simp only [dif_pos h, kv_at]
    rfl
  · simp only [dif_neg h]
    exact ones_word (d.val - 128) (by omega)

/-- What a point stores of group 0 in window 8. -/
theorem p8_3 (c : Dev nD) (t : Fin cfg0.N) (n : Fin 512) (d : Fin 256) :
    (k0_pay29 (k0_pay86 (grid0.coords t) (iblk m c 0 t) (iblk m c 1 t) (iblk m c 2 t) (iblk m c 3 t) (iblk m c 4 t) (iblk m c 5 t)) (View.ld (iblk m c 0 t) r0_10) : FVec Ideal S1x1x512x256 .bf16) (ix4 0 0 n d)
    = REF2 (m ((c : Thread nD τ).loc main_arg0)) (ix4 (B t) 0 (tok t n) d) := by
  rw [REF2_apply]
  unfold k0_pay86
  pointwise [k0_pay29, k0_pay4]
  by_cases h : d.val < 128
  · simp only [dif_pos h, kv_at]
    rfl
  · simp only [dif_neg h]
    exact ones_word (d.val - 128) (by omega)

/-- What a point stores of group 3 in window 9. -/
theorem p9_0 (c : Dev nD) (t : Fin cfg0.N) (n : Fin 512) (d : Fin 128) :
    (k0_pay1 (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_47) : FVec Ideal S1x1x512x128 .bf16) (ix4 0 0 n d)
    = REF3 (m ((c : Thread nD τ).loc main_arg0)) (ix4 (B t) 3 (tok t n) d) := by
  rw [REF3_apply]
  unfold k0_pay87 k0_pay88 k0_pay89
  simp only [fullt]
  pointwise [k0_pay1, k0_pay5, k0_pay6, k0_pay7]
  simp only [kv_at, t16_at, t19_at, t22_at]
  exact rope (ROW (m ((c : Thread nD τ).loc main_arg0)) 2048 (by decide) (B t) 3 (tok t n)) (tok t n) d

/-- What a point stores of group 2 in window 9. -/
theorem p9_1 (c : Dev nD) (t : Fin cfg0.N) (n : Fin 512) (d : Fin 128) :
    (k0_pay73 (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_35) : FVec Ideal S1x1x512x128 .bf16) (ix4 0 0 n d)
    = REF3 (m ((c : Thread nD τ).loc main_arg0)) (ix4 (B t) 2 (tok t n) d) := by
  rw [REF3_apply]
  unfold k0_pay87 k0_pay88 k0_pay89
  simp only [fullt]
  pointwise [k0_pay73, k0_pay5, k0_pay6, k0_pay7]
  simp only [kv_at, t16_at, t19_at, t22_at]
  exact rope (ROW (m ((c : Thread nD τ).loc main_arg0)) 2048 (by decide) (B t) 2 (tok t n)) (tok t n) d

/-- What a point stores of group 1 in window 9. -/
theorem p9_2 (c : Dev nD) (t : Fin cfg0.N) (n : Fin 512) (d : Fin 128) :
    (k0_pay43 (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_23) : FVec Ideal S1x1x512x128 .bf16) (ix4 0 0 n d)
    = REF3 (m ((c : Thread nD τ).loc main_arg0)) (ix4 (B t) 1 (tok t n) d) := by
  rw [REF3_apply]
  unfold k0_pay87 k0_pay88 k0_pay89
  simp only [fullt]
  pointwise [k0_pay43, k0_pay5, k0_pay6, k0_pay7]
  simp only [kv_at, t16_at, t19_at, t22_at]
  exact rope (ROW (m ((c : Thread nD τ).loc main_arg0)) 2048 (by decide) (B t) 1 (tok t n)) (tok t n) d

/-- What a point stores of group 0 in window 9. -/
theorem p9_3 (c : Dev nD) (t : Fin cfg0.N) (n : Fin 512) (d : Fin 128) :
    (k0_pay30 (k0_pay87 (grid0.coords t) (iblk m c 0 t) (iblk m c 1 t) (iblk m c 2 t) (iblk m c 3 t) (iblk m c 4 t) (iblk m c 5 t)) (k0_pay88 (grid0.coords t) (iblk m c 0 t) (iblk m c 1 t) (iblk m c 2 t) (iblk m c 3 t) (iblk m c 4 t) (iblk m c 5 t)) (k0_pay89 (grid0.coords t) (iblk m c 0 t) (iblk m c 1 t) (iblk m c 2 t) (iblk m c 3 t) (iblk m c 4 t) (iblk m c 5 t)) (View.ld (iblk m c 0 t) r0_11) : FVec Ideal S1x1x512x128 .bf16) (ix4 0 0 n d)
    = REF3 (m ((c : Thread nD τ).loc main_arg0)) (ix4 (B t) 0 (tok t n) d) := by
  rw [REF3_apply]
  unfold k0_pay87 k0_pay88 k0_pay89
  simp only [fullt]
  pointwise [k0_pay30, k0_pay5, k0_pay6, k0_pay7]
  simp only [kv_at, t16_at, t19_at, t22_at]
  exact rope (ROW (m ((c : Thread nD τ).loc main_arg0)) 2048 (by decide) (B t) 0 (tok t n)) (tok t n) d

/-- What a point stores of group 3 in window 10. -/
theorem p10_0 (c : Dev nD) (t : Fin cfg0.N) (n : Fin 512) (d : Fin 256) :
    (k0_pay2 (k0_pay86 (grid0.coords t) (iblk m c 0 t) (iblk m c 1 t) (iblk m c 2 t) (iblk m c 3 t) (iblk m c 4 t) (iblk m c 5 t)) (View.ld (iblk m c 0 t) r0_48) : FVec Ideal S1x1x512x256 .bf16) (ix4 0 0 n d)
    = REF4 (m ((c : Thread nD τ).loc main_arg0)) (ix4 (B t) 3 (tok t n) d) := by
  rw [REF4_apply]
  unfold k0_pay86
  pointwise [k0_pay2, k0_pay4]
  by_cases h : d.val < 128
  · simp only [dif_pos h, kv_at]
    rfl
  · simp only [dif_neg h]
    exact ones_word (d.val - 128) (by omega)

/-- What a point stores of group 2 in window 10. -/
theorem p10_1 (c : Dev nD) (t : Fin cfg0.N) (n : Fin 512) (d : Fin 256) :
    (k0_pay74 (k0_pay86 (grid0.coords t) (iblk m c 0 t) (iblk m c 1 t) (iblk m c 2 t) (iblk m c 3 t) (iblk m c 4 t) (iblk m c 5 t)) (View.ld (iblk m c 0 t) r0_36) : FVec Ideal S1x1x512x256 .bf16) (ix4 0 0 n d)
    = REF4 (m ((c : Thread nD τ).loc main_arg0)) (ix4 (B t) 2 (tok t n) d) := by
  rw [REF4_apply]
  unfold k0_pay86
  pointwise [k0_pay74, k0_pay4]
  by_cases h : d.val < 128
  · simp only [dif_pos h, kv_at]
    rfl
  · simp only [dif_neg h]
    exact ones_word (d.val - 128) (by omega)

/-- What a point stores of group 1 in window 10. -/
theorem p10_2 (c : Dev nD) (t : Fin cfg0.N) (n : Fin 512) (d : Fin 256) :
    (k0_pay44 (k0_pay86 (grid0.coords t) (iblk m c 0 t) (iblk m c 1 t) (iblk m c 2 t) (iblk m c 3 t) (iblk m c 4 t) (iblk m c 5 t)) (View.ld (iblk m c 0 t) r0_24) : FVec Ideal S1x1x512x256 .bf16) (ix4 0 0 n d)
    = REF4 (m ((c : Thread nD τ).loc main_arg0)) (ix4 (B t) 1 (tok t n) d) := by
  rw [REF4_apply]
  unfold k0_pay86
  pointwise [k0_pay44, k0_pay4]
  by_cases h : d.val < 128
  · simp only [dif_pos h, kv_at]
    rfl
  · simp only [dif_neg h]
    exact ones_word (d.val - 128) (by omega)

/-- What a point stores of group 0 in window 10. -/
theorem p10_3 (c : Dev nD) (t : Fin cfg0.N) (n : Fin 512) (d : Fin 256) :
    (k0_pay32 (k0_pay31 (k0_pay86 (grid0.coords t) (iblk m c 0 t) (iblk m c 1 t) (iblk m c 2 t) (iblk m c 3 t) (iblk m c 4 t) (iblk m c 5 t)) (View.ld (iblk m c 0 t) r0_12)) : FVec Ideal S1x1x512x256 .bf16) (ix4 0 0 n d)
    = REF4 (m ((c : Thread nD τ).loc main_arg0)) (ix4 (B t) 0 (tok t n) d) := by
  rw [REF4_apply]
  unfold k0_pay86
  pointwise [k0_pay32, k0_pay31, k0_pay4]
  by_cases h : d.val < 128
  · simp only [dif_pos h, kv_at]
    rfl
  · simp only [dif_neg h]
    exact ones_word (d.val - 128) (by omega)

/-- The rows to compress, sixteen tokens side by side, after the run are the reference's. -/
theorem final0 (c : Dev nD) : (dats m 0 c).arrAt 6 cfg0.N = REF0 (m ((c : Thread nD τ).loc main_arg0)) (m ((c : Thread nD τ).loc main_arg1)) := by
  refine (dats m 0 c).arrAt_eq_of_covers 6 _ (by decide +kernel) fun t _ y => ?_
  blk_simp
  rw [after0_6]
  canon_tiles x h
  · obtain ⟨n, q, rfl⟩ := one5 x
    exact (p6_0 m c t n q).trans (congrArg (REF0 (m ((c : Thread nD τ).loc main_arg0)) (m ((c : Thread nD τ).loc main_arg1))) (out6_at t y 3 3 n q h0 h2 h3 h4)).symm
  · obtain ⟨n, q, rfl⟩ := one5 x
    exact (p6_1 m c t n q).trans (congrArg (REF0 (m ((c : Thread nD τ).loc main_arg0)) (m ((c : Thread nD τ).loc main_arg1))) (out6_at t y 1 3 n q h0 h2 h3 h4)).symm
  · obtain ⟨n, q, rfl⟩ := one5 x
    exact (p6_2 m c t n q).trans (congrArg (REF0 (m ((c : Thread nD τ).loc main_arg0)) (m ((c : Thread nD τ).loc main_arg1))) (out6_at t y 2 3 n q h0 h2 h3 h4)).symm
  · obtain ⟨n, q, rfl⟩ := one5 x
    exact (p6_3 m c t n q).trans (congrArg (REF0 (m ((c : Thread nD τ).loc main_arg0)) (m ((c : Thread nD τ).loc main_arg1))) (out6_at t y 0 3 n q h0 h2 h3 h4)).symm
  · obtain ⟨n, q, rfl⟩ := one5 x
    exact (p6_4 m c t n q).trans (congrArg (REF0 (m ((c : Thread nD τ).loc main_arg0)) (m ((c : Thread nD τ).loc main_arg1))) (out6_at t y 3 2 n q h0 h2 h3 h4)).symm
  · obtain ⟨n, q, rfl⟩ := one5 x
    exact (p6_5 m c t n q).trans (congrArg (REF0 (m ((c : Thread nD τ).loc main_arg0)) (m ((c : Thread nD τ).loc main_arg1))) (out6_at t y 1 2 n q h0 h2 h3 h4)).symm
  · obtain ⟨n, q, rfl⟩ := one5 x
    exact (p6_6 m c t n q).trans (congrArg (REF0 (m ((c : Thread nD τ).loc main_arg0)) (m ((c : Thread nD τ).loc main_arg1))) (out6_at t y 2 2 n q h0 h2 h3 h4)).symm
  · obtain ⟨n, q, rfl⟩ := one5 x
    exact (p6_7 m c t n q).trans (congrArg (REF0 (m ((c : Thread nD τ).loc main_arg0)) (m ((c : Thread nD τ).loc main_arg1))) (out6_at t y 0 2 n q h0 h2 h3 h4)).symm
  · obtain ⟨n, q, rfl⟩ := one5 x
    exact (p6_8 m c t n q).trans (congrArg (REF0 (m ((c : Thread nD τ).loc main_arg0)) (m ((c : Thread nD τ).loc main_arg1))) (out6_at t y 3 1 n q h0 h2 h3 h4)).symm
  · obtain ⟨n, q, rfl⟩ := one5 x
    exact (p6_9 m c t n q).trans (congrArg (REF0 (m ((c : Thread nD τ).loc main_arg0)) (m ((c : Thread nD τ).loc main_arg1))) (out6_at t y 1 1 n q h0 h2 h3 h4)).symm
  · obtain ⟨n, q, rfl⟩ := one5 x
    exact (p6_10 m c t n q).trans (congrArg (REF0 (m ((c : Thread nD τ).loc main_arg0)) (m ((c : Thread nD τ).loc main_arg1))) (out6_at t y 2 1 n q h0 h2 h3 h4)).symm
  · obtain ⟨n, q, rfl⟩ := one5 x
    exact (p6_11 m c t n q).trans (congrArg (REF0 (m ((c : Thread nD τ).loc main_arg0)) (m ((c : Thread nD τ).loc main_arg1))) (out6_at t y 0 1 n q h0 h2 h3 h4)).symm
  · obtain ⟨n, q, rfl⟩ := one5 x
    exact (p6_12 m c t n q).trans (congrArg (REF0 (m ((c : Thread nD τ).loc main_arg0)) (m ((c : Thread nD τ).loc main_arg1))) (out6_at t y 3 0 n q h0 h2 h3 h4)).symm
  · obtain ⟨n, q, rfl⟩ := one5 x
    exact (p6_13 m c t n q).trans (congrArg (REF0 (m ((c : Thread nD τ).loc main_arg0)) (m ((c : Thread nD τ).loc main_arg1))) (out6_at t y 1 0 n q h0 h2 h3 h4)).symm
  · obtain ⟨n, q, rfl⟩ := one5 x
    exact (p6_14 m c t n q).trans (congrArg (REF0 (m ((c : Thread nD τ).loc main_arg0)) (m ((c : Thread nD τ).loc main_arg1))) (out6_at t y 2 0 n q h0 h2 h3 h4)).symm
  · obtain ⟨n, q, rfl⟩ := one5 x
    exact (p6_15 m c t n q).trans (congrArg (REF0 (m ((c : Thread nD τ).loc main_arg0)) (m ((c : Thread nD τ).loc main_arg1))) (out6_at t y 0 0 n q h0 h2 h3 h4)).symm

/-- The selected keys, rotated, with their block beside them, after the run are the reference's. -/
theorem final1 (c : Dev nD) : (dats m 0 c).arrAt 7 cfg0.N = REF1 (m ((c : Thread nD τ).loc main_arg0)) := by
  refine (dats m 0 c).arrAt_eq_of_covers 7 _ (by decide +kernel) fun t _ y => ?_
  blk_simp
  rw [after0_7]
  canon_tiles x h
  · obtain ⟨n, d, rfl⟩ := one4 x
    exact (p7_0 m c t n d).trans (congrArg (REF1 (m ((c : Thread nD τ).loc main_arg0))) (out7_at t y 3 n d h1 h2 h3)).symm
  · obtain ⟨n, d, rfl⟩ := one4 x
    exact (p7_1 m c t n d).trans (congrArg (REF1 (m ((c : Thread nD τ).loc main_arg0))) (out7_at t y 2 n d h1 h2 h3)).symm
  · obtain ⟨n, d, rfl⟩ := one4 x
    exact (p7_2 m c t n d).trans (congrArg (REF1 (m ((c : Thread nD τ).loc main_arg0))) (out7_at t y 1 n d h1 h2 h3)).symm
  · obtain ⟨n, d, rfl⟩ := one4 x
    exact (p7_3 m c t n d).trans (congrArg (REF1 (m ((c : Thread nD τ).loc main_arg0))) (out7_at t y 0 n d h1 h2 h3)).symm

/-- The selected values, with a one beside them, after the run are the reference's. -/
theorem final2 (c : Dev nD) : (dats m 0 c).arrAt 8 cfg0.N = REF2 (m ((c : Thread nD τ).loc main_arg0)) := by
  refine (dats m 0 c).arrAt_eq_of_covers 8 _ (by decide +kernel) fun t _ y => ?_
  blk_simp
  rw [after0_8]
  canon_tiles x h
  · obtain ⟨n, d, rfl⟩ := one4 x
    exact (p8_0 m c t n d).trans (congrArg (REF2 (m ((c : Thread nD τ).loc main_arg0))) (out8_at t y 3 n d h1 h2 h3)).symm
  · obtain ⟨n, d, rfl⟩ := one4 x
    exact (p8_1 m c t n d).trans (congrArg (REF2 (m ((c : Thread nD τ).loc main_arg0))) (out8_at t y 2 n d h1 h2 h3)).symm
  · obtain ⟨n, d, rfl⟩ := one4 x
    exact (p8_2 m c t n d).trans (congrArg (REF2 (m ((c : Thread nD τ).loc main_arg0))) (out8_at t y 1 n d h1 h2 h3)).symm
  · obtain ⟨n, d, rfl⟩ := one4 x
    exact (p8_3 m c t n d).trans (congrArg (REF2 (m ((c : Thread nD τ).loc main_arg0))) (out8_at t y 0 n d h1 h2 h3)).symm

/-- The window keys, rotated, after the run are the reference's. -/
theorem final3 (c : Dev nD) : (dats m 0 c).arrAt 9 cfg0.N = REF3 (m ((c : Thread nD τ).loc main_arg0)) := by
  refine (dats m 0 c).arrAt_eq_of_covers 9 _ (by decide +kernel) fun t _ y => ?_
  blk_simp
  rw [after0_9]
  canon_tiles x h
  · obtain ⟨n, d, rfl⟩ := one4 x
    exact (p9_0 m c t n d).trans (congrArg (REF3 (m ((c : Thread nD τ).loc main_arg0))) (out9_at t y 3 n d h1 h2 h3)).symm
  · obtain ⟨n, d, rfl⟩ := one4 x
    exact (p9_1 m c t n d).trans (congrArg (REF3 (m ((c : Thread nD τ).loc main_arg0))) (out9_at t y 2 n d h1 h2 h3)).symm
  · obtain ⟨n, d, rfl⟩ := one4 x
    exact (p9_2 m c t n d).trans (congrArg (REF3 (m ((c : Thread nD τ).loc main_arg0))) (out9_at t y 1 n d h1 h2 h3)).symm
  · obtain ⟨n, d, rfl⟩ := one4 x
    exact (p9_3 m c t n d).trans (congrArg (REF3 (m ((c : Thread nD τ).loc main_arg0))) (out9_at t y 0 n d h1 h2 h3)).symm

/-- The window values, with a one beside them, after the run are the reference's. -/
theorem final4 (c : Dev nD) : (dats m 0 c).arrAt 10 cfg0.N = REF4 (m ((c : Thread nD τ).loc main_arg0)) := by
  refine (dats m 0 c).arrAt_eq_of_covers 10 _ (by decide +kernel) fun t _ y => ?_
  blk_simp
  rw [after0_10]
  canon_tiles x h
  · obtain ⟨n, d, rfl⟩ := one4 x
    exact (p10_0 m c t n d).trans (congrArg (REF4 (m ((c : Thread nD τ).loc main_arg0))) (out10_at t y 3 n d h1 h2 h3)).symm
  · obtain ⟨n, d, rfl⟩ := one4 x
    exact (p10_1 m c t n d).trans (congrArg (REF4 (m ((c : Thread nD τ).loc main_arg0))) (out10_at t y 2 n d h1 h2 h3)).symm
  · obtain ⟨n, d, rfl⟩ := one4 x
    exact (p10_2 m c t n d).trans (congrArg (REF4 (m ((c : Thread nD τ).loc main_arg0))) (out10_at t y 1 n d h1 h2 h3)).symm
  · obtain ⟨n, d, rfl⟩ := one4 x
    exact (p10_3 m c t n d).trans (congrArg (REF4 (m ((c : Thread nD τ).loc main_arg0))) (out10_at t y 0 n d h1 h2 h3)).symm

end Cert.Kernel13Ideal.Plain

end
-- ==== Proof.Plain.C13.lean ====
/- The claims about program 13: its reference runs as stated, and its kernel's results are the reference's. -/
module

public import proofs.«01_k».proof.Defs
public import proofs.«01_k».proof.Proof.Plain.K13
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Plain

open Idealize.ShloMosaic Idealize.SL.Sem

/-- The reference of program 13 runs, its arguments unchanged. -/
theorem quiescent_Reference13 : Cert.quiescent_Reference13Ideal (hReference13Ideal := Cert.Reference13Ideal.Gen.facts) := by
  intro m g _
  exact (θ_run _ _ _).mono (fun r h => ⟨fun c => (h c).2.2.2.2.2, sem_eq_zero_of_no_sems (by decide) _⟩) (Cert.Reference13Ideal.Value.run m g)

/-- The results of program 13's kernel are its reference's, as numbers. -/
theorem algebraic13 : Cert.algebraic_Kernel13Ideal_Reference13Ideal (hKernel13Ideal := Cert.Kernel13Ideal.Gen.facts) (hReference13Ideal := Cert.Reference13Ideal.Gen.facts) := by
  intro m g m' g' _ hagree
  refine ⟨fun c => (Cert.Kernel13Ideal.Gen.dats m 0 c).arrAt 6 Cert.Kernel13Ideal.cfg0.N, fun c => (Cert.Kernel13Ideal.Gen.dats m 0 c).arrAt 7 Cert.Kernel13Ideal.cfg0.N, fun c => (Cert.Kernel13Ideal.Gen.dats m 0 c).arrAt 8 Cert.Kernel13Ideal.cfg0.N, fun c => (Cert.Kernel13Ideal.Gen.dats m 0 c).arrAt 9 Cert.Kernel13Ideal.cfg0.N, fun c => (Cert.Kernel13Ideal.Gen.dats m 0 c).arrAt 10 Cert.Kernel13Ideal.cfg0.N,
    Cert.Kernel13Ideal.Value.run_blocks m g, (θ_run _ _ _).mono (fun r h c => ?_) (Cert.Reference13Ideal.Value.run m' g')⟩
  obtain ⟨h0, h1, h2, h3, h4, a0, a1⟩ := h c
  obtain ⟨e0, e1⟩ := hagree c
  have f0 : Cert.Reference13Ideal.Plain.REF0 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1))
      = Cert.Reference13Ideal.Plain.REF0 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) := by
    rw [e0, e1]
  have f1 : Cert.Reference13Ideal.Plain.REF1 (m' ((c.tc : Thread Cert.Reference13Ideal.nD Cert.Reference13Ideal.τ).loc Cert.Reference13Ideal.main_arg0))
      = Cert.Reference13Ideal.Plain.REF1 (m ((c.tc : Thread Cert.Kernel13Ideal.nD Cert.Kernel13Ideal.τ).loc Cert.Kernel13Ideal.main_arg0)) := by
    rw [e0]
  have f2 : Cert.Reference13Ideal.Plain.REF2 (m' ((c.tc : Thread Cert.Reference13Ideal.nD Cert.Reference13Ideal.τ).loc Cert.Reference13Ideal.main_arg0))
      = Cert.Reference13Ideal.Plain.REF2 (m ((c.tc : Thread Cert.Kernel13Ideal.nD Cert.Kernel13Ideal.τ).loc Cert.Kernel13Ideal.main_arg0)) := by
    rw [e0]
  have f3 : Cert.Reference13Ideal.Plain.REF3 (m' ((c.tc : Thread Cert.Reference13Ideal.nD Cert.Reference13Ideal.τ).loc Cert.Reference13Ideal.main_arg0))
      = Cert.Reference13Ideal.Plain.REF3 (m ((c.tc : Thread Cert.Kernel13Ideal.nD Cert.Kernel13Ideal.τ).loc Cert.Kernel13Ideal.main_arg0)) := by
    rw [e0]
  have f4 : Cert.Reference13Ideal.Plain.REF4 (m' ((c.tc : Thread Cert.Reference13Ideal.nD Cert.Reference13Ideal.τ).loc Cert.Reference13Ideal.main_arg0))
      = Cert.Reference13Ideal.Plain.REF4 (m ((c.tc : Thread Cert.Kernel13Ideal.nD Cert.Kernel13Ideal.τ).loc Cert.Kernel13Ideal.main_arg0)) := by
    rw [e0]
  exact ⟨h0.trans (f0.trans (Cert.Kernel13Ideal.Plain.final0 m c).symm), h1.trans (f1.trans (Cert.Kernel13Ideal.Plain.final1 m c).symm), h2.trans (f2.trans (Cert.Kernel13Ideal.Plain.final2 m c).symm), h3.trans (f3.trans (Cert.Kernel13Ideal.Plain.final3 m c).symm), h4.trans (f4.trans (Cert.Kernel13Ideal.Plain.final4 m c).symm), a0, a1⟩

end Cert.Plain

end
-- ==== Proof.Plain.F14.lean ====
/- The second recurrence layer's reference: its run leaves its arguments as the launch has them. -/
module

public import proofs.«01_k».proof.Defs
public import proofs.«01_k».proof.Proof.Gen.Reference14Ideal.Run

@[expose] public section

set_option maxRecDepth 16384

noncomputable section

namespace Cert.Reference14Ideal.Plain

open Cert.Reference14Ideal Cert.Reference14Ideal.Gen Cert.Reference14Ideal.Value
open Idealize.ShloMosaic Idealize.ShloMosaic.TcCoe Idealize.ShloMosaic.StableHlo Idealize.SL.Sem

/-- The arguments. -/
abbrev ARGS : List (Ref sig .tc) := [main_arg0, main_arg1, main_arg2, main_arg3, main_arg4, main_arg5, main_arg6, main_arg7, main_arg8, main_arg9, main_arg10, main_arg11, main_arg12, main_arg13, main_arg14, main_arg15]

/-- A list of stretches keeps what each of them keeps. -/
theorem keepL {r : Ref sig .tc} : ∀ (Ls : List (List (HloOp τ sig (Elt Ideal)))) (h : ∀ L ∈ Ls, ∀ V, after L V (Proc.devRef .tc r) = V (Proc.devRef .tc r))
    (V : Valuation τ sig (Elt Ideal)), afterL Ls V (Proc.devRef .tc r) = V (Proc.devRef .tc r)
  | [], _, _ => rfl
  | L :: Ls, h, V => (keepL Ls (fun L' hL => h L' (List.mem_cons_of_mem _ hL)) (after L V)).trans (h L List.mem_cons_self V)

/-- What `hostOps0_3` writes, in order. -/
abbrev hostOps0_3_W : List (Ref sig .tc) := [main_v97, main_cst_10, main_v98, main_v99, main_cst_11, main_v100, main_v101, main_v102, main_v103, main_v104, main_cst_12, main_v105, main_v106, main_cst_13, main_v107, main_v108, main_v109, main_v110, main_cst_14, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135]

theorem hostOps0_3_writes : (hostOps0_3 : List (HloOp τ sig (Elt Ideal))).Forall fun op => op.writes ⊆ (hostOps0_3_W.map (Proc.devRef (τ := τ) .tc)).toFinset :=
  StableHlo.forall_writes_sub_of_map rfl

/-- What `hostOps0_4` writes, in order. -/
abbrev hostOps0_4_W : List (Ref sig .tc) := [main_call8_cst, main_call8_v0, main_call8_v1, main_call8_v2, main_call8_v3, main_call8_v4, main_call8_v5, main_call8_v6, main_call8_v7, main_call8_v8, main_call8_v9, main_call8_v10, main_call8_v11, main_v136]

theorem hostOps0_4_writes : (hostOps0_4 : List (HloOp τ sig (Elt Ideal))).Forall fun op => op.writes ⊆ (hostOps0_4_W.map (Proc.devRef (τ := τ) .tc)).toFinset :=
  StableHlo.forall_writes_sub_of_map rfl

/-- What `hostOps0_5` writes, in order. -/
abbrev hostOps0_5_W : List (Ref sig .tc) := [main_v137, main_v138, main_cst_15, main_v139, main_v140, main_v141, main_v142, main_v143, main_v144, main_v145, main_v146, main_v147, main_v148, main_v149, main_cst_16, main_v150, main_v151, main_cst_17, main_v152, main_v153, main_v154, main_v155, main_v156, main_v157, main_v158, main_cst_18, main_v159, main_v160, main_v161, main_cst_19, main_v162, main_v163, main_v164, main_v165, main_cst_20, main_v166, main_v167, main_v168, main_v169, main_v170, main_cst_21, main_v171, main_v172, main_v173, main_v174, main_v175, main_v176, main_v177, main_v178, main_v179, main_v180, main_v181, main_v182, main_v183, main_v184, main_cst_22, main_v185, main_v186, main_v187, main_v188, main_v189, main_v190, main_v191, main_v192, main_v193]

theorem hostOps0_5_writes : (hostOps0_5 : List (HloOp τ sig (Elt Ideal))).Forall fun op => op.writes ⊆ (hostOps0_5_W.map (Proc.devRef (τ := τ) .tc)).toFinset :=
  StableHlo.forall_writes_sub_of_map rfl

/-- What `hostOps0_6` writes, in order. -/
abbrev hostOps0_6_W : List (Ref sig .tc) := [main_call9_v0, main_call9_v1, main_call9_cst, main_call9_v2, main_call9_v3, main_call9_cst_0, main_call9_v4, main_call9_v5, main_v194]

theorem hostOps0_6_writes : (hostOps0_6 : List (HloOp τ sig (Elt Ideal))).Forall fun op => op.writes ⊆ (hostOps0_6_W.map (Proc.devRef (τ := τ) .tc)).toFinset :=
  StableHlo.forall_writes_sub_of_map rfl

/-- What `hostOps0_7` writes, in order. -/
abbrev hostOps0_7_W : List (Ref sig .tc) := [main_v195, main_v196, main_v197]

theorem hostOps0_7_writes : (hostOps0_7 : List (HloOp τ sig (Elt Ideal))).Forall fun op => op.writes ⊆ (hostOps0_7_W.map (Proc.devRef (τ := τ) .tc)).toFinset :=
  StableHlo.forall_writes_sub_of_map rfl

theorem keep_hostOps0 (r : Ref sig .tc) (hr : r ∈ ARGS) (V : Valuation τ sig (Elt Ideal)) : after hostOps0 V (Proc.devRef .tc r) = V (Proc.devRef .tc r) :=
  after_of_writes_sub hostOps0 V hostOps0_writes ((by decide +kernel : ∀ r ∈ ARGS, r ∉ hostOps0_W) r hr)

theorem keep_hostOps0_1 (r : Ref sig .tc) (hr : r ∈ ARGS) (V : Valuation τ sig (Elt Ideal)) : after hostOps0_1 V (Proc.devRef .tc r) = V (Proc.devRef .tc r) :=
  after_of_writes_sub hostOps0_1 V hostOps0_1_writes ((by decide +kernel : ∀ r ∈ ARGS, r ∉ hostOps0_1_W) r hr)

theorem keep_hostOps0_2 (r : Ref sig .tc) (hr : r ∈ ARGS) (V : Valuation τ sig (Elt Ideal)) : after hostOps0_2 V (Proc.devRef .tc r) = V (Proc.devRef .tc r) :=
  after_of_writes_sub hostOps0_2 V hostOps0_2_writes ((by decide +kernel : ∀ r ∈ ARGS, r ∉ hostOps0_2_W) r hr)

theorem keep_condOps (r : Ref sig .tc) (hr : r ∈ ARGS) (V : Valuation τ sig (Elt Ideal)) : after condOps V (Proc.devRef .tc r) = V (Proc.devRef .tc r) :=
  after_of_writes_sub condOps V condOps_writes ((by decide +kernel : ∀ r ∈ ARGS, r ∉ condOps_W) r hr)

theorem keep_while0Ops0 (r : Ref sig .tc) (hr : r ∈ ARGS) (V : Valuation τ sig (Elt Ideal)) : after while0Ops0 V (Proc.devRef .tc r) = V (Proc.devRef .tc r) :=
  after_of_writes_sub while0Ops0 V while0Ops0_writes ((by decide +kernel : ∀ r ∈ ARGS, r ∉ while0Ops0_W) r hr)

theorem keep_while0Ops0_1 (r : Ref sig .tc) (hr : r ∈ ARGS) (V : Valuation τ sig (Elt Ideal)) : after while0Ops0_1 V (Proc.devRef .tc r) = V (Proc.devRef .tc r) :=
  after_of_writes_sub while0Ops0_1 V while0Ops0_1_writes ((by decide +kernel : ∀ r ∈ ARGS, r ∉ while0Ops0_1_W) r hr)

theorem keep_while0Ops0_2 (r : Ref sig .tc) (hr : r ∈ ARGS) (V : Valuation τ sig (Elt Ideal)) : after while0Ops0_2 V (Proc.devRef .tc r) = V (Proc.devRef .tc r) :=
  after_of_writes_sub while0Ops0_2 V while0Ops0_2_writes ((by decide +kernel : ∀ r ∈ ARGS, r ∉ while0Ops0_2_W) r hr)

theorem keep_while0Ops0_3 (r : Ref sig .tc) (hr : r ∈ ARGS) (V : Valuation τ sig (Elt Ideal)) : after while0Ops0_3 V (Proc.devRef .tc r) = V (Proc.devRef .tc r) :=
  after_of_writes_sub while0Ops0_3 V while0Ops0_3_writes ((by decide +kernel : ∀ r ∈ ARGS, r ∉ while0Ops0_3_W) r hr)

theorem keep_while0Ops0_4 (r : Ref sig .tc) (hr : r ∈ ARGS) (V : Valuation τ sig (Elt Ideal)) : after while0Ops0_4 V (Proc.devRef .tc r) = V (Proc.devRef .tc r) :=
  after_of_writes_sub while0Ops0_4 V while0Ops0_4_writes ((by decide +kernel : ∀ r ∈ ARGS, r ∉ while0Ops0_4_W) r hr)

theorem keep_while0Ops0_5 (r : Ref sig .tc) (hr : r ∈ ARGS) (V : Valuation τ sig (Elt Ideal)) : after while0Ops0_5 V (Proc.devRef .tc r) = V (Proc.devRef .tc r) :=
  after_of_writes_sub while0Ops0_5 V while0Ops0_5_writes ((by decide +kernel : ∀ r ∈ ARGS, r ∉ while0Ops0_5_W) r hr)

theorem keep_while0Ops0_6 (r : Ref sig .tc) (hr : r ∈ ARGS) (V : Valuation τ sig (Elt Ideal)) : after while0Ops0_6 V (Proc.devRef .tc r) = V (Proc.devRef .tc r) :=
  after_of_writes_sub while0Ops0_6 V while0Ops0_6_writes ((by decide +kernel : ∀ r ∈ ARGS, r ∉ while0Ops0_6_W) r hr)

theorem keep_while0Ops0_7 (r : Ref sig .tc) (hr : r ∈ ARGS) (V : Valuation τ sig (Elt Ideal)) : after while0Ops0_7 V (Proc.devRef .tc r) = V (Proc.devRef .tc r) :=
  after_of_writes_sub while0Ops0_7 V while0Ops0_7_writes ((by decide +kernel : ∀ r ∈ ARGS, r ∉ while0Ops0_7_W) r hr)

theorem keep_while0Ops0_8 (r : Ref sig .tc) (hr : r ∈ ARGS) (V : Valuation τ sig (Elt Ideal)) : after while0Ops0_8 V (Proc.devRef .tc r) = V (Proc.devRef .tc r) :=
  after_of_writes_sub while0Ops0_8 V while0Ops0_8_writes ((by decide +kernel : ∀ r ∈ ARGS, r ∉ while0Ops0_8_W) r hr)

theorem keep_hostOps0_3 (r : Ref sig .tc) (hr : r ∈ ARGS) (V : Valuation τ sig (Elt Ideal)) : after hostOps0_3 V (Proc.devRef .tc r) = V (Proc.devRef .tc r) :=
  after_of_writes_sub hostOps0_3 V hostOps0_3_writes ((by decide +kernel : ∀ r ∈ ARGS, r ∉ hostOps0_3_W) r hr)

theorem keep_hostOps0_4 (r : Ref sig .tc) (hr : r ∈ ARGS) (V : Valuation τ sig (Elt Ideal)) : after hostOps0_4 V (Proc.devRef .tc r) = V (Proc.devRef .tc r) :=
  after_of_writes_sub hostOps0_4 V hostOps0_4_writes ((by decide +kernel : ∀ r ∈ ARGS, r ∉ hostOps0_4_W) r hr)

theorem keep_hostOps0_5 (r : Ref sig .tc) (hr : r ∈ ARGS) (V : Valuation τ sig (Elt Ideal)) : after hostOps0_5 V (Proc.devRef .tc r) = V (Proc.devRef .tc r) :=
  after_of_writes_sub hostOps0_5 V hostOps0_5_writes ((by decide +kernel : ∀ r ∈ ARGS, r ∉ hostOps0_5_W) r hr)

theorem keep_hostOps0_6 (r : Ref sig .tc) (hr : r ∈ ARGS) (V : Valuation τ sig (Elt Ideal)) : after hostOps0_6 V (Proc.devRef .tc r) = V (Proc.devRef .tc r) :=
  after_of_writes_sub hostOps0_6 V hostOps0_6_writes ((by decide +kernel : ∀ r ∈ ARGS, r ∉ hostOps0_6_W) r hr)

theorem keep_hostOps0_7 (r : Ref sig .tc) (hr : r ∈ ARGS) (V : Valuation τ sig (Elt Ideal)) : after hostOps0_7 V (Proc.devRef .tc r) = V (Proc.devRef .tc r) :=
  after_of_writes_sub hostOps0_7 V hostOps0_7_writes ((by decide +kernel : ∀ r ∈ ARGS, r ∉ hostOps0_7_W) r hr)

/-- The operations before the loop keep the arguments. -/
theorem preI_keeps (r : Ref sig .tc) (hr : r ∈ ARGS) : ∀ L ∈ preI (F := Ideal), ∀ V, after L V (Proc.devRef .tc r) = V (Proc.devRef .tc r) :=
  List.forall_mem_cons.mpr ⟨keep_hostOps0 r hr, List.forall_mem_cons.mpr ⟨keep_hostOps0_1 r hr, List.forall_mem_cons.mpr ⟨keep_hostOps0_2 r hr, fun _ h => absurd h List.not_mem_nil⟩⟩⟩

/-- The operations of a trip keep the arguments. -/
theorem bodyI_keeps (r : Ref sig .tc) (hr : r ∈ ARGS) : ∀ L ∈ bodyI (F := Ideal), ∀ V, after L V (Proc.devRef .tc r) = V (Proc.devRef .tc r) :=
  List.forall_mem_cons.mpr ⟨keep_while0Ops0 r hr, List.forall_mem_cons.mpr ⟨keep_while0Ops0_1 r hr, List.forall_mem_cons.mpr ⟨keep_while0Ops0_2 r hr, List.forall_mem_cons.mpr ⟨keep_while0Ops0_3 r hr, List.forall_mem_cons.mpr ⟨keep_while0Ops0_4 r hr, List.forall_mem_cons.mpr ⟨keep_while0Ops0_5 r hr, List.forall_mem_cons.mpr ⟨keep_while0Ops0_6 r hr, List.forall_mem_cons.mpr ⟨keep_while0Ops0_7 r hr, List.forall_mem_cons.mpr ⟨keep_while0Ops0_8 r hr, fun _ h => absurd h List.not_mem_nil⟩⟩⟩⟩⟩⟩⟩⟩⟩

/-- The operations after the loop keep the arguments. -/
theorem postI_keeps (r : Ref sig .tc) (hr : r ∈ ARGS) : ∀ L ∈ postI (F := Ideal), ∀ V, after L V (Proc.devRef .tc r) = V (Proc.devRef .tc r) :=
  List.forall_mem_cons.mpr ⟨keep_hostOps0_3 r hr, List.forall_mem_cons.mpr ⟨keep_hostOps0_4 r hr, List.forall_mem_cons.mpr ⟨keep_hostOps0_5 r hr, List.forall_mem_cons.mpr ⟨keep_hostOps0_6 r hr, List.forall_mem_cons.mpr ⟨keep_hostOps0_7 r hr, fun _ h => absurd h List.not_mem_nil⟩⟩⟩⟩⟩

/-- The trips keep the arguments. -/
theorem trips_keep (m : (ℓ : Loc nD τ sig) → Buf (Elt Ideal) ℓ) (c : Dev nD) (r : Ref sig .tc) (hr : r ∈ ARGS) :
    ∀ k, atTrip condOps bodyI (entryContents preI m) k c (Proc.devRef .tc r) = launchContents m c (Proc.devRef .tc r)
  | 0 => keepL preI (preI_keeps r hr) _
  | k + 1 => (keepL bodyI (bodyI_keeps r hr) _).trans ((keep_condOps r hr _).trans (trips_keep m c r hr k))

/-- The whole run keeps the arguments. -/
theorem final_keeps (m : (ℓ : Loc nD τ sig) → Buf (Elt Ideal) ℓ) (c : Dev nD) (r : Ref sig .tc) (hr : r ∈ ARGS) :
    finalContents condOps preI bodyI postI 4096 m c (Proc.devRef .tc r) = m ((c.tc : Thread nD τ).loc r) :=
  (keepL postI (postI_keeps r hr) _).trans ((keep_condOps r hr _).trans (trips_keep m c r hr 4096))

end Cert.Reference14Ideal.Plain

namespace Cert.Plain

open Idealize.ShloMosaic Idealize.SL.Sem

/-- The second recurrence layer's reference runs, its arguments unchanged. -/
theorem quiescent_Reference14 : Cert.quiescent_Reference14Ideal (hReference14Ideal := Cert.Reference14Ideal.Gen.facts) := by
  intro m g _
  exact (θ_run _ _ _).mono (fun r h => ⟨fun c => ⟨(h c Cert.Reference14Ideal.main_arg0 rfl).trans (Cert.Reference14Ideal.Plain.final_keeps m c _ (by decide +kernel)), (h c Cert.Reference14Ideal.main_arg1 rfl).trans (Cert.Reference14Ideal.Plain.final_keeps m c _ (by decide +kernel)), (h c Cert.Reference14Ideal.main_arg2 rfl).trans (Cert.Reference14Ideal.Plain.final_keeps m c _ (by decide +kernel)), (h c Cert.Reference14Ideal.main_arg3 rfl).trans (Cert.Reference14Ideal.Plain.final_keeps m c _ (by decide +kernel)), (h c Cert.Reference14Ideal.main_arg4 rfl).trans (Cert.Reference14Ideal.Plain.final_keeps m c _ (by decide +kernel)), (h c Cert.Reference14Ideal.main_arg5 rfl).trans (Cert.Reference14Ideal.Plain.final_keeps m c _ (by decide +kernel)), (h c Cert.Reference14Ideal.main_arg6 rfl).trans (Cert.Reference14Ideal.Plain.final_keeps m c _ (by decide +kernel)), (h c Cert.Reference14Ideal.main_arg7 rfl).trans (Cert.Reference14Ideal.Plain.final_keeps m c _ (by decide +kernel)), (h c Cert.Reference14Ideal.main_arg8 rfl).trans (Cert.Reference14Ideal.Plain.final_keeps m c _ (by decide +kernel)), (h c Cert.Reference14Ideal.main_arg9 rfl).trans (Cert.Reference14Ideal.Plain.final_keeps m c _ (by decide +kernel)), (h c Cert.Reference14Ideal.main_arg10 rfl).trans (Cert.Reference14Ideal.Plain.final_keeps m c _ (by decide +kernel)), (h c Cert.Reference14Ideal.main_arg11 rfl).trans (Cert.Reference14Ideal.Plain.final_keeps m c _ (by decide +kernel)), (h c Cert.Reference14Ideal.main_arg12 rfl).trans (Cert.Reference14Ideal.Plain.final_keeps m c _ (by decide +kernel)), (h c Cert.Reference14Ideal.main_arg13 rfl).trans (Cert.Reference14Ideal.Plain.final_keeps m c _ (by decide +kernel)), (h c Cert.Reference14Ideal.main_arg14 rfl).trans (Cert.Reference14Ideal.Plain.final_keeps m c _ (by decide +kernel)), (h c Cert.Reference14Ideal.main_arg15 rfl).trans (Cert.Reference14Ideal.Plain.final_keeps m c _ (by decide +kernel))⟩,
    sem_eq_zero_of_no_sems (by decide) _⟩) (Cert.Reference14Ideal.Value.run_fold m g)

end Cert.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Plain.C2
public import proofs.«01_k».proof.Proof.Plain.C3
public import proofs.«01_k».proof.Proof.Plain.C4
public import proofs.«01_k».proof.Proof.Plain.C5
public import proofs.«01_k».proof.Proof.Plain.C6
public import proofs.«01_k».proof.Proof.Plain.C7
public import proofs.«01_k».proof.Proof.Plain.C8
public import Idealize.ShloMosaic.Adequacy
public import Idealize.ShloMosaic.Init
public import Idealize.ShloMosaic.Lib.Quiescent
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Plain.C9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Plain.C10
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Plain.C11
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Plain.C12
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Plain.C13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Plain.F14

@[expose] public section

set_option maxRecDepth 16384

noncomputable section

namespace Cert.Proof

open Idealize.ShloMosaic Idealize.SL.Sem

/-- The recurrence's reference runs, its arguments unchanged. -/
theorem quiescent_Reference : Cert.quiescent_ReferenceIdeal (hReferenceIdeal := Cert.ReferenceIdeal.Gen.facts) := by
  intro m g _
  exact (θ_run _ _ _).mono (fun r h => ⟨fun c => (h c).2, sem_eq_zero_of_no_sems (by decide) _⟩) (Cert.ReferenceIdeal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts,
  fun m ρ _ => Cert.Kernel.Gen.frame m ρ,
  fun m ρ _ => Cert.KernelIdeal.Gen.frame m ρ,
  quiescent_Reference,
  fun m ρ _ => Cert.Kernel2.Gen.frame m ρ,
  fun m ρ _ => Cert.Kernel2Ideal.Gen.frame m ρ,
  Cert.Plain.quiescent_Reference2,
  fun m ρ _ => Cert.Kernel3.Gen.frame m ρ,
  fun m ρ _ => Cert.Kernel3Ideal.Gen.frame m ρ,
  Cert.Plain.quiescent_Reference3,
  fun m ρ _ => Cert.Kernel4.Gen.frame m ρ,
  fun m ρ _ => Cert.Kernel4Ideal.Gen.frame m ρ,
  Cert.Plain.quiescent_Reference4,
  fun m ρ _ => Cert.Kernel5.Gen.frame m ρ,
  fun m ρ _ => Cert.Kernel5Ideal.Gen.frame m ρ,
  Cert.Plain.quiescent_Reference5,
  fun m ρ _ => Cert.Kernel6.Gen.frame m ρ,
  fun m ρ _ => Cert.Kernel6Ideal.Gen.frame m ρ,
  Cert.Plain.quiescent_Reference6,
  fun m ρ _ => Cert.Kernel7.Gen.frame m ρ,
  fun m ρ _ => Cert.Kernel7Ideal.Gen.frame m ρ,
  Cert.Plain.quiescent_Reference7,
  fun m ρ _ => Cert.Kernel8.Gen.frame m ρ,
  fun m ρ _ => Cert.Kernel8Ideal.Gen.frame m ρ,
  Cert.Plain.quiescent_Reference8,
  fun m ρ _ => Cert.Kernel9.Gen.frame m ρ,
  fun m ρ _ => Cert.Kernel9Ideal.Gen.frame m ρ,
  Cert.Plain.quiescent_Reference9,
  fun m ρ _ => Cert.Kernel10.Gen.frame m ρ,
  fun m ρ _ => Cert.Kernel10Ideal.Gen.frame m ρ,
  Cert.Plain.quiescent_Reference10,
  fun m ρ _ => Cert.Kernel11.Gen.frame m ρ,
  fun m ρ _ => Cert.Kernel11Ideal.Gen.frame m ρ,
  Cert.Plain.quiescent_Reference11,
  fun m ρ _ => Cert.Kernel12.Gen.frame m ρ,
  fun m ρ _ => Cert.Kernel12Ideal.Gen.frame m ρ,
  Cert.Plain.quiescent_Reference12,
  fun m ρ _ => Cert.Kernel13.Gen.frame m ρ,
  fun m ρ _ => Cert.Kernel13Ideal.Gen.frame m ρ,
  Cert.Plain.quiescent_Reference13,
  fun m ρ _ => Cert.Kernel14.Gen.frame m ρ,
  fun m ρ _ => Cert.Kernel14Ideal.Gen.frame m ρ,
  Cert.Plain.quiescent_Reference14,
  trivial,
  trivial,
  Cert.Plain.algebraic2,
  trivial,
  Cert.Plain.algebraic3,
  trivial,
  Cert.Plain.algebraic4,
  trivial,
  Cert.Plain.algebraic5,
  trivial,
  Cert.Plain.algebraic6,
  trivial,
  Cert.Plain.algebraic7,
  trivial,
  Cert.Plain.algebraic8,
  trivial,
  Cert.Plain.algebraic9,
  trivial,
  Cert.Plain.algebraic10,
  trivial,
  Cert.Plain.algebraic11,
  trivial,
  Cert.Plain.algebraic12,
  trivial,
  Cert.Plain.algebraic13,
  trivial⟩

end Cert.Proof

end
